-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_infinite_step [hPre_no_infinite_step : Cert.Pre_no_infinite_step.Facts] (m : (ℓ : Loc Cert.KernelIdeal.nD Cert.KernelIdeal.τ Cert.KernelIdeal.sig) → Buf (Elt Ideal) ℓ) : Prop :=
  ∀ c : Dev Cert.KernelIdeal.nD,
    (Cert.Pre_no_infinite_step.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_infinite_step [hPre_no_infinite_step : Cert.Pre_no_infinite_step.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_infinite_step.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_no_infinite_step [hKernelIdeal : Cert.KernelIdeal.Facts] [hPre_no_infinite_step : Cert.Pre_no_infinite_step.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_infinite_step m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_no_infinite_step [hReferenceIdeal : Cert.ReferenceIdeal.Facts] [hPre_no_infinite_step : Cert.Pre_no_infinite_step.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_infinite_step m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal_pre_no_infinite_step [hKernelIdeal : Cert.KernelIdeal.Facts] [hReferenceIdeal : Cert.ReferenceIdeal.Facts] [hPre_no_infinite_step : Cert.Pre_no_infinite_step.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_infinite_step m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v26)) (v1 : (c : Dev Cert.Kernel2Ideal.nD) → Buf (Elt Ideal) ((c.tc : Thread Cert.Kernel2Ideal.nD Cert.Kernel2Ideal.τ).loc Cert.Kernel2Ideal.main_v27)) (v2 : (c : Dev Cert.Kernel2Ideal.nD) → Buf (Elt Ideal) ((c.tc : Thread Cert.Kernel2Ideal.nD Cert.Kernel2Ideal.τ).loc Cert.Kernel2Ideal.main_v28)) (v3 : (c : Dev Cert.Kernel2Ideal.nD) → Buf (Elt Ideal) ((c.tc : Thread Cert.Kernel2Ideal.nD Cert.Kernel2Ideal.τ).loc Cert.Kernel2Ideal.main_v29)) (v4 : (c : Dev Cert.Kernel2Ideal.nD) → Buf (Elt Ideal) ((c.tc : Thread Cert.Kernel2Ideal.nD Cert.Kernel2Ideal.τ).loc Cert.Kernel2Ideal.main_v30)) (v5 : (c : Dev Cert.Kernel2Ideal.nD) → Buf (Elt Ideal) ((c.tc : Thread Cert.Kernel2Ideal.nD Cert.Kernel2Ideal.τ).loc Cert.Kernel2Ideal.main_v31)) (v6 : (c : Dev Cert.Kernel2Ideal.nD) → Buf (Elt Ideal) ((c.tc : Thread Cert.Kernel2Ideal.nD Cert.Kernel2Ideal.τ).loc Cert.Kernel2Ideal.main_v35)) (v7 : (c : Dev Cert.Kernel2Ideal.nD) → Buf (Elt Ideal) ((c.tc : Thread Cert.Kernel2Ideal.nD Cert.Kernel2Ideal.τ).loc Cert.Kernel2Ideal.main_v33)) (v8 : (c : Dev Cert.Kernel2Ideal.nD) → Buf (Elt Ideal) ((c.tc : Thread Cert.Kernel2Ideal.nD Cert.Kernel2Ideal.τ).loc Cert.Kernel2Ideal.main_v34)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26) = v0 c
          ∧ r.2.mem ((c.tc : Thread Cert.Kernel2Ideal.nD Cert.Kernel2Ideal.τ).loc Cert.Kernel2Ideal.main_v27) = v1 c
          ∧ r.2.mem ((c.tc : Thread Cert.Kernel2Ideal.nD Cert.Kernel2Ideal.τ).loc Cert.Kernel2Ideal.main_v28) = v2 c
          ∧ r.2.mem ((c.tc : Thread Cert.Kernel2Ideal.nD Cert.Kernel2Ideal.τ).loc Cert.Kernel2Ideal.main_v29) = v3 c
          ∧ r.2.mem ((c.tc : Thread Cert.Kernel2Ideal.nD Cert.Kernel2Ideal.τ).loc Cert.Kernel2Ideal.main_v30) = v4 c
          ∧ r.2.mem ((c.tc : Thread Cert.Kernel2Ideal.nD Cert.Kernel2Ideal.τ).loc Cert.Kernel2Ideal.main_v31) = v5 c
          ∧ r.2.mem ((c.tc : Thread Cert.Kernel2Ideal.nD Cert.Kernel2Ideal.τ).loc Cert.Kernel2Ideal.main_v35) = v6 c
          ∧ r.2.mem ((c.tc : Thread Cert.Kernel2Ideal.nD Cert.Kernel2Ideal.τ).loc Cert.Kernel2Ideal.main_v33) = v7 c
          ∧ r.2.mem ((c.tc : Thread Cert.Kernel2Ideal.nD Cert.Kernel2Ideal.τ).loc Cert.Kernel2Ideal.main_v34) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_v4) = v2 c
          ∧ r.2.mem ((c.tc : Thread Cert.Reference2Ideal.nD Cert.Reference2Ideal.τ).loc Cert.Reference2Ideal.main_v18) = v3 c
          ∧ r.2.mem ((c.tc : Thread Cert.Reference2Ideal.nD Cert.Reference2Ideal.τ).loc Cert.Reference2Ideal.main_v19) = v4 c
          ∧ r.2.mem ((c.tc : Thread Cert.Reference2Ideal.nD Cert.Reference2Ideal.τ).loc Cert.Reference2Ideal.main_v20) = v5 c
          ∧ r.2.mem ((c.tc : Thread Cert.Reference2Ideal.nD Cert.Reference2Ideal.τ).loc Cert.Reference2Ideal.main_v15) = v6 c
          ∧ r.2.mem ((c.tc : Thread Cert.Reference2Ideal.nD Cert.Reference2Ideal.τ).loc Cert.Reference2Ideal.main_v21) = v7 c
          ∧ r.2.mem ((c.tc : Thread Cert.Reference2Ideal.nD Cert.Reference2Ideal.τ).loc Cert.Reference2Ideal.main_v22) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v4) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_v32) = v2 c
          ∧ r.2.mem ((c.tc : Thread Cert.Reference4Ideal.nD Cert.Reference4Ideal.τ).loc Cert.Reference4Ideal.main_v33) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_no_infinite_step : Cert.Pre_no_infinite_step.Facts),
    quiescent_Kernel (hKernel := hKernel)
    ∧ quiescent_KernelIdeal (hKernelIdeal := hKernelIdeal)
    ∧ quiescent_KernelIdeal_pre_no_infinite_step (hKernelIdeal := hKernelIdeal) (hPre_no_infinite_step := hPre_no_infinite_step)
    ∧ quiescent_ReferenceIdeal (hReferenceIdeal := hReferenceIdeal)
    ∧ quiescent_ReferenceIdeal_pre_no_infinite_step (hReferenceIdeal := hReferenceIdeal) (hPre_no_infinite_step := hPre_no_infinite_step)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_no_infinite_step (hKernelIdeal := hKernelIdeal) (hReferenceIdeal := hReferenceIdeal) (hPre_no_infinite_step := hPre_no_infinite_step)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_no_infinite_step.lean ====
abbrev S16384x8192 : Shape := ⟨2, ![16384, 8192]⟩
abbrev S16384x10240 : Shape := ⟨2, ![16384, 10240]⟩
abbrev S16384x128 : Shape := ⟨2, ![16384, 128]⟩
abbrev S4x10240 : Shape := ⟨2, ![4, 10240]⟩
abbrev S10240 : Shape := ⟨1, ![10240]⟩
abbrev S128 : Shape := ⟨1, ![128]⟩
abbrev S8192 : Shape := ⟨1, ![8192]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S16384x8192 .bf16) (main_arg1 : FVec F S16384x10240 .bf16) (main_arg2 : FVec F S16384x128 .f32) (main_arg3 : FVec F S4x10240 .f32) (main_arg4 : FVec F S10240 .f32) (main_arg5 : FVec F S128 .f32) (main_arg6 : FVec F S128 .f32) (main_arg7 : FVec F S128 .f32) (main_arg8 : FVec F S8192 .f32) : IVec S_ 1 :=
  let main_cst : FVec F S_ .f32 := constant S_ .f32 0x7F800000#32
  let main_v0 : FVec F S16384x128 .f32 := broadcastInDim S16384x128 ![] bcast_S_S16384x128 main_cst
  let main_v1 : IVec S16384x128 1 := cmpf .olt main_arg2 main_v0
  let main_c : IVec S_ 1 := constantI S_ 1 1#1
  let main_v2 : IVec S_ 1 := (fun x v => Host.reduce IntOp.andi x v reducesTo_S16384x128_S_d0_1 h_S_) main_v1 main_c
  let main_cst_0 : FVec F S_ .f32 := constant S_ .f32 0x7F800000#32
  let main_v3 : FVec F S128 .f32 := broadcastInDim S128 ![] bcast_S_S128 main_cst_0
  let main_v4 : IVec S128 1 := cmpf .olt main_arg5 main_v3
  let main_c_1 : IVec S_ 1 := constantI S_ 1 1#1
  let main_v5 : IVec S_ 1 := (fun x v => Host.reduce IntOp.andi x v reducesTo_S128_S_d0 h_S_) main_v4 main_c_1
  let main_v6 : IVec S_ 1 := andi main_v2 main_v5
  main_v6
-- ==== Kernel.lean ====
abbrev S16384x8192 : Shape := ⟨2, ![16384, 8192]⟩
abbrev S16384x10240 : Shape := ⟨2, ![16384, 10240]⟩
abbrev S16384x128 : Shape := ⟨2, ![16384, 128]⟩
abbrev S4x10240 : Shape := ⟨2, ![4, 10240]⟩
abbrev S10240 : Shape := ⟨1, ![10240]⟩
abbrev S128 : Shape := ⟨1, ![128]⟩
abbrev S8192 : Shape := ⟨1, ![8192]⟩
abbrev S128x64 : Shape := ⟨2, ![128, 64]⟩
abbrev S1x8192 : Shape := ⟨2, ![1, 8192]⟩
abbrev S1024 : Shape := ⟨1, ![1024]⟩
abbrev S_ : Shape := ⟨0, ![]⟩
abbrev S128x1 : Shape := ⟨2, ![128, 1]⟩
abbrev S1x1024 : Shape := ⟨2, ![1, 1024]⟩
abbrev S128x1024 : Shape := ⟨2, ![128, 1024]⟩
abbrev S256x1024 : Shape := ⟨2, ![256, 1024]⟩
abbrev S1x10240 : Shape := ⟨2, ![1, 10240]⟩
abbrev S8x1x16 : Shape := ⟨3, ![8, 1, 16]⟩
abbrev S8x1x128 : Shape := ⟨3, ![8, 1, 128]⟩
abbrev S128x128 : Shape := ⟨2, ![128, 128]⟩
abbrev S4x1024 : Shape := ⟨2, ![4, 1024]⟩
abbrev S4x128 : Shape := ⟨2, ![4, 128]⟩
abbrev S1x128 : Shape := ⟨2, ![1, 128]⟩
abbrev S1x1x128 : Shape := ⟨3, ![1, 1, 128]⟩
abbrev S128x256 : Shape := ⟨2, ![128, 256]⟩
abbrev S256x128 : Shape := ⟨2, ![256, 128]⟩

abbrev nBuf : Space → Nat
  | .hbm => 52
  | .vmem => 40
  | .smem => 0
  | _ => 0

abbrev bufTy : (tb : Table) → Fin (tcTables nBuf tb) → BufTy
  | .hbm, ⟨0, _⟩ => ⟨S16384x8192, .bf16⟩
  | .hbm, ⟨1, _⟩ => ⟨S16384x10240, .bf16⟩
  | .hbm, ⟨2, _⟩ => ⟨S16384x128, .f32⟩
  | .hbm, ⟨3, _⟩ => ⟨S4x10240, .f32⟩
  | .hbm, ⟨4, _⟩ => ⟨S10240, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S8192, .f32⟩
  | .hbm, ⟨9, _⟩ => ⟨S128x64, .f32⟩
  | .hbm, ⟨10, _⟩ => ⟨S8192, .f32⟩
  | .hbm, ⟨11, _⟩ => ⟨S1x8192, .f32⟩
  | .hbm, ⟨12, _⟩ => ⟨S1024, .i32⟩
  | .hbm, ⟨13, _⟩ => ⟨S_, .i32⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S128, .i32⟩
  | .hbm, ⟨32, _⟩ => ⟨S128x1, .i32⟩
  | .hbm, ⟨33, _⟩ => ⟨S1x1024, .i32⟩
  | .hbm, ⟨34, _⟩ => ⟨S128x1024, .i32⟩
  | .hbm, ⟨35, _⟩ => ⟨S128x1024, .i32⟩
  | .hbm, ⟨36, _⟩ => ⟨S128x1024, .i1⟩
  | .hbm, ⟨37, _⟩ => ⟨S128x1024, .bf16⟩
  | .hbm, ⟨38, _⟩ => ⟨S256x1024, .bf16⟩
  | .hbm, ⟨39, _⟩ => ⟨S1x10240, .f32⟩
  | .hbm, ⟨40, _⟩ => ⟨S1x10240, .f32⟩
  | .hbm, ⟨41, _⟩ => ⟨S1x10240, .f32⟩
  | .hbm, ⟨42, _⟩ => ⟨S8x1x16, .f32⟩
  | .hbm, ⟨43, _⟩ => ⟨S_, .i32⟩
  | .hbm, ⟨44, _⟩ => ⟨S_, .f32⟩
  | .hbm, ⟨45, _⟩ => ⟨S8x1x128, .f32⟩
  | .hbm, ⟨46, _⟩ => ⟨S8x1x16, .f32⟩
  | .hbm, ⟨47, _⟩ => ⟨S_, .i32⟩
  | .hbm, ⟨48, _⟩ => ⟨S_, .f32⟩
  | .hbm, ⟨49, _⟩ => ⟨S8x1x128, .f32⟩
  | .hbm, ⟨50, _⟩ => ⟨S1x8192, .f32⟩
  | .hbm, ⟨51, _⟩ => ⟨S16384x8192, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x1024, .bf16⟩
  | .local _ .vmem, ⟨13, _⟩ => ⟨S128x1024, .bf16⟩
  | .local _ .vmem, ⟨14, _⟩ => ⟨S128x128, .f32⟩
  | .local _ .vmem, ⟨15, _⟩ => ⟨S128x128, .f32⟩
  | .local _ .vmem, ⟨16, _⟩ => ⟨S4x1024, .f32⟩
  | .local _ .vmem, ⟨17, _⟩ => ⟨S4x1024, .f32⟩
  | .local _ .vmem, ⟨18, _⟩ => ⟨S4x128, .f32⟩
  | .local _ .vmem, ⟨19, _⟩ => ⟨S4x128, .f32⟩
  | .local _ .vmem, ⟨20, _⟩ => ⟨S4x128, .f32⟩
  | .local _ .vmem, ⟨21, _⟩ => ⟨S4x128, .f32⟩
  | .local _ .vmem, ⟨22, _⟩ => ⟨S1x1024, .f32⟩
  | .local _ .vmem, ⟨23, _⟩ => ⟨S1x1024, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x1x128, .f32⟩
  | .local _ .vmem, ⟨29, _⟩ => ⟨S1x1x128, .f32⟩
  | .local _ .vmem, ⟨30, _⟩ => ⟨S1x1x128, .f32⟩
  | .local _ .vmem, ⟨31, _⟩ => ⟨S1x1x128, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S256x1024, .bf16⟩
  | .local _ .vmem, ⟨37, _⟩ => ⟨S128x1024, .bf16⟩
  | .local _ .vmem, ⟨38, _⟩ => ⟨S128x1024, .bf16⟩
  | .local _ .vmem, ⟨39, _⟩ => ⟨S128x1024, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_0 : Ref sig .tc := ⟨.hbm, 43, rfl⟩
abbrev main_call1_v0 : Ref sig .tc := ⟨.hbm, 44, rfl⟩
abbrev main_v17 : Ref sig .tc := ⟨.hbm, 45, rfl⟩
abbrev main_v18 : Ref sig .tc := ⟨.hbm, 46, rfl⟩
abbrev main_c_1 : Ref sig .tc := ⟨.hbm, 47, rfl⟩
abbrev main_call2_v0 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg19_0 : Ref sig .tc := ⟨.vmem, 37, rfl⟩
abbrev cc0_stg19_1 : Ref sig .tc := ⟨.vmem, 38, rfl⟩
abbrev cc0_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem19_0 : DmaSem sig := 37
abbrev cc0_sem19_1 : DmaSem sig := 38

abbrev nD : Nat := 1
abbrev τ : Topo := Topo.v7x

variable {F : FTy → Type} [FloatOps F]

abbrev grid0 : Pipeline.Grid := ⟨3, ![2, 8, 64], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c0_i32_0 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c64_i32_0 : BitVec 32 := 64#32
  let v2 : BitVec 32 := Scalar.addi c64_i32_0 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c64_i32_0 : BitVec 32 := 64#32
  let v4 : BitVec 32 := Scalar.addi c64_i32_0 arg1
  let c0_i32_1 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c72_i32 : BitVec 32 := 72#32
  let v2 : BitVec 32 := Scalar.addi c72_i32 arg1
  let c0_i32 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c72_i32 : BitVec 32 := 72#32
  let v4 : BitVec 32 := Scalar.addi c72_i32 arg1
  let c0_i32_0 : BitVec 32 := 0#32
  ![v3.toNat, v4.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c16_i32 : BitVec 32 := 16#32
  let v2 : BitVec 32 := Scalar.muli arg1 c16_i32
  let c128_i32 : BitVec 32 := 128#32
  let v3 : BitVec 32 := Scalar.divsi v2 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c128_i32 c0_i32_1
  let v10 : BitVec 32 := Scalar.extui v9
  let c0_i32_2 : BitVec 32 := 0#32
  let v11 : BitVec 1 := Scalar.cmpi .slt c128_i32 c0_i32_2
  let v12 : BitVec 32 := Scalar.extui v11
  let v13 : BitVec 32 := Scalar.subi v10 v12
  let v14 : BitVec 1 := Scalar.cmpi .ne v8 v13
  let v15 : BitVec 32 := Scalar.remsi v2 c128_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c0_i32_4 : BitVec 32 := 0#32
  ![v1.toNat, v19.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c72_i32 : BitVec 32 := 72#32
  let v0 : BitVec 32 := Scalar.addi c72_i32 arg1
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c72_i32 : BitVec 32 := 72#32
  let v0 : BitVec 32 := Scalar.addi c72_i32 arg1
  let c0_i32 : BitVec 32 := 0#32
  let c0_i32_0 : BitVec 32 := 0#32
  ![c0_i32.toNat, v0.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S4x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S4x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true, false]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true, false]

abbrev stage0_14 : Fin 2 → Memref sig .tc .vmem S1x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true, false]

abbrev stage0_15 : Fin 2 → Memref sig .tc .vmem S1x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true, false]

abbrev stage0_16 : Fin 2 → Memref sig .tc .vmem S1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true, false]

abbrev stage0_17 : Fin 2 → Memref sig .tc .vmem S1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true, false]

abbrev stage0_18 : Fin 1 → Memref sig .tc .vmem S256x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false, false]

abbrev stage0_19 : Fin 2 → Memref sig .tc .vmem S128x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, true]
-- ==== ReferenceIdeal.lean ====
abbrev S16384x8192 : Shape := ⟨2, ![16384, 8192]⟩
abbrev S16384x10240 : Shape := ⟨2, ![16384, 10240]⟩
abbrev S16384x128 : Shape := ⟨2, ![16384, 128]⟩
abbrev S4x10240 : Shape := ⟨2, ![4, 10240]⟩
abbrev S10240 : Shape := ⟨1, ![10240]⟩
abbrev S128 : Shape := ⟨1, ![128]⟩
abbrev S8192 : Shape := ⟨1, ![8192]⟩
abbrev S2x8192x10240 : Shape := ⟨3, ![2, 8192, 10240]⟩
abbrev S2x8192x128 : Shape := ⟨3, ![2, 8192, 128]⟩
abbrev S_ : Shape := ⟨0, ![]⟩
abbrev S2x8195x10240 : Shape := ⟨3, ![2, 8195, 10240]⟩
abbrev S1x10240 : Shape := ⟨2, ![1, 10240]⟩
abbrev S1x1x10240 : Shape := ⟨3, ![1, 1, 10240]⟩
abbrev S2x8192x8192 : Shape := ⟨3, ![2, 8192, 8192]⟩
abbrev S2x8192x1024 : Shape := ⟨3, ![2, 8192, 1024]⟩
abbrev S2x8192x128x64 : Shape := ⟨4, ![2, 8192, 128, 64]⟩
abbrev S2x8192x8x128 : Shape := ⟨4, ![2, 8192, 8, 128]⟩
abbrev S1x1x128 : Shape := ⟨3, ![1, 1, 128]⟩
abbrev S128x1 : Shape := ⟨2, ![128, 1]⟩
abbrev S1x1x128x1 : Shape := ⟨4, ![1, 1, 128, 1]⟩
abbrev S2x8192x128x1 : Shape := ⟨4, ![2, 8192, 128, 1]⟩
abbrev S2x64x128x8x16x64 : Shape := ⟨6, ![2, 64, 128, 8, 16, 64]⟩
abbrev S64x2x128x8x16x64 : Shape := ⟨6, ![64, 2, 128, 8, 16, 64]⟩
abbrev S2x64x128x8x16 : Shape := ⟨5, ![2, 64, 128, 8, 16]⟩
abbrev S64x2x128x8x16 : Shape := ⟨5, ![64, 2, 128, 8, 16]⟩
abbrev S2x64x128x8x128 : Shape := ⟨5, ![2, 64, 128, 8, 128]⟩
abbrev S64x2x128x8x128 : Shape := ⟨5, ![64, 2, 128, 8, 128]⟩
abbrev S128x128 : Shape := ⟨2, ![128, 128]⟩
abbrev S1x128x128x1x1 : Shape := ⟨5, ![1, 128, 128, 1, 1]⟩
abbrev S2x8x16x64x128 : Shape := ⟨5, ![2, 8, 16, 64, 128]⟩
abbrev S1x2x128x8x16x64 : Shape := ⟨6, ![1, 2, 128, 8, 16, 64]⟩
abbrev S2x128x8x16x64 : Shape := ⟨5, ![2, 128, 8, 16, 64]⟩
abbrev S1x2x128x8x16 : Shape := ⟨5, ![1, 2, 128, 8, 16]⟩
abbrev S2x128x8x16 : Shape := ⟨4, ![2, 128, 8, 16]⟩
abbrev S1x2x128x8x128 : Shape := ⟨5, ![1, 2, 128, 8, 128]⟩
abbrev S2x128x8x128 : Shape := ⟨4, ![2, 128, 8, 128]⟩
abbrev S2x128x1x8x16 : Shape := ⟨5, ![2, 128, 1, 8, 16]⟩
abbrev S2x1x128x8x16 : Shape := ⟨5, ![2, 1, 128, 8, 16]⟩
abbrev S2x128x128x8x16 : Shape := ⟨5, ![2, 128, 128, 8, 16]⟩
abbrev S2x8x128x128 : Shape := ⟨4, ![2, 8, 128, 128]⟩
abbrev S2x128x128x8 : Shape := ⟨4, ![2, 128, 128, 8]⟩
abbrev S2x128x128x8x1 : Shape := ⟨5, ![2, 128, 128, 8, 1]⟩
abbrev S2x128x8x16x1 : Shape := ⟨5, ![2, 128, 8, 16, 1]⟩
abbrev S2x1x8x16 : Shape := ⟨4, ![2, 1, 8, 16]⟩
abbrev S2x8x16 : Shape := ⟨3, ![2, 8, 16]⟩
abbrev S2x8x16x1x1 : Shape := ⟨5, ![2, 8, 16, 1, 1]⟩
abbrev S2x8192x8x1024 : Shape := ⟨4, ![2, 8192, 8, 1024]⟩
abbrev S2x8192x8 : Shape := ⟨3, ![2, 8192, 8]⟩
abbrev S2x8192x8x1 : Shape := ⟨4, ![2, 8192, 8, 1]⟩
abbrev S1x1x8192 : Shape := ⟨3, ![1, 1, 8192]⟩

abbrev nBuf : Space → Nat
  | .hbm => 250
  | .vmem => 0
  | .smem => 0
  | _ => 0

abbrev hbmTy0_0 (i : Nat) : BufTy := match i % 128 with
  | 0 => ⟨S16384x8192, .bf16⟩
  | 1 => ⟨S16384x10240, .bf16⟩
  | 2 => ⟨S16384x128, .f32⟩
  | 3 => ⟨S4x10240, .f32⟩
  | 4 => ⟨S10240, .f32⟩
  | 5 => ⟨S128, .f32⟩
  | 6 => ⟨S128, .f32⟩
  | 7 => ⟨S128, .f32⟩
  | 8 => ⟨S8192, .f32⟩
  | 9 => ⟨S16384x10240, .f32⟩
  | 10 => ⟨S2x8192x10240, .f32⟩
  | 11 => ⟨S2x8192x128, .f32⟩
  | 12 => ⟨S_, .i32⟩
  | 13 => ⟨S_, .f32⟩
  | 14 => ⟨S2x8195x10240, .f32⟩
  | 15 => ⟨S2x8192x10240, .f32⟩
  | 16 => ⟨S1x10240, .f32⟩
  | 17 => ⟨S10240, .f32⟩
  | 18 => ⟨S1x1x10240, .f32⟩
  | 19 => ⟨S2x8192x10240, .f32⟩
  | 20 => ⟨S2x8192x10240, .f32⟩
  | 21 => ⟨S_, .f32⟩
  | 22 => ⟨S2x8192x10240, .f32⟩
  | 23 => ⟨S2x8192x10240, .f32⟩
  | 24 => ⟨S2x8192x10240, .f32⟩
  | 25 => ⟨S1x10240, .f32⟩
  | 26 => ⟨S10240, .f32⟩
  | 27 => ⟨S1x1x10240, .f32⟩
  | 28 => ⟨S2x8192x10240, .f32⟩
  | 29 => ⟨S2x8192x10240, .f32⟩
  | 30 => ⟨S2x8192x10240, .f32⟩
  | 31 => ⟨S2x8192x10240, .f32⟩
  | 32 => ⟨S1x10240, .f32⟩
  | 33 => ⟨S10240, .f32⟩
  | 34 => ⟨S1x1x10240, .f32⟩
  | 35 => ⟨S2x8192x10240, .f32⟩
  | 36 => ⟨S2x8192x10240, .f32⟩
  | 37 => ⟨S2x8192x10240, .f32⟩
  | 38 => ⟨S2x8192x10240, .f32⟩
  | 39 => ⟨S1x10240, .f32⟩
  | 40 => ⟨S10240, .f32⟩
  | 41 => ⟨S1x1x10240, .f32⟩
  | 42 => ⟨S2x8192x10240, .f32⟩
  | 43 => ⟨S2x8192x10240, .f32⟩
  | 44 => ⟨S2x8192x10240, .f32⟩
  | 45 => ⟨S1x1x10240, .f32⟩
  | 46 => ⟨S2x8192x10240, .f32⟩
  | 47 => ⟨S2x8192x10240, .f32⟩
  | 48 => ⟨S2x8192x10240, .f32⟩
  | 49 => ⟨S2x8192x10240, .f32⟩
  | 50 => ⟨S_, .f32⟩
  | 51 => ⟨S2x8192x10240, .f32⟩
  | 52 => ⟨S2x8192x10240, .f32⟩
  | 53 => ⟨S_, .f32⟩
  | 54 => ⟨S2x8192x10240, .f32⟩
  | 55 => ⟨S2x8192x10240, .f32⟩
  | 56 => ⟨S2x8192x10240, .f32⟩
  | 57 => ⟨S2x8192x8192, .f32⟩
  | 58 => ⟨S2x8192x1024, .f32⟩
  | 59 => ⟨S2x8192x1024, .f32⟩
  | 60 => ⟨S2x8192x128x64, .f32⟩
  | 61 => ⟨S2x8192x8x128, .f32⟩
  | 62 => ⟨S2x8192x8x128, .f32⟩
  | 63 => ⟨S1x1x128, .f32⟩
  | 64 => ⟨S2x8192x128, .f32⟩
  | 65 => ⟨S2x8192x128, .f32⟩
  | 66 => ⟨S_, .f32⟩
  | 67 => ⟨S2x8192x128, .f32⟩
  | 68 => ⟨S2x8192x128, .f32⟩
  | 69 => ⟨S2x8192x128, .f32⟩
  | 70 => ⟨S2x8192x128, .f32⟩
  | 71 => ⟨S2x8192x128, .i1⟩
  | 72 => ⟨S2x8192x128, .f32⟩
  | 73 => ⟨S2x8192x128, .f32⟩
  | 74 => ⟨S2x8192x128, .f32⟩
  | 75 => ⟨S2x8192x128, .f32⟩
  | 76 => ⟨S2x8192x128, .f32⟩
  | 77 => ⟨S2x8192x128, .f32⟩
  | 78 => ⟨S2x8192x128, .f32⟩
  | 79 => ⟨S2x8192x128, .f32⟩
  | 80 => ⟨S128, .f32⟩
  | 81 => ⟨S128, .f32⟩
  | 82 => ⟨S128x1, .f32⟩
  | 83 => ⟨S1x1x128x1, .f32⟩
  | 84 => ⟨S2x8192x128x64, .f32⟩
  | 85 => ⟨S2x8192x128x64, .f32⟩
  | 86 => ⟨S2x8192x128x1, .f32⟩
  | 87 => ⟨S2x8192x128x64, .f32⟩
  | 88 => ⟨S2x8192x128x64, .f32⟩
  | 89 => ⟨S2x64x128x8x16x64, .f32⟩
  | 90 => ⟨S64x2x128x8x16x64, .f32⟩
  | 91 => ⟨S1x1x128, .f32⟩
  | 92 => ⟨S2x8192x128, .f32⟩
  | 93 => ⟨S2x8192x128, .f32⟩
  | 94 => ⟨S2x64x128x8x16, .f32⟩
  | 95 => ⟨S64x2x128x8x16, .f32⟩
  | 96 => ⟨S2x64x128x8x16x64, .f32⟩
  | 97 => ⟨S64x2x128x8x16x64, .f32⟩
  | 98 => ⟨S2x64x128x8x128, .f32⟩
  | 99 => ⟨S64x2x128x8x128, .f32⟩
  | 100 => ⟨S2x64x128x8x128, .f32⟩
  | 101 => ⟨S64x2x128x8x128, .f32⟩
  | 102 => ⟨S_, .i1⟩
  | 103 => ⟨S128x128, .i1⟩
  | 104 => ⟨S128x128, .i32⟩
  | 105 => ⟨S_, .i32⟩
  | 106 => ⟨S128x128, .i32⟩
  | 107 => ⟨S128x128, .i32⟩
  | 108 => ⟨S128x128, .i32⟩
  | 109 => ⟨S128x128, .i1⟩
  | 110 => ⟨S_, .i1⟩
  | 111 => ⟨S128x128, .i1⟩
  | 112 => ⟨S128x128, .i1⟩
  | 113 => ⟨S1x128x128x1x1, .i1⟩
  | 114 => ⟨S_, .f32⟩
  | 115 => ⟨S2x8x16x64x128, .f32⟩
  | 116 => ⟨S_, .f32⟩
  | 117 => ⟨S64x2x128x8x16x64, .f32⟩
  | 118 => ⟨S_, .i32⟩
  | 119 => ⟨S64x2x128x8x16x64, .f32⟩
  | 120 => ⟨S64x2x128x8x16, .f32⟩
  | 121 => ⟨S64x2x128x8x128, .f32⟩
  | 122 => ⟨S64x2x128x8x128, .f32⟩
  | 123 => ⟨S64x2x128x8x16x64, .f32⟩
  | 124 => ⟨S1x128x128x1x1, .i1⟩
  | 125 => ⟨S_, .i32⟩
  | 126 => ⟨S2x8x16x64x128, .f32⟩
  | 127 => ⟨S64x2x128x8x16x64, .f32⟩
  | _ => ⟨S16384x8192, .bf16⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S1x2x128x8x16x64, .f32⟩
  | 8 => ⟨S2x128x8x16x64, .f32⟩
  | 9 => ⟨S_, .i32⟩
  | 10 => ⟨S_, .i32⟩
  | 11 => ⟨S_, .i32⟩
  | 12 => ⟨S_, .i32⟩
  | 13 => ⟨S1x2x128x8x16, .f32⟩
  | 14 => ⟨S2x128x8x16, .f32⟩
  | 15 => ⟨S_, .i32⟩
  | 16 => ⟨S_, .i32⟩
  | 17 => ⟨S_, .i32⟩
  | 18 => ⟨S_, .i32⟩
  | 19 => ⟨S1x2x128x8x128, .f32⟩
  | 20 => ⟨S2x128x8x128, .f32⟩
  | 21 => ⟨S_, .i32⟩
  | 22 => ⟨S_, .i32⟩
  | 23 => ⟨S_, .i32⟩
  | 24 => ⟨S_, .i32⟩
  | 25 => ⟨S1x2x128x8x128, .f32⟩
  | 26 => ⟨S2x128x8x128, .f32⟩
  | 27 => ⟨S_, .i32⟩
  | 28 => ⟨S_, .i32⟩
  | 29 => ⟨S_, .i32⟩
  | 30 => ⟨S_, .i32⟩
  | 31 => ⟨S_, .i32⟩
  | 32 => ⟨S1x2x128x8x16x64, .f32⟩
  | 33 => ⟨S2x128x8x16x64, .f32⟩
  | 34 => ⟨S_, .f32⟩
  | 35 => ⟨S_, .f32⟩
  | 36 => ⟨S2x128x8x16, .f32⟩
  | 37 => ⟨S2x128x1x8x16, .f32⟩
  | 38 => ⟨S2x1x128x8x16, .f32⟩
  | 39 => ⟨S2x128x128x8x16, .f32⟩
  | 40 => ⟨S2x128x128x8x16, .f32⟩
  | 41 => ⟨S2x128x128x8x16, .f32⟩
  | 42 => ⟨S_, .f32⟩
  | 43 => ⟨S_, .f32⟩
  | 44 => ⟨S2x128x128x8x16, .i1⟩
  | 45 => ⟨S2x128x128x8x16, .f32⟩
  | 46 => ⟨S2x128x128x8x16, .f32⟩
  | 47 => ⟨S2x128x128x8x16, .f32⟩
  | 48 => ⟨S2x8x128x128, .f32⟩
  | 49 => ⟨S2x128x128x8, .f32⟩
  | 50 => ⟨S2x128x128x8x1, .f32⟩
  | 51 => ⟨S2x128x128x8x16, .f32⟩
  | 52 => ⟨S2x128x128x8x16, .f32⟩
  | 53 => ⟨S2x8x16x64x128, .f32⟩
  | 54 => ⟨S2x128x8x16x64, .f32⟩
  | 55 => ⟨S2x8x16x64x128, .f32⟩
  | 56 => ⟨S2x128x8x16x64, .f32⟩
  | 57 => ⟨S2x128x8x16, .f32⟩
  | 58 => ⟨S2x128x8x16x1, .f32⟩
  | 59 => ⟨S2x128x8x16x64, .f32⟩
  | 60 => ⟨S2x128x8x16x64, .f32⟩
  | 61 => ⟨S2x128x8x16x64, .f32⟩
  | 62 => ⟨S2x1x8x16, .f32⟩
  | 63 => ⟨S2x128x8x16, .f32⟩
  | 64 => ⟨S2x128x8x16, .f32⟩
  | 65 => ⟨S2x128x8x16, .f32⟩
  | 66 => ⟨S2x128x8x16x1, .f32⟩
  | 67 => ⟨S2x128x8x16x64, .f32⟩
  | 68 => ⟨S2x128x8x16x64, .f32⟩
  | 69 => ⟨S2x1x8x16, .f32⟩
  | 70 => ⟨S2x8x16, .f32⟩
  | 71 => ⟨S2x8x16, .f32⟩
  | 72 => ⟨S2x8x16x1x1, .f32⟩
  | 73 => ⟨S2x8x16x64x128, .f32⟩
  | 74 => ⟨S2x8x16x64x128, .f32⟩
  | 75 => ⟨S2x8x16x64x128, .f32⟩
  | 76 => ⟨S2x8x16x64x128, .f32⟩
  | 77 => ⟨S2x128x8x16x64, .f32⟩
  | 78 => ⟨S1x2x128x8x16x64, .f32⟩
  | 79 => ⟨S_, .i32⟩
  | 80 => ⟨S_, .i32⟩
  | 81 => ⟨S_, .i32⟩
  | 82 => ⟨S_, .i32⟩
  | 83 => ⟨S_, .i32⟩
  | 84 => ⟨S64x2x128x8x16x64, .f32⟩
  | 85 => ⟨S_, .i32⟩
  | 86 => ⟨S_, .i32⟩
  | 87 => ⟨S2x64x128x8x16x64, .f32⟩
  | 88 => ⟨S2x8192x128x64, .f32⟩
  | 89 => ⟨S16384x8192, .f32⟩
  | 90 => ⟨S2x8192x8192, .f32⟩
  | 91 => ⟨S2x8192x8192, .f32⟩
  | 92 => ⟨S2x8192x8192, .f32⟩
  | 93 => ⟨S2x8192x8192, .f32⟩
  | 94 => ⟨S_, .f32⟩
  | 95 => ⟨S2x8192x8192, .f32⟩
  | 96 => ⟨S2x8192x8192, .f32⟩
  | 97 => ⟨S_, .f32⟩
  | 98 => ⟨S2x8192x8192, .f32⟩
  | 99 => ⟨S2x8192x8192, .f32⟩
  | 100 => ⟨S2x8192x8192, .f32⟩
  | 101 => ⟨S2x8192x8192, .f32⟩
  | 102 => ⟨S2x8192x8x1024, .f32⟩
  | 103 => ⟨S2x8192x8x1024, .f32⟩
  | 104 => ⟨S_, .f32⟩
  | 105 => ⟨S2x8192x8, .f32⟩
  | 106 => ⟨S2x8192x8x1, .f32⟩
  | 107 => ⟨S_, .f32⟩
  | 108 => ⟨S2x8192x8x1, .f32⟩
  | 109 => ⟨S2x8192x8x1, .f32⟩
  | 110 => ⟨S_, .f32⟩
  | 111 => ⟨S2x8192x8x1, .f32⟩
  | 112 => ⟨S2x8192x8x1, .f32⟩
  | 113 => ⟨S2x8192x8x1, .f32⟩
  | 114 => ⟨S2x8192x8x1024, .f32⟩
  | 115 => ⟨S2x8192x8x1024, .f32⟩
  | 116 => ⟨S2x8192x8192, .f32⟩
  | 117 => ⟨S1x1x8192, .f32⟩
  | 118 => ⟨S2x8192x8192, .f32⟩
  | 119 => ⟨S2x8192x8192, .f32⟩
  | 120 => ⟨S2x8192x8192, .bf16⟩
  | 121 => ⟨S16384x8192, .bf16⟩
  | _ => ⟨S16384x8192, .bf16⟩

abbrev hbmTy (i : Nat) : BufTy := match i / 128 with
  | 0 => hbmTy0_0 i
  | 1 => hbmTy0_1 i
  | _ => ⟨S16384x8192, .bf16⟩

abbrev bufTy : (tb : Table) → Fin (tcTables nBuf tb) → BufTy
  | .hbm, ⟨i, _⟩ => hbmTy i
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_0 : Ref sig .tc := ⟨.hbm, 102, rfl⟩
abbrev main_v69 : Ref sig .tc := ⟨.hbm, 103, rfl⟩
abbrev main_call3_v0 : Ref sig .tc := ⟨.hbm, 104, rfl⟩
abbrev main_call3_c : Ref sig .tc := ⟨.hbm, 105, rfl⟩
abbrev main_call3_v1 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_call3_c_0 : Ref sig .tc := ⟨.hbm, 110, rfl⟩
abbrev main_call3_v5 : Ref sig .tc := ⟨.hbm, 111, rfl⟩
abbrev main_v70 : Ref sig .tc := ⟨.hbm, 112, rfl⟩
abbrev main_v71 : Ref sig .tc := ⟨.hbm, 113, rfl⟩
abbrev main_cst_1 : Ref sig .tc := ⟨.hbm, 114, rfl⟩
abbrev main_v72 : Ref sig .tc := ⟨.hbm, 115, rfl⟩
abbrev main_cst_2 : Ref sig .tc := ⟨.hbm, 116, rfl⟩
abbrev main_v73 : Ref sig .tc := ⟨.hbm, 117, rfl⟩
abbrev main_c_3 : Ref sig .tc := ⟨.hbm, 118, rfl⟩
abbrev main_v74_0 : Ref sig .tc := ⟨.hbm, 119, rfl⟩
abbrev main_v74_1 : Ref sig .tc := ⟨.hbm, 120, rfl⟩
abbrev main_v74_2 : Ref sig .tc := ⟨.hbm, 121, rfl⟩
abbrev main_v74_3 : Ref sig .tc := ⟨.hbm, 122, rfl⟩
abbrev main_v74_4 : Ref sig .tc := ⟨.hbm, 123, rfl⟩
abbrev main_v74_5 : Ref sig .tc := ⟨.hbm, 124, rfl⟩
abbrev main_v74_6 : Ref sig .tc := ⟨.hbm, 125, rfl⟩
abbrev main_v74_7 : Ref sig .tc := ⟨.hbm, 126, rfl⟩
abbrev main_v74_8 : Ref sig .tc := ⟨.hbm, 127, rfl⟩
abbrev main_while0c_c_15 : Ref sig .tc := ⟨.hbm, 128, rfl⟩
abbrev main_while0c_v99 : Ref sig .tc := ⟨.hbm, 129, rfl⟩
abbrev main_while0b_call4_c : Ref sig .tc := ⟨.hbm, 130, rfl⟩
abbrev main_while0b_call4_c_0 : Ref sig .tc := ⟨.hbm, 131, rfl⟩
abbrev main_while0b_call4_c_1 : Ref sig .tc := ⟨.hbm, 132, rfl⟩
abbrev main_while0b_call4_c_2 : Ref sig .tc := ⟨.hbm, 133, rfl⟩
abbrev main_while0b_call4_c_3 : Ref sig .tc := ⟨.hbm, 134, rfl⟩
abbrev main_while0b_call4_v0 : Ref sig .tc := ⟨.hbm, 135, rfl⟩
abbrev main_while0b_v99 : Ref sig .tc := ⟨.hbm, 136, rfl⟩
abbrev main_while0b_call5_c : Ref sig .tc := ⟨.hbm, 137, rfl⟩
abbrev main_while0b_call5_c_0 : Ref sig .tc := ⟨.hbm, 138, rfl⟩
abbrev main_while0b_call5_c_1 : Ref sig .tc := ⟨.hbm, 139, rfl⟩
abbrev main_while0b_call5_c_2 : Ref sig .tc := ⟨.hbm, 140, rfl⟩
abbrev main_while0b_call5_v0 : Ref sig .tc := ⟨.hbm, 141, rfl⟩
abbrev main_while0b_v100 : Ref sig .tc := ⟨.hbm, 142, rfl⟩
abbrev main_while0b_call6_c : Ref sig .tc := ⟨.hbm, 143, rfl⟩
abbrev main_while0b_call6_c_0 : Ref sig .tc := ⟨.hbm, 144, rfl⟩
abbrev main_while0b_call6_c_1 : Ref sig .tc := ⟨.hbm, 145, rfl⟩
abbrev main_while0b_call6_c_2 : Ref sig .tc := ⟨.hbm, 146, rfl⟩
abbrev main_while0b_call6_v0 : Ref sig .tc := ⟨.hbm, 147, rfl⟩
abbrev main_while0b_v101 : Ref sig .tc := ⟨.hbm, 148, rfl⟩
abbrev main_while0b_call7_c : Ref sig .tc := ⟨.hbm, 149, rfl⟩
abbrev main_while0b_call7_c_0 : Ref sig .tc := ⟨.hbm, 150, rfl⟩
abbrev main_while0b_call7_c_1 : Ref sig .tc := ⟨.hbm, 151, rfl⟩
abbrev main_while0b_call7_c_2 : Ref sig .tc := ⟨.hbm, 152, rfl⟩
abbrev main_while0b_call7_v0 : Ref sig .tc := ⟨.hbm, 153, rfl⟩
abbrev main_while0b_v102 : Ref sig .tc := ⟨.hbm, 154, rfl⟩
abbrev main_while0b_call8_c : Ref sig .tc := ⟨.hbm, 155, rfl⟩
abbrev main_while0b_call8_c_0 : Ref sig .tc := ⟨.hbm, 156, rfl⟩
abbrev main_while0b_call8_c_1 : Ref sig .tc := ⟨.hbm, 157, rfl⟩
abbrev main_while0b_call8_c_2 : Ref sig .tc := ⟨.hbm, 158, rfl⟩
abbrev main_while0b_call8_c_3 : Ref sig .tc := ⟨.hbm, 159, rfl⟩
abbrev main_while0b_call8_v0 : Ref sig .tc := ⟨.hbm, 160, rfl⟩
abbrev main_while0b_v103 : Ref sig .tc := ⟨.hbm, 161, rfl⟩
abbrev main_while0b_call9_call0_cst : Ref sig .tc := ⟨.hbm, 162, rfl⟩
abbrev main_while0b_call9_call0_v0 : Ref sig .tc := ⟨.hbm, 163, rfl⟩
abbrev main_while0b_v104 : Ref sig .tc := ⟨.hbm, 164, rfl⟩
abbrev main_while0b_v105 : Ref sig .tc := ⟨.hbm, 165, rfl⟩
abbrev main_while0b_v106 : Ref sig .tc := ⟨.hbm, 166, rfl⟩
abbrev main_while0b_v107 : Ref sig .tc := ⟨.hbm, 167, rfl⟩
abbrev main_while0b_v108 : Ref sig .tc := ⟨.hbm, 168, rfl⟩
abbrev main_while0b_v109 : Ref sig .tc := ⟨.hbm, 169, rfl⟩
abbrev main_while0b_cst_15 : Ref sig .tc := ⟨.hbm, 170, rfl⟩
abbrev main_while0b_call10_v0 : Ref sig .tc := ⟨.hbm, 171, rfl⟩
abbrev main_while0b_call10_v1 : Ref sig .tc := ⟨.hbm, 172, rfl⟩
abbrev main_while0b_call10_v2 : Ref sig .tc := ⟨.hbm, 173, rfl⟩
abbrev main_while0b_v110 : Ref sig .tc := ⟨.hbm, 174, rfl⟩
abbrev main_while0b_v111 : Ref sig .tc := ⟨.hbm, 175, rfl⟩
abbrev main_while0b_v112 : Ref sig .tc := ⟨.hbm, 176, rfl⟩
abbrev main_while0b_v113 : Ref sig .tc := ⟨.hbm, 177, rfl⟩
abbrev main_while0b_v114 : Ref sig .tc := ⟨.hbm, 178, rfl⟩
abbrev main_while0b_v115 : Ref sig .tc := ⟨.hbm, 179, rfl⟩
abbrev main_while0b_v116 : Ref sig .tc := ⟨.hbm, 180, rfl⟩
abbrev main_while0b_v117 : Ref sig .tc := ⟨.hbm, 181, rfl⟩
abbrev main_while0b_v118 : Ref sig .tc := ⟨.hbm, 182, rfl⟩
abbrev main_while0b_v119 : Ref sig .tc := ⟨.hbm, 183, rfl⟩
abbrev main_while0b_v120 : Ref sig .tc := ⟨.hbm, 184, rfl⟩
abbrev main_while0b_v121 : Ref sig .tc := ⟨.hbm, 185, rfl⟩
abbrev main_while0b_v122 : Ref sig .tc := ⟨.hbm, 186, rfl⟩
abbrev main_while0b_v123 : Ref sig .tc := ⟨.hbm, 187, rfl⟩
abbrev main_while0b_v124 : Ref sig .tc := ⟨.hbm, 188, rfl⟩
abbrev main_while0b_v125 : Ref sig .tc := ⟨.hbm, 189, rfl⟩
abbrev main_while0b_v126 : Ref sig .tc := ⟨.hbm, 190, rfl⟩
abbrev main_while0b_v127 : Ref sig .tc := ⟨.hbm, 191, rfl⟩
abbrev main_while0b_v128 : Ref sig .tc := ⟨.hbm, 192, rfl⟩
abbrev main_while0b_v129 : Ref sig .tc := ⟨.hbm, 193, rfl⟩
abbrev main_while0b_v130 : Ref sig .tc := ⟨.hbm, 194, rfl⟩
abbrev main_while0b_v131 : Ref sig .tc := ⟨.hbm, 195, rfl⟩
abbrev main_while0b_v132 : Ref sig .tc := ⟨.hbm, 196, rfl⟩
abbrev main_while0b_v133 : Ref sig .tc := ⟨.hbm, 197, rfl⟩
abbrev main_while0b_v134 : Ref sig .tc := ⟨.hbm, 198, rfl⟩
abbrev main_while0b_v135 : Ref sig .tc := ⟨.hbm, 199, rfl⟩
abbrev main_while0b_v136 : Ref sig .tc := ⟨.hbm, 200, rfl⟩
abbrev main_while0b_v137 : Ref sig .tc := ⟨.hbm, 201, rfl⟩
abbrev main_while0b_v138 : Ref sig .tc := ⟨.hbm, 202, rfl⟩
abbrev main_while0b_v139 : Ref sig .tc := ⟨.hbm, 203, rfl⟩
abbrev main_while0b_v140 : Ref sig .tc := ⟨.hbm, 204, rfl⟩
abbrev main_while0b_v141 : Ref sig .tc := ⟨.hbm, 205, rfl⟩
abbrev main_while0b_call11_v0 : Ref sig .tc := ⟨.hbm, 206, rfl⟩
abbrev main_while0b_call11_c : Ref sig .tc := ⟨.hbm, 207, rfl⟩
abbrev main_while0b_call11_c_0 : Ref sig .tc := ⟨.hbm, 208, rfl⟩
abbrev main_while0b_call11_c_1 : Ref sig .tc := ⟨.hbm, 209, rfl⟩
abbrev main_while0b_call11_c_2 : Ref sig .tc := ⟨.hbm, 210, rfl⟩
abbrev main_while0b_call11_c_3 : Ref sig .tc := ⟨.hbm, 211, rfl⟩
abbrev main_while0b_v142 : Ref sig .tc := ⟨.hbm, 212, rfl⟩
abbrev main_while0b_c_16 : Ref sig .tc := ⟨.hbm, 213, rfl⟩
abbrev main_while0b_v143 : Ref sig .tc := ⟨.hbm, 214, rfl⟩
abbrev main_v75 : Ref sig .tc := ⟨.hbm, 215, rfl⟩
abbrev main_v76 : Ref sig .tc := ⟨.hbm, 216, rfl⟩
abbrev main_v77 : Ref sig .tc := ⟨.hbm, 217, rfl⟩
abbrev main_v78 : Ref sig .tc := ⟨.hbm, 218, rfl⟩
abbrev main_v79 : Ref sig .tc := ⟨.hbm, 219, rfl⟩
abbrev main_call12_v0 : Ref sig .tc := ⟨.hbm, 220, rfl⟩
abbrev main_call12_v1 : Ref sig .tc := ⟨.hbm, 221, rfl⟩
abbrev main_call12_cst : Ref sig .tc := ⟨.hbm, 222, rfl⟩
abbrev main_call12_v2 : Ref sig .tc := ⟨.hbm, 223, rfl⟩
abbrev main_call12_v3 : Ref sig .tc := ⟨.hbm, 224, rfl⟩
abbrev main_call12_cst_0 : Ref sig .tc := ⟨.hbm, 225, rfl⟩
abbrev main_call12_v4 : Ref sig .tc := ⟨.hbm, 226, rfl⟩
abbrev main_call12_v5 : Ref sig .tc := ⟨.hbm, 227, rfl⟩
abbrev main_v80 : Ref sig .tc := ⟨.hbm, 228, rfl⟩
abbrev main_v81 : Ref sig .tc := ⟨.hbm, 229, rfl⟩
abbrev main_v82 : Ref sig .tc := ⟨.hbm, 230, rfl⟩
abbrev main_v83 : Ref sig .tc := ⟨.hbm, 231, rfl⟩
abbrev main_cst_4 : Ref sig .tc := ⟨.hbm, 232, rfl⟩
abbrev main_v84 : Ref sig .tc := ⟨.hbm, 233, rfl⟩
abbrev main_v85 : Ref sig .tc := ⟨.hbm, 234, rfl⟩
abbrev main_cst_5 : Ref sig .tc := ⟨.hbm, 235, rfl⟩
abbrev main_v86 : Ref sig .tc := ⟨.hbm, 236, rfl⟩
abbrev main_v87 : Ref sig .tc := ⟨.hbm, 237, rfl⟩
abbrev main_cst_6 : Ref sig .tc := ⟨.hbm, 238, rfl⟩
abbrev main_v88 : Ref sig .tc := ⟨.hbm, 239, rfl⟩
abbrev main_v89 : Ref sig .tc := ⟨.hbm, 240, rfl⟩
abbrev main_v90 : Ref sig .tc := ⟨.hbm, 241, rfl⟩
abbrev main_v91 : Ref sig .tc := ⟨.hbm, 242, rfl⟩
abbrev main_v92 : Ref sig .tc := ⟨.hbm, 243, rfl⟩
abbrev main_v93 : Ref sig .tc := ⟨.hbm, 244, rfl⟩
abbrev main_v94 : Ref sig .tc := ⟨.hbm, 245, rfl⟩
abbrev main_v95 : Ref sig .tc := ⟨.hbm, 246, rfl⟩
abbrev main_v96 : Ref sig .tc := ⟨.hbm, 247, rfl⟩
abbrev main_v97 : Ref sig .tc := ⟨.hbm, 248, rfl⟩
abbrev main_v98 : Ref sig .tc := ⟨.hbm, 249, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S16384x4096 : Shape := ⟨2, ![16384, 4096]⟩
abbrev S4096x39056 : Shape := ⟨2, ![4096, 39056]⟩
abbrev S4096x8192 : Shape := ⟨2, ![4096, 8192]⟩
abbrev S_ : Shape := ⟨0, ![]⟩
abbrev S4096x10240 : Shape := ⟨2, ![4096, 10240]⟩
abbrev S4096x128 : Shape := ⟨2, ![4096, 128]⟩
abbrev S4096x4096 : Shape := ⟨2, ![4096, 4096]⟩
abbrev S4096x16 : Shape := ⟨2, ![4096, 16]⟩
abbrev S16x4096 : Shape := ⟨2, ![16, 4096]⟩
abbrev S16384x8192 : Shape := ⟨2, ![16384, 8192]⟩
abbrev S1024x4096 : Shape := ⟨2, ![1024, 4096]⟩
abbrev S4096x512 : Shape := ⟨2, ![4096, 512]⟩
abbrev S1024x512 : Shape := ⟨2, ![1024, 512]⟩
abbrev S16384x10240 : Shape := ⟨2, ![16384, 10240]⟩
abbrev S16384x128 : Shape := ⟨2, ![16384, 128]⟩
abbrev S1024x128 : Shape := ⟨2, ![1024, 128]⟩
abbrev S16x16384 : Shape := ⟨2, ![16, 16384]⟩
abbrev S16x1024 : Shape := ⟨2, ![16, 1024]⟩
abbrev S16384x16 : Shape := ⟨2, ![16384, 16]⟩

abbrev nBuf : Space → Nat
  | .hbm => 54
  | .vmem => 51
  | .smem => 0
  | _ => 0

abbrev bufTy : (tb : Table) → Fin (tcTables nBuf tb) → BufTy
  | .hbm, ⟨0, _⟩ => ⟨S16384x4096, .bf16⟩
  | .hbm, ⟨1, _⟩ => ⟨S4096x39056, .f32⟩
  | .hbm, ⟨2, _⟩ => ⟨S4096x8192, .f32⟩
  | .hbm, ⟨3, _⟩ => ⟨S_, .i32⟩
  | .hbm, ⟨4, _⟩ => ⟨S_, .f32⟩
  | .hbm, ⟨5, _⟩ => ⟨S4096x8192, .f32⟩
  | .hbm, ⟨6, _⟩ => ⟨S4096x8192, .bf16⟩
  | .hbm, ⟨7, _⟩ => ⟨S4096x10240, .f32⟩
  | .hbm, ⟨8, _⟩ => ⟨S_, .i32⟩
  | .hbm, ⟨9, _⟩ => ⟨S_, .f32⟩
  | .hbm, ⟨10, _⟩ => ⟨S4096x10240, .f32⟩
  | .hbm, ⟨11, _⟩ => ⟨S4096x10240, .bf16⟩
  | .hbm, ⟨12, _⟩ => ⟨S4096x128, .f32⟩
  | .hbm, ⟨13, _⟩ => ⟨S_, .i32⟩
  | .hbm, ⟨14, _⟩ => ⟨S_, .f32⟩
  | .hbm, ⟨15, _⟩ => ⟨S4096x128, .f32⟩
  | .hbm, ⟨16, _⟩ => ⟨S4096x128, .bf16⟩
  | .hbm, ⟨17, _⟩ => ⟨S4096x4096, .f32⟩
  | .hbm, ⟨18, _⟩ => ⟨S_, .i32⟩
  | .hbm, ⟨19, _⟩ => ⟨S_, .f32⟩
  | .hbm, ⟨20, _⟩ => ⟨S4096x4096, .f32⟩
  | .hbm, ⟨21, _⟩ => ⟨S4096x4096, .bf16⟩
  | .hbm, ⟨22, _⟩ => ⟨S4096x4096, .f32⟩
  | .hbm, ⟨23, _⟩ => ⟨S_, .i32⟩
  | .hbm, ⟨24, _⟩ => ⟨S_, .f32⟩
  | .hbm, ⟨25, _⟩ => ⟨S4096x4096, .f32⟩
  | .hbm, ⟨26, _⟩ => ⟨S4096x4096, .bf16⟩
  | .hbm, ⟨27, _⟩ => ⟨S4096x4096, .f32⟩
  | .hbm, ⟨28, _⟩ => ⟨S_, .i32⟩
  | .hbm, ⟨29, _⟩ => ⟨S_, .f32⟩
  | .hbm, ⟨30, _⟩ => ⟨S4096x4096, .f32⟩
  | .hbm, ⟨31, _⟩ => ⟨S4096x4096, .bf16⟩
  | .hbm, ⟨32, _⟩ => ⟨S4096x16, .f32⟩
  | .hbm, ⟨33, _⟩ => ⟨S_, .i32⟩
  | .hbm, ⟨34, _⟩ => ⟨S_, .f32⟩
  | .hbm, ⟨35, _⟩ => ⟨S4096x128, .f32⟩
  | .hbm, ⟨36, _⟩ => ⟨S4096x128, .bf16⟩
  | .hbm, ⟨37, _⟩ => ⟨S4096x8192, .f32⟩
  | .hbm, ⟨38, _⟩ => ⟨S_, .i32⟩
  | .hbm, ⟨39, _⟩ => ⟨S_, .f32⟩
  | .hbm, ⟨40, _⟩ => ⟨S4096x8192, .f32⟩
  | .hbm, ⟨41, _⟩ => ⟨S4096x8192, .bf16⟩
  | .hbm, ⟨42, _⟩ => ⟨S4096x16, .bf16⟩
  | .hbm, ⟨43, _⟩ => ⟨S16x4096, .bf16⟩
  | .hbm, ⟨44, _⟩ => ⟨S16384x8192, .bf16⟩
  | .hbm, ⟨45, _⟩ => ⟨S16384x10240, .bf16⟩
  | .hbm, ⟨46, _⟩ => ⟨S16384x128, .f32⟩
  | .hbm, ⟨47, _⟩ => ⟨S16384x4096, .bf16⟩
  | .hbm, ⟨48, _⟩ => ⟨S16384x4096, .bf16⟩
  | .hbm, ⟨49, _⟩ => ⟨S16384x4096, .bf16⟩
  | .hbm, ⟨50, _⟩ => ⟨S16384x128, .f32⟩
  | .hbm, ⟨51, _⟩ => ⟨S16x16384, .f32⟩
  | .hbm, ⟨52, _⟩ => ⟨S16384x8192, .bf16⟩
  | .hbm, ⟨53, _⟩ => ⟨S16384x16, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x4096, .bf16⟩
  | .local _ .vmem, ⟨7, _⟩ => ⟨S1024x4096, .bf16⟩
  | .local _ .vmem, ⟨8, _⟩ => ⟨S4096x512, .bf16⟩
  | .local _ .vmem, ⟨9, _⟩ => ⟨S4096x512, .bf16⟩
  | .local _ .vmem, ⟨10, _⟩ => ⟨S1024x512, .bf16⟩
  | .local _ .vmem, ⟨11, _⟩ => ⟨S1024x512, .bf16⟩
  | .local _ .vmem, ⟨12, _⟩ => ⟨S1024x4096, .bf16⟩
  | .local _ .vmem, ⟨13, _⟩ => ⟨S1024x4096, .bf16⟩
  | .local _ .vmem, ⟨14, _⟩ => ⟨S4096x128, .bf16⟩
  | .local _ .vmem, ⟨15, _⟩ => ⟨S1024x128, .f32⟩
  | .local _ .vmem, ⟨16, _⟩ => ⟨S1024x128, .f32⟩
  | .local _ .vmem, ⟨17, _⟩ => ⟨S1024x4096, .bf16⟩
  | .local _ .vmem, ⟨18, _⟩ => ⟨S1024x4096, .bf16⟩
  | .local _ .vmem, ⟨19, _⟩ => ⟨S4096x512, .bf16⟩
  | .local _ .vmem, ⟨20, _⟩ => ⟨S4096x512, .bf16⟩
  | .local _ .vmem, ⟨21, _⟩ => ⟨S1024x512, .bf16⟩
  | .local _ .vmem, ⟨22, _⟩ => ⟨S1024x512, .bf16⟩
  | .local _ .vmem, ⟨23, _⟩ => ⟨S1024x4096, .bf16⟩
  | .local _ .vmem, ⟨24, _⟩ => ⟨S1024x4096, .bf16⟩
  | .local _ .vmem, ⟨25, _⟩ => ⟨S4096x512, .bf16⟩
  | .local _ .vmem, ⟨26, _⟩ => ⟨S4096x512, .bf16⟩
  | .local _ .vmem, ⟨27, _⟩ => ⟨S1024x512, .bf16⟩
  | .local _ .vmem, ⟨28, _⟩ => ⟨S1024x512, .bf16⟩
  | .local _ .vmem, ⟨29, _⟩ => ⟨S1024x4096, .bf16⟩
  | .local _ .vmem, ⟨30, _⟩ => ⟨S1024x4096, .bf16⟩
  | .local _ .vmem, ⟨31, _⟩ => ⟨S4096x512, .bf16⟩
  | .local _ .vmem, ⟨32, _⟩ => ⟨S4096x512, .bf16⟩
  | .local _ .vmem, ⟨33, _⟩ => ⟨S1024x512, .bf16⟩
  | .local _ .vmem, ⟨34, _⟩ => ⟨S1024x512, .bf16⟩
  | .local _ .vmem, ⟨35, _⟩ => ⟨S1024x4096, .bf16⟩
  | .local _ .vmem, ⟨36, _⟩ => ⟨S1024x4096, .bf16⟩
  | .local _ .vmem, ⟨37, _⟩ => ⟨S4096x128, .bf16⟩
  | .local _ .vmem, ⟨38, _⟩ => ⟨S1024x128, .f32⟩
  | .local _ .vmem, ⟨39, _⟩ => ⟨S1024x128, .f32⟩
  | .local _ .vmem, ⟨40, _⟩ => ⟨S16x4096, .bf16⟩
  | .local _ .vmem, ⟨41, _⟩ => ⟨S1024x4096, .bf16⟩
  | .local _ .vmem, ⟨42, _⟩ => ⟨S1024x4096, .bf16⟩
  | .local _ .vmem, ⟨43, _⟩ => ⟨S16x1024, .f32⟩
  | .local _ .vmem, ⟨44, _⟩ => ⟨S16x1024, .f32⟩
  | .local _ .vmem, ⟨45, _⟩ => ⟨S1024x4096, .bf16⟩
  | .local _ .vmem, ⟨46, _⟩ => ⟨S1024x4096, .bf16⟩
  | .local _ .vmem, ⟨47, _⟩ => ⟨S4096x512, .bf16⟩
  | .local _ .vmem, ⟨48, _⟩ => ⟨S4096x512, .bf16⟩
  | .local _ .vmem, ⟨49, _⟩ => ⟨S1024x512, .bf16⟩
  | .local _ .vmem, ⟨50, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_call2_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_call3_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_call4_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_call5_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_call6_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_call7_v0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg2_1 : Ref sig .tc := ⟨.vmem, 39, rfl⟩
abbrev cc7_stg0_0 : Ref sig .tc := ⟨.vmem, 40, rfl⟩
abbrev cc7_stg1_0 : Ref sig .tc := ⟨.vmem, 41, rfl⟩
abbrev cc7_stg1_1 : Ref sig .tc := ⟨.vmem, 42, rfl⟩
abbrev cc7_stg2_0 : Ref sig .tc := ⟨.vmem, 43, rfl⟩
abbrev cc7_stg2_1 : Ref sig .tc := ⟨.vmem, 44, rfl⟩
abbrev cc8_stg0_0 : Ref sig .tc := ⟨.vmem, 45, rfl⟩
abbrev cc8_stg0_1 : Ref sig .tc := ⟨.vmem, 46, rfl⟩
abbrev cc8_stg1_0 : Ref sig .tc := ⟨.vmem, 47, rfl⟩
abbrev cc8_stg1_1 : Ref sig .tc := ⟨.vmem, 48, rfl⟩
abbrev cc8_stg2_0 : Ref sig .tc := ⟨.vmem, 49, rfl⟩
abbrev cc8_stg2_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem2_1 : DmaSem sig := 34
abbrev cc6_sem0_0 : DmaSem sig := 35
abbrev cc6_sem0_1 : DmaSem sig := 36
abbrev cc6_sem1_0 : DmaSem sig := 37
abbrev cc6_sem2_0 : DmaSem sig := 38
abbrev cc6_sem2_1 : DmaSem sig := 39
abbrev cc7_sem0_0 : DmaSem sig := 40
abbrev cc7_sem1_0 : DmaSem sig := 41
abbrev cc7_sem1_1 : DmaSem sig := 42
abbrev cc7_sem2_0 : DmaSem sig := 43
abbrev cc7_sem2_1 : DmaSem sig := 44
abbrev cc8_sem0_0 : DmaSem sig := 45
abbrev cc8_sem0_1 : DmaSem sig := 46
abbrev cc8_sem1_0 : DmaSem sig := 47
abbrev cc8_sem1_1 : DmaSem sig := 48
abbrev cc8_sem2_0 : DmaSem sig := 49
abbrev cc8_sem2_1 : DmaSem sig := 50

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 20], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S4096x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![16, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![16, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![16, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![16, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S1024x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 1 → Memref sig .tc .vmem S4096x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 2 → Memref sig .tc .vmem S1024x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨1, ![16], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 1 → Memref sig .tc .vmem S16x4096 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 2 → Memref sig .tc .vmem S1024x4096 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S16x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨2, ![16, 16], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S1024x4096 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S4096x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1024x512 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]
-- ==== Reference2Ideal.lean ====
abbrev S16384x4096 : Shape := ⟨2, ![16384, 4096]⟩
abbrev S4096x39056 : Shape := ⟨2, ![4096, 39056]⟩
abbrev S16384x39056 : Shape := ⟨2, ![16384, 39056]⟩
abbrev S16384x8192 : Shape := ⟨2, ![16384, 8192]⟩
abbrev S16384x10240 : Shape := ⟨2, ![16384, 10240]⟩
abbrev S16384x128 : Shape := ⟨2, ![16384, 128]⟩
abbrev S16384x2048 : Shape := ⟨2, ![16384, 2048]⟩
abbrev S16384x8 : Shape := ⟨2, ![16384, 8]⟩
abbrev S16384x16 : Shape := ⟨2, ![16384, 16]⟩
abbrev S16x16384 : Shape := ⟨2, ![16, 16384]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x39056, .f32⟩
  | .hbm, ⟨2, _⟩ => ⟨S16384x4096, .f32⟩
  | .hbm, ⟨3, _⟩ => ⟨S16384x39056, .f32⟩
  | .hbm, ⟨4, _⟩ => ⟨S16384x8192, .f32⟩
  | .hbm, ⟨5, _⟩ => ⟨S16384x10240, .f32⟩
  | .hbm, ⟨6, _⟩ => ⟨S16384x128, .f32⟩
  | .hbm, ⟨7, _⟩ => ⟨S16384x2048, .f32⟩
  | .hbm, ⟨8, _⟩ => ⟨S16384x2048, .f32⟩
  | .hbm, ⟨9, _⟩ => ⟨S16384x4096, .f32⟩
  | .hbm, ⟨10, _⟩ => ⟨S16384x4096, .f32⟩
  | .hbm, ⟨11, _⟩ => ⟨S16384x8, .f32⟩
  | .hbm, ⟨12, _⟩ => ⟨S16384x8, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x8192, .f32⟩
  | .hbm, ⟨17, _⟩ => ⟨S16384x16, .f32⟩
  | .hbm, ⟨18, _⟩ => ⟨S16384x8192, .bf16⟩
  | .hbm, ⟨19, _⟩ => ⟨S16384x10240, .bf16⟩
  | .hbm, ⟨20, _⟩ => ⟨S16384x4096, .bf16⟩
  | .hbm, ⟨21, _⟩ => ⟨S16384x4096, .bf16⟩
  | .hbm, ⟨22, _⟩ => ⟨S16384x4096, .bf16⟩
  | .hbm, ⟨23, _⟩ => ⟨S16x16384, .f32⟩
  | .hbm, ⟨24, _⟩ => ⟨S16384x8192, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩

abbrev nD : Nat := 1
abbrev τ : Topo := Topo.v7x

variable {F : FTy → Type} [FloatOps F]
-- ==== Kernel3.lean ====
abbrev S16384x8192 : Shape := ⟨2, ![16384, 8192]⟩
abbrev S16384x4096 : Shape := ⟨2, ![16384, 4096]⟩
abbrev S2x8192x4096 : Shape := ⟨3, ![2, 8192, 4096]⟩
abbrev S2x4096x4096 : Shape := ⟨3, ![2, 4096, 4096]⟩
abbrev S8192 : Shape := ⟨1, ![8192]⟩
abbrev S8192x4096 : Shape := ⟨2, ![8192, 4096]⟩
abbrev S1x512x4096 : Shape := ⟨3, ![1, 512, 4096]⟩
abbrev S512x4096 : Shape := ⟨2, ![512, 4096]⟩
abbrev S4096x4096 : Shape := ⟨2, ![4096, 4096]⟩
abbrev S1x8192 : Shape := ⟨2, ![1, 8192]⟩
abbrev S512x8192 : Shape := ⟨2, ![512, 8192]⟩
abbrev S8192x256 : Shape := ⟨2, ![8192, 256]⟩
abbrev S4096x256 : Shape := ⟨2, ![4096, 256]⟩
abbrev S512x256 : Shape := ⟨2, ![512, 256]⟩
abbrev S1x256 : Shape := ⟨2, ![1, 256]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 13
  | .vmem => 36
  | .smem => 0
  | _ => 0

abbrev bufTy : (tb : Table) → Fin (tcTables nBuf tb) → BufTy
  | .hbm, ⟨0, _⟩ => ⟨S16384x8192, .bf16⟩
  | .hbm, ⟨1, _⟩ => ⟨S16384x4096, .bf16⟩
  | .hbm, ⟨2, _⟩ => ⟨S16384x8192, .bf16⟩
  | .hbm, ⟨3, _⟩ => ⟨S2x8192x4096, .f32⟩
  | .hbm, ⟨4, _⟩ => ⟨S2x4096x4096, .f32⟩
  | .hbm, ⟨5, _⟩ => ⟨S8192, .f32⟩
  | .hbm, ⟨6, _⟩ => ⟨S2x4096x4096, .f32⟩
  | .hbm, ⟨7, _⟩ => ⟨S8192x4096, .bf16⟩
  | .hbm, ⟨8, _⟩ => ⟨S4096x4096, .bf16⟩
  | .hbm, ⟨9, _⟩ => ⟨S1x8192, .f32⟩
  | .hbm, ⟨10, _⟩ => ⟨S16384x4096, .bf16⟩
  | .hbm, ⟨11, _⟩ => ⟨S4096x4096, .bf16⟩
  | .hbm, ⟨12, _⟩ => ⟨S16384x4096, .f32⟩
  | .local _ .vmem, ⟨0, _⟩ => ⟨S1x512x4096, .f32⟩
  | .local _ .vmem, ⟨1, _⟩ => ⟨S1x512x4096, .f32⟩
  | .local _ .vmem, ⟨2, _⟩ => ⟨S512x4096, .bf16⟩
  | .local _ .vmem, ⟨3, _⟩ => ⟨S512x4096, .bf16⟩
  | .local _ .vmem, ⟨4, _⟩ => ⟨S1x512x4096, .f32⟩
  | .local _ .vmem, ⟨5, _⟩ => ⟨S1x512x4096, .f32⟩
  | .local _ .vmem, ⟨6, _⟩ => ⟨S512x4096, .bf16⟩
  | .local _ .vmem, ⟨7, _⟩ => ⟨S512x4096, .bf16⟩
  | .local _ .vmem, ⟨8, _⟩ => ⟨S512x8192, .bf16⟩
  | .local _ .vmem, ⟨9, _⟩ => ⟨S512x8192, .bf16⟩
  | .local _ .vmem, ⟨10, _⟩ => ⟨S512x4096, .bf16⟩
  | .local _ .vmem, ⟨11, _⟩ => ⟨S512x4096, .bf16⟩
  | .local _ .vmem, ⟨12, _⟩ => ⟨S8192x256, .bf16⟩
  | .local _ .vmem, ⟨13, _⟩ => ⟨S8192x256, .bf16⟩
  | .local _ .vmem, ⟨14, _⟩ => ⟨S4096x256, .bf16⟩
  | .local _ .vmem, ⟨15, _⟩ => ⟨S4096x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S512x256, .bf16⟩
  | .local _ .vmem, ⟨25, _⟩ => ⟨S512x256, .bf16⟩
  | .local _ .vmem, ⟨26, _⟩ => ⟨S1x512x4096, .f32⟩
  | .local _ .vmem, ⟨27, _⟩ => ⟨S1x512x4096, .f32⟩
  | .local _ .vmem, ⟨28, _⟩ => ⟨S512x4096, .bf16⟩
  | .local _ .vmem, ⟨29, _⟩ => ⟨S512x4096, .bf16⟩
  | .local _ .vmem, ⟨30, _⟩ => ⟨S1024x4096, .bf16⟩
  | .local _ .vmem, ⟨31, _⟩ => ⟨S1024x4096, .bf16⟩
  | .local _ .vmem, ⟨32, _⟩ => ⟨S4096x512, .bf16⟩
  | .local _ .vmem, ⟨33, _⟩ => ⟨S4096x512, .bf16⟩
  | .local _ .vmem, ⟨34, _⟩ => ⟨S1024x512, .f32⟩
  | .local _ .vmem, ⟨35, _⟩ => ⟨S1024x512, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc2_stg6_0 : Ref sig .tc := ⟨.vmem, 20, rfl⟩
abbrev cc2_stg6_1 : Ref sig .tc := ⟨.vmem, 21, rfl⟩
abbrev cc2_stg7_0 : Ref sig .tc := ⟨.vmem, 22, rfl⟩
abbrev cc2_stg7_1 : Ref sig .tc := ⟨.vmem, 23, rfl⟩
abbrev cc2_stg8_0 : Ref sig .tc := ⟨.vmem, 24, rfl⟩
abbrev cc2_stg8_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem4_1 : DmaSem sig := 17
abbrev cc2_sem5_0 : DmaSem sig := 18
abbrev cc2_sem5_1 : DmaSem sig := 19
abbrev cc2_sem6_0 : DmaSem sig := 20
abbrev cc2_sem6_1 : DmaSem sig := 21
abbrev cc2_sem7_0 : DmaSem sig := 22
abbrev cc2_sem7_1 : DmaSem sig := 23
abbrev cc2_sem8_0 : DmaSem sig := 24
abbrev cc2_sem8_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![32, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  ![arg0.toNat, v0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_7 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![c0_i32.toNat, v0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S8192x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S4096x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S512x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true]

abbrev stage2_7 : Fin 2 → Memref sig .tc .vmem S1x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![false, true]

abbrev stage2_8 : Fin 2 → Memref sig .tc .vmem S512x256 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1x512x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨2, ![16, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== Reference3Ideal.lean ====
abbrev S16384x8192 : Shape := ⟨2, ![16384, 8192]⟩
abbrev S16384x4096 : Shape := ⟨2, ![16384, 4096]⟩
abbrev S2x8192x4096 : Shape := ⟨3, ![2, 8192, 4096]⟩
abbrev S2x4096x4096 : Shape := ⟨3, ![2, 4096, 4096]⟩
abbrev S8192 : Shape := ⟨1, ![8192]⟩
abbrev S1x8192x4096 : Shape := ⟨3, ![1, 8192, 4096]⟩
abbrev S8192x4096 : Shape := ⟨2, ![8192, 4096]⟩
abbrev S1x4096x4096 : Shape := ⟨3, ![1, 4096, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S16384x4096, .bf16⟩
  | .hbm, ⟨2, _⟩ => ⟨S16384x8192, .bf16⟩
  | .hbm, ⟨3, _⟩ => ⟨S2x8192x4096, .f32⟩
  | .hbm, ⟨4, _⟩ => ⟨S2x4096x4096, .f32⟩
  | .hbm, ⟨5, _⟩ => ⟨S8192, .f32⟩
  | .hbm, ⟨6, _⟩ => ⟨S2x4096x4096, .f32⟩
  | .hbm, ⟨7, _⟩ => ⟨S16384x8192, .f32⟩
  | .hbm, ⟨8, _⟩ => ⟨S16384x4096, .f32⟩
  | .hbm, ⟨9, _⟩ => ⟨S16384x4096, .f32⟩
  | .hbm, ⟨10, _⟩ => ⟨S16384x8192, .f32⟩
  | .hbm, ⟨11, _⟩ => ⟨S1x8192x4096, .f32⟩
  | .hbm, ⟨12, _⟩ => ⟨S8192x4096, .f32⟩
  | .hbm, ⟨13, _⟩ => ⟨S16384x4096, .f32⟩
  | .hbm, ⟨14, _⟩ => ⟨S16384x4096, .f32⟩
  | .hbm, ⟨15, _⟩ => ⟨S1x4096x4096, .f32⟩
  | .hbm, ⟨16, _⟩ => ⟨S4096x4096, .f32⟩
  | .hbm, ⟨17, _⟩ => ⟨S16384x4096, .f32⟩
  | .hbm, ⟨18, _⟩ => ⟨S4096, .f32⟩
  | .hbm, ⟨19, _⟩ => ⟨S1x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S_, .f32⟩
  | .hbm, ⟨25, _⟩ => ⟨S16384x4096, .f32⟩
  | .hbm, ⟨26, _⟩ => ⟨S16384x4096, .f32⟩
  | .hbm, ⟨27, _⟩ => ⟨S_, .f32⟩
  | .hbm, ⟨28, _⟩ => ⟨S16384x4096, .f32⟩
  | .hbm, ⟨29, _⟩ => ⟨S16384x4096, .f32⟩
  | .hbm, ⟨30, _⟩ => ⟨S4096, .f32⟩
  | .hbm, ⟨31, _⟩ => ⟨S1x4096, .f32⟩
  | .hbm, ⟨32, _⟩ => ⟨S16384x4096, .f32⟩
  | .hbm, ⟨33, _⟩ => ⟨S16384x4096, .f32⟩
  | .hbm, ⟨34, _⟩ => ⟨S16384x4096, .f32⟩
  | .hbm, ⟨35, _⟩ => ⟨S16384x4096, .f32⟩
  | .hbm, ⟨36, _⟩ => ⟨S_, .f32⟩
  | .hbm, ⟨37, _⟩ => ⟨S16384x4096, .f32⟩
  | .hbm, ⟨38, _⟩ => ⟨S16384x4096, .f32⟩
  | .hbm, ⟨39, _⟩ => ⟨S_, .f32⟩
  | .hbm, ⟨40, _⟩ => ⟨S16384x4096, .f32⟩
  | .hbm, ⟨41, _⟩ => ⟨S16384x4096, .f32⟩
  | .hbm, ⟨42, _⟩ => ⟨S16384x4096, .f32⟩
  | .hbm, ⟨43, _⟩ => ⟨S16384x4096, .f32⟩
  | .hbm, ⟨44, _⟩ => ⟨S16384x4096, .f32⟩
  | .hbm, ⟨45, _⟩ => ⟨S1x4096x4096, .f32⟩
  | .hbm, ⟨46, _⟩ => ⟨S4096x4096, .f32⟩
  | .hbm, ⟨47, _⟩ => ⟨S16384x4096, .f32⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel4.lean ====
abbrev S16384x4096 : Shape := ⟨2, ![16384, 4096]⟩
abbrev S4096 : Shape := ⟨1, ![4096]⟩
abbrev S2x4096x2048 : Shape := ⟨3, ![2, 4096, 2048]⟩
abbrev S1x4096 : Shape := ⟨2, ![1, 4096]⟩
abbrev S4096x16384 : Shape := ⟨2, ![4096, 16384]⟩
abbrev S256x4096 : Shape := ⟨2, ![256, 4096]⟩
abbrev S4096x256 : Shape := ⟨2, ![4096, 256]⟩
abbrev S256 : Shape := ⟨1, ![256]⟩
abbrev S256x1 : Shape := ⟨2, ![256, 1]⟩
abbrev S4096x2048 : Shape := ⟨2, ![4096, 2048]⟩
abbrev S1x1024x2048 : Shape := ⟨3, ![1, 1024, 2048]⟩
abbrev S1024x2048 : Shape := ⟨2, ![1024, 2048]⟩
abbrev S16384x2048 : Shape := ⟨2, ![16384, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 12
  | .vmem => 22
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S2x4096x2048, .f32⟩
  | .hbm, ⟨5, _⟩ => ⟨S1x4096, .f32⟩
  | .hbm, ⟨6, _⟩ => ⟨S1x4096, .f32⟩
  | .hbm, ⟨7, _⟩ => ⟨S16384x4096, .f32⟩
  | .hbm, ⟨8, _⟩ => ⟨S16384x4096, .bf16⟩
  | .hbm, ⟨9, _⟩ => ⟨S4096x16384, .bf16⟩
  | .hbm, ⟨10, _⟩ => ⟨S4096x2048, .bf16⟩
  | .hbm, ⟨11, _⟩ => ⟨S16384x2048, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | .local _ .vmem, ⟨10, _⟩ => ⟨S4096x256, .bf16⟩
  | .local _ .vmem, ⟨11, _⟩ => ⟨S4096x256, .bf16⟩
  | .local _ .vmem, ⟨12, _⟩ => ⟨S1x1024x2048, .f32⟩
  | .local _ .vmem, ⟨13, _⟩ => ⟨S1x1024x2048, .f32⟩
  | .local _ .vmem, ⟨14, _⟩ => ⟨S1024x2048, .bf16⟩
  | .local _ .vmem, ⟨15, _⟩ => ⟨S1024x2048, .bf16⟩
  | .local _ .vmem, ⟨16, _⟩ => ⟨S1024x4096, .bf16⟩
  | .local _ .vmem, ⟨17, _⟩ => ⟨S1024x4096, .bf16⟩
  | .local _ .vmem, ⟨18, _⟩ => ⟨S4096x512, .bf16⟩
  | .local _ .vmem, ⟨19, _⟩ => ⟨S4096x512, .bf16⟩
  | .local _ .vmem, ⟨20, _⟩ => ⟨S1024x512, .bf16⟩
  | .local _ .vmem, ⟨21, _⟩ => ⟨S1024x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![16, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference4Ideal.lean ====
abbrev S16384x4096 : Shape := ⟨2, ![16384, 4096]⟩
abbrev S4096 : Shape := ⟨1, ![4096]⟩
abbrev S2x4096x2048 : Shape := ⟨3, ![2, 4096, 2048]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S1x4096x2048 : Shape := ⟨3, ![1, 4096, 2048]⟩
abbrev S4096x2048 : Shape := ⟨2, ![4096, 2048]⟩
abbrev S16384x2048 : Shape := ⟨2, ![16384, 2048]⟩
abbrev S4096x16384 : Shape := ⟨2, ![4096, 16384]⟩

abbrev nBuf : Space → Nat
  | .hbm => 45
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S4096, .f32⟩
  | .hbm, ⟨4, _⟩ => ⟨S2x4096x2048, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x4096, .f32⟩
  | .hbm, ⟨31, _⟩ => ⟨S16384x4096, .f32⟩
  | .hbm, ⟨32, _⟩ => ⟨S1x4096, .f32⟩
  | .hbm, ⟨33, _⟩ => ⟨S16384x4096, .f32⟩
  | .hbm, ⟨34, _⟩ => ⟨S16384x4096, .f32⟩
  | .hbm, ⟨35, _⟩ => ⟨S1x4096, .f32⟩
  | .hbm, ⟨36, _⟩ => ⟨S16384x4096, .f32⟩
  | .hbm, ⟨37, _⟩ => ⟨S16384x4096, .f32⟩
  | .hbm, ⟨38, _⟩ => ⟨S1x4096x2048, .f32⟩
  | .hbm, ⟨39, _⟩ => ⟨S4096x2048, .f32⟩
  | .hbm, ⟨40, _⟩ => ⟨S16384x2048, .f32⟩
  | .hbm, ⟨41, _⟩ => ⟨S16384x4096, .bf16⟩
  | .hbm, ⟨42, _⟩ => ⟨S4096x16384, .f32⟩
  | .hbm, ⟨43, _⟩ => ⟨S4096x16384, .bf16⟩
  | .hbm, ⟨44, _⟩ => ⟨S16384x2048, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel5.lean ====
abbrev S16384x4096 : Shape := ⟨2, ![16384, 4096]⟩
abbrev S4096x16384 : Shape := ⟨2, ![4096, 16384]⟩
abbrev S4096 : Shape := ⟨1, ![4096]⟩
abbrev S1x4096 : Shape := ⟨2, ![1, 4096]⟩
abbrev S256x4096 : Shape := ⟨2, ![256, 4096]⟩
abbrev S4096x256 : Shape := ⟨2, ![4096, 256]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S4096x16384, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S16384x4096, .f32⟩
  | .hbm, ⟨7, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S4096x256, .f32⟩
  | .local _ .vmem, ⟨3, _⟩ => ⟨S4096x256, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16384x4096 : Shape := ⟨2, ![16384, 4096]⟩
abbrev S4096x16384 : Shape := ⟨2, ![4096, 16384]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x16384, .f32⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x4096, .f32⟩
  | .hbm, ⟨31, _⟩ => ⟨S16384x4096, .f32⟩
  | .hbm, ⟨32, _⟩ => ⟨S1x4096, .f32⟩
  | .hbm, ⟨33, _⟩ => ⟨S16384x4096, .f32⟩
  | .hbm, ⟨34, _⟩ => ⟨S16384x4096, .f32⟩
  | .hbm, ⟨35, _⟩ => ⟨S1x4096, .f32⟩
  | .hbm, ⟨36, _⟩ => ⟨S16384x4096, .f32⟩
  | .hbm, ⟨37, _⟩ => ⟨S16384x4096, .f32⟩
  | .hbm, ⟨38, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel6.lean ====
abbrev S2x8192x4096 : Shape := ⟨3, ![2, 8192, 4096]⟩
abbrev S4096 : Shape := ⟨1, ![4096]⟩
abbrev S16384x4096 : Shape := ⟨2, ![16384, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S4096, .f32⟩
  | .hbm, ⟨3, _⟩ => ⟨S16384x4096, .f32⟩
  | .hbm, ⟨4, _⟩ => ⟨S1x4096, .f32⟩
  | .hbm, ⟨5, _⟩ => ⟨S1x4096, .f32⟩
  | .hbm, ⟨6, _⟩ => ⟨S16384x4096, .f32⟩
  | .hbm, ⟨7, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S2x8192x4096 : Shape := ⟨3, ![2, 8192, 4096]⟩
abbrev S4096 : Shape := ⟨1, ![4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x4096, .f32⟩
  | .hbm, ⟨26, _⟩ => ⟨S16384x4096, .f32⟩
  | .hbm, ⟨27, _⟩ => ⟨S1x4096, .f32⟩
  | .hbm, ⟨28, _⟩ => ⟨S16384x4096, .f32⟩
  | .hbm, ⟨29, _⟩ => ⟨S16384x4096, .f32⟩
  | .hbm, ⟨30, _⟩ => ⟨S1x4096, .f32⟩
  | .hbm, ⟨31, _⟩ => ⟨S16384x4096, .f32⟩
  | .hbm, ⟨32, _⟩ => ⟨S16384x4096, .f32⟩
  | .hbm, ⟨33, _⟩ => ⟨S16384x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel7.lean ====
abbrev S16384x2048 : Shape := ⟨2, ![16384, 2048]⟩
abbrev S8x128x128 : Shape := ⟨3, ![8, 128, 128]⟩
abbrev S8x2x128x16384 : Shape := ⟨4, ![8, 2, 128, 16384]⟩
abbrev S1024x256 : Shape := ⟨2, ![1024, 256]⟩
abbrev S1x128x128 : Shape := ⟨3, ![1, 128, 128]⟩
abbrev S1x2x128x1024 : Shape := ⟨4, ![1, 2, 128, 1024]⟩
abbrev S128x128 : Shape := ⟨2, ![128, 128]⟩
abbrev S1024x128 : Shape := ⟨2, ![1024, 128]⟩
abbrev S128x1024 : Shape := ⟨2, ![128, 1024]⟩
abbrev S1x1x128x1024 : Shape := ⟨4, ![1, 1, 128, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S8x128x128, .f32⟩
  | .hbm, ⟨2, _⟩ => ⟨S8x128x128, .f32⟩
  | .hbm, ⟨3, _⟩ => ⟨S8x128x128, .bf16⟩
  | .hbm, ⟨4, _⟩ => ⟨S8x128x128, .bf16⟩
  | .hbm, ⟨5, _⟩ => ⟨S8x2x128x16384, .f32⟩
  | .local _ .vmem, ⟨0, _⟩ => ⟨S1024x256, .bf16⟩
  | .local _ .vmem, ⟨1, _⟩ => ⟨S1024x256, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x2x128x1024, .f32⟩
  | .local _ .vmem, ⟨7, _⟩ => ⟨S1x2x128x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S16384x2048 : Shape := ⟨2, ![16384, 2048]⟩
abbrev S8x128x128 : Shape := ⟨3, ![8, 128, 128]⟩
abbrev S16384x8x2x128 : Shape := ⟨4, ![16384, 8, 2, 128]⟩
abbrev S16384x8x1x128 : Shape := ⟨4, ![16384, 8, 1, 128]⟩
abbrev S16384x8x128 : Shape := ⟨3, ![16384, 8, 128]⟩
abbrev S8x128x16384 : Shape := ⟨3, ![8, 128, 16384]⟩
abbrev S8x1x128x16384 : Shape := ⟨4, ![8, 1, 128, 16384]⟩
abbrev S8x2x128x16384 : Shape := ⟨4, ![8, 2, 128, 16384]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S8x128x128, .f32⟩
  | .hbm, ⟨2, _⟩ => ⟨S8x128x128, .f32⟩
  | .hbm, ⟨3, _⟩ => ⟨S16384x2048, .f32⟩
  | .hbm, ⟨4, _⟩ => ⟨S16384x8x2x128, .f32⟩
  | .hbm, ⟨5, _⟩ => ⟨S16384x8x1x128, .f32⟩
  | .hbm, ⟨6, _⟩ => ⟨S16384x8x128, .f32⟩
  | .hbm, ⟨7, _⟩ => ⟨S8x128x16384, .f32⟩
  | .hbm, ⟨8, _⟩ => ⟨S16384x8x128, .f32⟩
  | .hbm, ⟨9, _⟩ => ⟨S16384x8x1x128, .f32⟩
  | .hbm, ⟨10, _⟩ => ⟨S16384x8x128, .f32⟩
  | .hbm, ⟨11, _⟩ => ⟨S8x128x16384, .f32⟩
  | .hbm, ⟨12, _⟩ => ⟨S16384x8x128, .f32⟩
  | .hbm, ⟨13, _⟩ => ⟨S8x128x16384, .f32⟩
  | .hbm, ⟨14, _⟩ => ⟨S8x128x16384, .f32⟩
  | .hbm, ⟨15, _⟩ => ⟨S8x1x128x16384, .f32⟩
  | .hbm, ⟨16, _⟩ => ⟨S8x1x128x16384, .f32⟩
  | .hbm, ⟨17, _⟩ => ⟨S8x2x128x16384, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Proof.InIdx.lean ====
/- Which block of its array each window stages at a grid point. -/
module

public import proofs.«01_k».proof.Proof.Gen.KernelIdeal.Frame

@[expose] public section

set_option maxRecDepth 16384

noncomputable section

namespace Cert.KernelIdeal.Blk

open Cert.KernelIdeal Cert.KernelIdeal.Gen Idealize.ShloMosaic

/-- The point's coordinates. -/
theorem coords_val : ∀ t : Fin cfg0.N, (grid0.coords t 0).val = t.val / 512 ∧ (grid0.coords t 1).val = t.val / 64 % 8 ∧ (grid0.coords t 2).val = t.val % 64 :=
  (by decide +kernel : ∀ t : Fin grid0.N, _)

theorem idxX : ∀ t : Fin cfg0.N,
    (win0_0.index t = ![t.val / 512 * 64 + t.val % 64, t.val / 64 % 8])
    ∧ (win0_1.index t = ![t.val / 512 * 64 + (t.val % 64 - 1), t.val / 64 % 8])
    ∧ (win0_2.index t = ![t.val / 512 * 64 + t.val % 64, 64 + t.val / 64 % 8])
    ∧ (win0_3.index t = ![t.val / 512 * 64 + (t.val % 64 - 1), 64 + t.val / 64 % 8])
    ∧ (win0_4.index t = ![t.val / 512 * 64 + t.val % 64, 72 + t.val / 64 % 8])
    ∧ (win0_5.index t = ![t.val / 512 * 64 + (t.val % 64 - 1), 72 + t.val / 64 % 8]) :=
  (by decide +kernel : ∀ t : Fin grid0.N, _)

theorem idxW : ∀ t : Fin cfg0.N,
    (win0_6.index t = ![t.val / 512 * 64 + t.val % 64, t.val / 64 % 8])
    ∧ (win0_7.index t = ![t.val / 512 * 64 + t.val % 64, 0])
    ∧ (win0_8.index t = ![0, t.val / 64 % 8])
    ∧ (win0_9.index t = ![0, 64 + t.val / 64 % 8])
    ∧ (win0_10.index t = ![0, 72 + t.val / 64 % 8])
    ∧ (win0_11.index t = ![0, t.val / 64 % 8])
    ∧ (win0_12.index t = ![0, 64 + t.val / 64 % 8])
    ∧ (win0_13.index t = ![0, 72 + t.val / 64 % 8]) :=
  (by decide +kernel : ∀ t : Fin grid0.N, _)

theorem idxO : ∀ t : Fin cfg0.N,
    (win0_14.index t = ![t.val / 64 % 8, 0, 0])
    ∧ (win0_15.index t = ![t.val / 64 % 8, 0, 0])
    ∧ (win0_16.index t = ![0, t.val / 64 % 8])
    ∧ (win0_17.index t = ![0, t.val / 64 % 8])
    ∧ (win0_18.index t = ![0, 0])
    ∧ (win0_19.index t = ![t.val / 512 * 64 + t.val % 64, t.val / 64 % 8]) :=
  (by decide +kernel : ∀ t : Fin grid0.N, _)

end Cert.KernelIdeal.Blk

end
-- ==== Proof.Spec.lean ====
/- The chunked state-space scan of one branch, written over readers of its nine arrays at natural coordinates: what
   both programs compute, in one place. -/
module

public import Idealize.ShloMosaic.Lib.Pointwise

@[expose] public section

set_option maxRecDepth 16384

noncomputable section

open Idealize.ShloMosaic

namespace Cert.Ssd

/-- An array of one axis read at a natural coordinate (zero outside). -/
def rd1 {n : ℕ} (X : (⟨1, ![n]⟩ : Shape).Idx → EReal) (r : ℕ) : EReal :=
  if h : r < n then X (ix1 ⟨r, h⟩) else 0

/-- An array of two axes read at natural coordinates (zero outside). -/
def rd2 {n k : ℕ} (X : (⟨2, ![n, k]⟩ : Shape).Idx → EReal) (r c : ℕ) : EReal :=
  if h : r < n ∧ c < k then X (ix2 ⟨r, h.1⟩ ⟨c, h.2⟩) else 0

theorem rd1_ix {n : ℕ} (X : (⟨1, ![n]⟩ : Shape).Idx → EReal) (a : Fin n) : X (ix1 a) = rd1 X a := by
  unfold rd1; rw [dif_pos a.isLt]

theorem rd2_ix {n k : ℕ} (X : (⟨2, ![n, k]⟩ : Shape).Idx → EReal) (a : Fin n) (b : Fin k) :
    X (ix2 a b) = rd2 X a b := by
  unfold rd2; rw [dif_pos ⟨a.isLt, b.isLt⟩]

/-- An array whose entries are given at natural coordinates, at any index. -/
theorem two_of {n k : ℕ} {X : (⟨2, ![n, k]⟩ : Shape).Idx → EReal} {f : ℕ → ℕ → EReal} (hX : ∀ (a : Fin n) (b : Fin k), X (ix2 a b) = f a.val b.val)
    (i : (⟨2, ![n, k]⟩ : Shape).Idx) (r s : ℕ) (hr : (i 0).val = r) (hs : (i 1).val = s) : X i = f r s := by
  subst hr hs
  refine Eq.trans (congrArg X (funext fun a => ?_)) (hX (i 0) (i 1))
  match a with
  | ⟨0, _⟩ => rfl
  | ⟨1, _⟩ => rfl

/-- Readers of the nine argument arrays: gate, convolution input, step sizes, convolution weights and bias, step bias,
    decay logarithms, skip weights, norm weights. -/
structure Arrs where
  z : ℕ → ℕ → EReal
  xbc : ℕ → ℕ → EReal
  dtp : ℕ → ℕ → EReal
  w : ℕ → ℕ → EReal
  b : ℕ → EReal
  dtb : ℕ → EReal
  alog : ℕ → EReal
  dsk : ℕ → EReal
  nw : ℕ → EReal

variable (A : Arrs)

/-- `v` times its sigmoid. -/
def silu (v : EReal) : EReal := v * Ideal.logistic v

/-- `log (1 + exp v)` in its stable form. -/
def softplus (v : EReal) : EReal := max v 0 + Ideal.log1p (Ideal.exp (-(max v (-v))))

/-- The convolution's input `d` rows earlier, zero before the sequence's first row. -/
def tap (bt t ch d : ℕ) : EReal := if d ≤ t then A.xbc (bt * 8192 + (t - d)) ch else 0

/-- The causal depthwise convolution of width four. -/
def conv (bt t ch : ℕ) : EReal :=
  tap A bt t ch 0 * A.w 3 ch + A.b ch + tap A bt t ch 3 * A.w 0 ch + tap A bt t ch 2 * A.w 1 ch
    + tap A bt t ch 1 * A.w 2 ch

/-- The activated channel. -/
def act (bt t ch : ℕ) : EReal := silu (conv A bt t ch)

/-- The step size of head `h`. -/
def dt (bt t h : ℕ) : EReal := softplus (A.dtp (bt * 8192 + t) h + A.dtb h)

/-- The step's log decay. -/
def la (bt t h : ℕ) : EReal := dt A bt t h * -(Ideal.exp (A.alog h))

/-- The log decay summed from the chunk's first row through row `l`. -/
def ac (bt c h l : ℕ) : EReal := ∑ k ∈ Finset.range (l + 1), la A bt (c * 128 + k) h

/-- The activated channel times its head's step size. -/
def xdt (bt t ch : ℕ) : EReal := act A bt t ch * dt A bt t (ch / 64)

/-- Coordinate `n` of group `g`'s input projection. -/
def bm (bt t g n : ℕ) : EReal := act A bt t (8192 + g * 128 + n)

/-- Coordinate `n` of group `g`'s output projection. -/
def cm (bt t g n : ℕ) : EReal := act A bt t (9216 + g * 128 + n)

/-- The score of row `s` seen from row `l` of chunk `c`. -/
def sc (bt c g l s : ℕ) : EReal :=
  ∑ n : Fin 128, cm A bt (c * 128 + l) g n * bm A bt (c * 128 + s) g n

/-- The state entering chunk `c`. -/
def st (bt : ℕ) : ℕ → ℕ → ℕ → EReal
  | 0, _, _ => 0
  | c + 1, n, ch => st bt c n ch * Ideal.exp (ac A bt c (ch / 64) 127)
      + ∑ l : Fin 128, bm A bt (c * 128 + l) (ch / 1024) n
          * (Ideal.exp (ac A bt c (ch / 64) 127 - ac A bt c (ch / 64) l) * xdt A bt (c * 128 + l) ch)

/-- What the rows of the same chunk contribute. -/
def yd (bt c l ch : ℕ) : EReal :=
  ∑ s : Fin 128, (sc A bt c (ch / 1024) l s
      * (if s.val ≤ l then Ideal.exp (ac A bt c (ch / 64) l - ac A bt c (ch / 64) s) else 0))
    * xdt A bt (c * 128 + s) ch

/-- What the state entering the chunk contributes. -/
def yo (bt c l ch : ℕ) : EReal :=
  (∑ n : Fin 128, cm A bt (c * 128 + l) (ch / 1024) n * st A bt c n ch) * Ideal.exp (ac A bt c (ch / 64) l)

/-- The scan's output with the skip. -/
def y (bt c l ch : ℕ) : EReal :=
  yd A bt c l ch + yo A bt c l ch + act A bt (c * 128 + l) ch * A.dsk (ch / 64)

/-- … gated. -/
def gt (bt c l ch : ℕ) : EReal := y A bt c l ch * silu (A.z (bt * 8192 + (c * 128 + l)) ch)

/-- … and normalised over its group. -/
def out (bt c l ch : ℕ) : EReal :=
  gt A bt c l ch * Ideal.rsqrt (Ideal.div (∑ q : Fin 1024, gt A bt c l (ch / 1024 * 1024 + q) * gt A bt c l (ch / 1024 * 1024 + q))
      (Ideal.ofBits .f32 0x44800000#32) + Ideal.ofBits .f32 0x358637BD#32) * A.nw ch

/-! ## Finiteness of the step sizes and of the decays -/

/-- The step sizes before the softplus are below `+∞`. -/
structure Arrs.Fine : Prop where
  dtp : ∀ r h, A.dtp r h < ⊤
  dtb : ∀ h, A.dtb h < ⊤

end Cert.Ssd

end
-- ==== Proof.Finite.lean ====
/- The step sizes are real, the summed log decays are not positive, and so the decays are real. -/
module

public import proofs.«01_k».proof.Proof.Spec

@[expose] public section

noncomputable section

namespace Cert.Ssd

open Idealize.ShloMosaic

/-- The exponential of what is below `+∞` is a real. -/
theorem exp_real {x : EReal} (h : x < ⊤) : ∃ r : ℝ, Ideal.exp x = (r : EReal) := by
  induction x using EReal.rec with
  | bot => exact ⟨0, rfl⟩
  | coe r => exact ⟨Real.exp r, rfl⟩
  | top => exact absurd h (lt_irrefl _)

theorem exp_nonneg (x : EReal) : 0 ≤ Ideal.exp x := by
  induction x using EReal.rec with
  | bot => exact le_refl _
  | coe r => exact EReal.coe_nonneg.mpr (Real.exp_pos r).le
  | top => exact le_top

theorem log1p_real {r : ℝ} (h : 0 ≤ r) : ∃ s : ℝ, 0 ≤ s ∧ Ideal.log1p (r : EReal) = (s : EReal) := by
  refine ⟨Real.log (1 + r), Real.log_nonneg (by linarith), ?_⟩
  show Ideal.log (1 + (r : EReal)) = _
  rw [← EReal.coe_one, ← EReal.coe_add]
  show (if 1 + r ≤ 0 then ⊥ else ((Real.log (1 + r) : ℝ) : EReal)) = _
  rw [if_neg (by linarith)]

/-- The softplus of what is below `+∞` is a real that is not negative. -/
theorem softplus_real {v : EReal} (h : v < ⊤) : ∃ s : ℝ, 0 ≤ s ∧ softplus v = (s : EReal) := by
  unfold softplus
  have hexp : ∃ r : ℝ, 0 ≤ r ∧ Ideal.exp (-(max v (-v))) = (r : EReal) := by
    have hlt : -(max v (-v)) < ⊤ := by
      induction v using EReal.rec with
      | bot => simp
      | coe r =>
        rcases le_total (r : EReal) (-(r : EReal)) with h1 | h1
        · rw [max_eq_right h1, neg_neg]; exact h
        · rw [max_eq_left h1, ← EReal.coe_neg]; exact EReal.coe_lt_top _
      | top => exact absurd h (lt_irrefl _)
    obtain ⟨r, hr⟩ := exp_real hlt
    have h0 := exp_nonneg (-(max v (-v)))
    rw [hr] at h0
    exact ⟨r, EReal.coe_nonneg.mp h0, hr⟩
  obtain ⟨r, hr0, hr⟩ := hexp
  obtain ⟨s, hs0, hs⟩ := log1p_real hr0
  have hmax : ∃ m : ℝ, 0 ≤ m ∧ max v 0 = (m : EReal) := by
    induction v using EReal.rec with
    | bot => exact ⟨0, le_refl _, by simp⟩
    | coe r =>
      rcases le_total r 0 with h1 | h1
      · exact ⟨0, le_refl _, by rw [max_eq_right (by exact_mod_cast h1)]; rfl⟩
      · exact ⟨r, h1, by rw [max_eq_left (by exact_mod_cast h1)]⟩
    | top => exact absurd h (lt_irrefl _)
  obtain ⟨m, hm0, hm⟩ := hmax
  exact ⟨m + s, by linarith, by rw [hr, hs, hm, EReal.coe_add]⟩

/-- A step's log decay is not positive. -/
theorem decay_nonpos {d : EReal} (hd : 0 ≤ d) (a : EReal) : d * -(Ideal.exp a) ≤ 0 := by
  rw [mul_neg]
  exact EReal.neg_le_zero.mpr (mul_nonneg hd (exp_nonneg a))

/-- A difference of two log sums, the first the longer, is below `+∞`. -/
theorem sub_lt_top {a b : EReal} (hab : a ≤ b) (hb : b ≤ 0) : a - b < ⊤ := by
  induction b using EReal.rec with
  | bot =>
    rw [le_bot_iff.mp hab]
    simp
  | coe r =>
    refine lt_of_le_of_lt (EReal.sub_le_sub hab (le_refl _)) ?_
    rw [← EReal.coe_sub]
    exact EReal.coe_lt_top _
  | top => exact absurd hb (by simp)

/-- A partial sum of terms that are not positive is at most a shorter one. -/
theorem sum_range_anti {f : ℕ → EReal} (h : ∀ k, f k ≤ 0) {m n : ℕ} (hmn : m ≤ n) :
    ∑ k ∈ Finset.range n, f k ≤ ∑ k ∈ Finset.range m, f k := by
  induction n, hmn using Nat.le_induction with
  | base => exact le_refl _
  | succ n _ ih =>
    rw [Finset.sum_range_succ]
    calc _ ≤ (∑ k ∈ Finset.range n, f k) + 0 := add_le_add_right (h n) _
      _ ≤ _ := by rw [add_zero]; exact ih

theorem sum_range_nonpos {f : ℕ → EReal} (h : ∀ k, f k ≤ 0) (n : ℕ) : ∑ k ∈ Finset.range n, f k ≤ 0 := by
  simpa using sum_range_anti h (Nat.zero_le n)

/-- A row of reals, split into its rounded part and what the rounding left and spread by the one-hot matrix `E`, is the
    entry the matrix picks. -/
theorem spread (f : Fin 128 → EReal) (E F : Fin 128 → EReal) (k : Fin 128) (hf : ∀ x, ∃ r : ℝ, f x = (r : EReal))
    (hE : ∀ x : Fin 128, E x = if x.val = k.val then 1 else 0) :
    ∑ x, f x * E x + ∑ x, (f x - f x) * F x = f k := by
  have h0 : ∀ x, (f x - f x) * F x = 0 := by
    intro x
    obtain ⟨r, hr⟩ := hf x
    rw [hr, ← EReal.coe_sub, sub_self, EReal.coe_zero, zero_mul]
  rw [Finset.sum_eq_zero (fun x _ => h0 x), add_zero, Finset.sum_eq_single k]
  · rw [hE, if_pos rfl, mul_one]
  · intro x _ hx
    rw [hE, if_neg (fun h => hx (Fin.ext h)), mul_zero]
  · intro h; exact absurd (Finset.mem_univ _) h

/-- A sum over the rows up to row `l`. -/
theorem sum_upto (f : ℕ → EReal) (l : Fin 128) :
    ∑ x : Fin 128, (if x.val ≤ l.val then f x.val else 0) = ∑ k ∈ Finset.range (l.val + 1), f k := by
  rw [Finset.sum_fin_eq_sum_range, ← Finset.sum_filter_add_sum_filter_not (Finset.range 128) (fun k => k ≤ l.val)]
  rw [Finset.sum_eq_zero (s := (Finset.range 128).filter fun k => ¬ k ≤ l.val), add_zero]
  · refine Finset.sum_congr ?_ ?_ |>.trans rfl
    · ext k
      have := l.isLt
      simp only [Finset.mem_filter, Finset.mem_range]
      omega
    · intro k hk
      have := l.isLt
      rw [Finset.mem_range] at hk
      rw [dif_pos (by omega), if_pos (show k ≤ l.val by omega)]
  · intro k hk
    rw [Finset.mem_filter, Finset.mem_range] at hk
    rw [dif_pos hk.1, if_neg hk.2]

end Cert.Ssd

end
-- ==== Proof.BlkDecay.lean ====
/- The kernel's step sizes, summed log decays, their spread over the channels, and the scores, read at a row and a lane. -/
module

public import proofs.«01_k».proof.Proof.Gen.KernelIdeal.Skeleton
public import proofs.«01_k».proof.Proof.Spec
public import Idealize.ShloMosaic.Lib.WordCmp
public import proofs.«01_k».proof.Proof.Finite

@[expose] public section

set_option maxRecDepth 16384

noncomputable section

namespace Cert.KernelIdeal.Blk

open Cert.KernelIdeal Cert.KernelIdeal.Gen Idealize.ShloMosaic Cert.Ssd

variable (A : Arrs)

/-- The step size a lane holds: the head `16 g + j`'s at lane `j`, the lanes wrapping round. -/
def dtL (bt t g j : ℕ) : EReal :=
  softplus (A.dtp (bt * 8192 + t) ((j + 16 * g) % 128) + if j < 16 then A.dtb (g * 16 + j) else 0)

/-- The log decay a lane holds. -/
def laL (bt t g j : ℕ) : EReal :=
  dtL A bt t g j * -(Ideal.exp (if j < 16 then A.alog (g * 16 + j) else 0))

/-- The summed log decay a lane holds. -/
def acL (bt c g l j : ℕ) : EReal := ∑ k ∈ Finset.range (l + 1), laL A bt (c * 128 + k) g j

/-- What the step blocks hold. -/
structure DtBlk (bt c g : ℕ) (x7 : FVec Ideal S128x128 .f32) (x14 x15 : FVec Ideal S1x1x128 .f32) : Prop where
  dtp : ∀ (l : Fin 128) (h : Fin 128), x7 (ix2 l h) = A.dtp (bt * 8192 + (c * 128 + l.val)) h.val
  dtb : ∀ j : Fin 128, x14 (ix3 0 0 j) = if j.val < 16 then A.dtb (g * 16 + j.val) else 0
  alog : ∀ j : Fin 128, x15 (ix3 0 0 j) = if j.val < 16 then A.alog (g * 16 + j.val) else 0

variable {A}

/-- A choice by the order of two rows. -/
theorem sel_le (x l : Fin 128) (a : EReal) :
    Scalar.select (IntOp.cmpi .sle (BitVec.ofNat 32 x.val) (BitVec.ofNat 32 l.val)) a 0 = if x.val ≤ l.val then a else 0 := by
  have e : ∀ x l : Fin 128, IntOp.cmpi .sle (BitVec.ofNat 32 x.val) (BitVec.ofNat 32 l.val) = BitVec.ofBool (decide (x.val ≤ l.val)) := fun x l =>
    WordCmp.cmpi_sle_ofNat (by have := x.isLt; omega) (by have := l.isLt; omega)
  rw [e]
  by_cases h : x.val ≤ l.val
  · rw [if_pos h, decide_eq_true h]; rfl
  · rw [if_neg h, decide_eq_false h]; rfl

theorem lane_shift (j r g : ℕ) (hg : g < 8) (h : r = (128 - 16 * g) % 128) : (j + 128 - r) % 128 = (j + 16 * g) % 128 := by
  omega

theorem dt_blk {bt c : ℕ} {g : Fin 8} {x7 : FVec Ideal S128x128 .f32} {x14 x15 : FVec Ideal S1x1x128 .f32}
    (h : DtBlk A bt c g.val x7 x14 x15) (l j : Fin 128) :
    k0_pay14 (F := Ideal) (BitVec.ofNat 32 (16 * g.val)) x7 x14 (ix2 l j) = dtL A bt (c * 128 + l.val) g.val j.val := by
  pointwise [k0_pay14]
  rw [h.dtb, h.dtp, zero_sub]
  unfold dtL
  refine congrArg (fun v => softplus (A.dtp _ v + _)) (lane_shift j.val _ g.val g.isLt ?_)
  clear h
  revert g
  decide +kernel

/-- A lane's step size is a real that is not negative. -/
theorem dtL_real (hA : A.Fine) (bt t g j : ℕ) : ∃ s : ℝ, 0 ≤ s ∧ dtL A bt t g j = (s : EReal) := by
  unfold dtL
  refine softplus_real (EReal.add_lt_top (hA.dtp _ _).ne ?_)
  split
  · exact (hA.dtb _).ne
  · exact EReal.zero_ne_top

theorem laL_nonpos (hA : A.Fine) (bt t g j : ℕ) : laL A bt t g j ≤ 0 := by
  obtain ⟨s, hs, e⟩ := dtL_real hA bt t g j
  unfold laL
  exact decay_nonpos (by rw [e]; exact EReal.coe_nonneg.mpr hs) _

theorem acL_nonpos (hA : A.Fine) (bt c g l j : ℕ) : acL A bt c g l j ≤ 0 :=
  sum_range_nonpos (fun _ => laL_nonpos hA _ _ _ _) _

theorem acL_anti (hA : A.Fine) (bt c g j : ℕ) {l l' : ℕ} (h : l ≤ l') : acL A bt c g l' j ≤ acL A bt c g l j :=
  sum_range_anti (fun _ => laL_nonpos hA _ _ _ _) (Nat.succ_le_succ h)

theorem dtL_eq (bt t g : ℕ) (j : ℕ) (hg : g < 8) (hj : j < 16) : dtL A bt t g j = dt A bt t (g * 16 + j) := by
  unfold dtL dt
  rw [if_pos hj, show (j + 16 * g) % 128 = g * 16 + j by omega]

theorem acL_eq (bt c g l : ℕ) (j : ℕ) (hg : g < 8) (hj : j < 16) : acL A bt c g l j = ac A bt c (g * 16 + j) l := by
  unfold acL ac laL la
  refine Finset.sum_congr rfl fun k _ => ?_
  rw [dtL_eq _ _ _ _ hg hj, if_pos hj]

theorem ac_blk {bt c : ℕ} {g : Fin 8} {x7 : FVec Ideal S128x128 .f32} {x14 x15 : FVec Ideal S1x1x128 .f32}
    (h : DtBlk A bt c g.val x7 x14 x15) (l j : Fin 128) :
    k0_pay16 (F := Ideal) (BitVec.ofNat 32 (16 * g.val)) x7 x14 x15 (ix2 l j) = acL A bt c g.val l.val j.val := by
  pointwise [k0_pay16, k0_pay15]
  unfold acL
  rw [← sum_upto (fun k => laL A bt (c * 128 + k) g.val j.val) l]
  refine Finset.sum_congr rfl fun x _ => ?_
  rw [dt_blk h, h.alog, zero_sub]
  unfold laL
  exact sel_le x l _

/-- The matrix that spreads the lanes over the channels. -/
def Spread (E : FVec Ideal S256x1024 .bf16) : Prop :=
  ∀ (k : Fin 256) (q : Fin 1024), E (ix2 k q) = if k.val % 128 = q.val / 64 then 1 else 0

variable {ac : FVec Ideal S128x128 .f32} {E : FVec Ideal S256x1024 .bf16} (hE : Spread E) (X : FVec Ideal S128x1024 .f32) (D : FVec Ideal S128x128 .f32)
  (Bm Cm : FVec Ideal S128x128 .f32)

theorem eac_blk (hA : A.Fine) {bt c g : ℕ} (hac : ∀ l j : Fin 128, ac (ix2 l j) = acL A bt c g l.val j.val) (hE : Spread E) (l : Fin 128) (q : Fin 1024) :
    k0_pay19 (F := Ideal) ac E (ix2 l q) = Ideal.exp (acL A bt c g l.val (q.val / 64)) := by
  pointwise [k0_pay19, k0_pay18]
  refine (spread (fun x => Ideal.exp (ac (ix2 l x))) _ _ ⟨q.val / 64, by omega⟩ (fun x => ?_) (fun x => ?_)).trans ?_
  · exact exp_real (by rw [hac]; exact lt_of_le_of_lt (acL_nonpos hA _ _ _ _ _) EReal.zero_lt_top)
  · refine (hE _ _).trans ?_
    simp only [Nat.mod_eq_of_lt x.isLt]
  · rw [hac]

theorem dec_blk (hA : A.Fine) {bt c g : ℕ} (hac : ∀ l j : Fin 128, ac (ix2 l j) = acL A bt c g l.val j.val) (hE : Spread E) (l : Fin 128) (q : Fin 1024) :
    k0_pay20 (F := Ideal) ac E (ix2 l q)
      = Ideal.exp (acL A bt c g 127 (q.val / 64) - acL A bt c g l.val (q.val / 64)) := by
  pointwise [k0_pay20, k0_pay18]
  refine (spread (fun x => Ideal.exp (ac (ix2 ⟨127, by omega⟩ x) - ac (ix2 l x))) _ _ ⟨q.val / 64, by omega⟩ (fun x => ?_) (fun x => ?_)).trans ?_
  · rw [hac, hac]
    exact exp_real (sub_lt_top (acL_anti hA _ _ _ _ (Nat.le_of_lt_succ l.isLt)) (acL_nonpos hA _ _ _ _ _))
  · refine (hE _ _).trans ?_
    simp only [Nat.mod_eq_of_lt x.isLt]
  · rw [hac, hac]

theorem xdt_blk (hA : A.Fine) {bt t g : ℕ} {X : FVec Ideal S128x1024 .f32} {D : FVec Ideal S128x128 .f32} (l : Fin 128)
    (hD : ∀ j : Fin 128, D (ix2 l j) = dtL A bt t g j.val) (hE : Spread E) (q : Fin 1024) :
    k0_pay22 (F := Ideal) X D E (ix2 l q) = X (ix2 l q) * dtL A bt t g (q.val / 64) := by
  pointwise [k0_pay22, k0_pay21, k0_pay18]
  refine congrArg (X (ix2 l q) * ·) ?_
  refine (spread (fun x => D (ix2 l x)) _ _ ⟨q.val / 64, by omega⟩ (fun x => ?_) (fun x => ?_)).trans ?_
  · obtain ⟨s, _, e⟩ := dtL_real hA bt t g x.val
    exact ⟨s, by rw [hD, e]⟩
  · refine (hE _ _).trans ?_
    simp only [Nat.mod_eq_of_lt x.isLt]
  · rw [hD]

theorem sc_blk (Bm Cm : FVec Ideal S128x128 .f32) (l s : Fin 128) :
    k0_pay24 (F := Ideal) Bm Cm (ix2 l s) = ∑ x : Fin 128, Cm (ix2 l x) * Bm (ix2 s x) := by
  pointwise [k0_pay24, k0_pay23]

end Cert.KernelIdeal.Blk

end
-- ==== Proof.HostOps.lean ====
/- The operands the host computes before the call, at an index. -/
module

public import proofs.«01_k».proof.Proof.Gen.KernelIdeal.Frame
public import proofs.«01_k».proof.Proof.BlkDecay
public import Idealize.ShloMosaic.Lib.Pipeline.ValueKit
public import Idealize.ShloMosaic.Lib.Pointwise
public import Idealize.ShloMosaic.Lib.WordCmp
public import Idealize.ShloMosaic.Lib.Claim
public import Idealize.ShloMosaic.Lib.Pipeline.Value

@[expose] public section

set_option maxRecDepth 16384

noncomputable section

namespace Cert.KernelIdeal.Blk

open Cert.KernelIdeal Cert.KernelIdeal.Gen Idealize.ShloMosaic Idealize.ShloMosaic.TcCoe Idealize.SL.Sem Cert.Ssd

variable (m : (ℓ : Loc nD τ sig) → Buf (Elt Ideal) ℓ) (c : Dev nD)

theorem v13_at (q : Fin 10240) : V m c main_v13 (ix2 0 q) = m ((c : Thread nD τ).loc main_arg4) (ix1 q) := by
  simp only [V, hostOps0, hostOps0_1, hostOps0_2, hostOps0_3, hostOps0_4, hostOps0_5, hostOps0_6, List.flatten_cons, List.flatten_nil, List.append_nil,
    List.cons_append, List.nil_append]
  after_results
  pointwise

theorem v14_at (q : Fin 10240) : V m c main_v14 (ix2 0 q) = m ((c : Thread nD τ).loc main_arg4) (ix1 q) := by
  simp only [V, hostOps0, hostOps0_1, hostOps0_2, hostOps0_3, hostOps0_4, hostOps0_5, hostOps0_6, List.flatten_cons, List.flatten_nil, List.append_nil,
    List.cons_append, List.nil_append]
  after_results
  pointwise

theorem v15_at (q : Fin 10240) : V m c main_v15 (ix2 0 q) = m ((c : Thread nD τ).loc main_arg4) (ix1 q) := by
  simp only [V, hostOps0, hostOps0_1, hostOps0_2, hostOps0_3, hostOps0_4, hostOps0_5, hostOps0_6, List.flatten_cons, List.flatten_nil, List.append_nil,
    List.cons_append, List.nil_append]
  after_results
  pointwise

theorem v20_at (q : Fin 8192) : V m c main_v20 (ix2 0 q) = m ((c : Thread nD τ).loc main_arg8) (ix1 q) := by
  simp only [V, hostOps0, hostOps0_1, hostOps0_2, hostOps0_3, hostOps0_4, hostOps0_5, hostOps0_6, List.flatten_cons, List.flatten_nil, List.append_nil,
    List.cons_append, List.nil_append]
  after_results
  pointwise

theorem v2_at (q : Fin 8192) : V m c main_v2 (ix2 0 q) = m ((c : Thread nD τ).loc main_arg7) (ix1 ⟨q.val / 64, by omega⟩) := by
  simp only [V, hostOps0, hostOps0_1, hostOps0_2, hostOps0_3, hostOps0_4, hostOps0_5, hostOps0_6, List.flatten_cons, List.flatten_nil, List.append_nil,
    List.cons_append, List.nil_append]
  after_results
  pointwise
  try trace_state

/-- The heads' parameters by groups of sixteen, padded with zeros to a block's lanes. -/
def padded (x : FVec Ideal S128 .f32) : FVec Ideal S8x1x128 .f32 :=
  pad S8x1x128 ![0, 0, 0] ![0, 0, 112] ![0, 0, 0] (shapeCast S8x1x16 x shapeCasts_S128_S8x1x16) (sitofp (F := Ideal) .f32 (constantI S_ 32 0#32))
    pads_S8x1x16_S8x1x128_000_000_01120 h_S_

theorem padded_at (x : FVec Ideal S128 .f32) (g : Fin 8) (j : Fin 128) :
    padded x (ix3 g 0 j) = if j.val < 16 then rd1 x (g.val * 16 + j.val) else 0 := by
  pointwise [padded]
  by_cases h : j.val < 16
  · rw [if_pos h]
    refine (dif_pos (by omega)).trans ?_
    unfold rd1
    rw [dif_pos (by omega)]
  · rw [if_neg h]
    refine (dif_neg (by omega)).trans ?_
    simp [FloatOps.sitofp]

theorem v17_eq : V m c main_v17 = padded (m ((c : Thread nD τ).loc main_arg5)) := by
  simp only [V, hostOps0, hostOps0_1, hostOps0_2, hostOps0_3, hostOps0_4, hostOps0_5, hostOps0_6, List.flatten_cons, List.flatten_nil, List.append_nil,
    List.cons_append, List.nil_append]
  after_results
  rfl

theorem v19_eq : V m c main_v19 = padded (m ((c : Thread nD τ).loc main_arg6)) := by
  simp only [V, hostOps0, hostOps0_1, hostOps0_2, hostOps0_3, hostOps0_4, hostOps0_5, hostOps0_6, List.flatten_cons, List.flatten_nil, List.append_nil,
    List.cons_append, List.nil_append]
  after_results
  rfl

/-- The head (of a group's sixteen) of every channel. -/
def heads : IVec S1024 32 :=
  select
    (andi (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32)))
        (broadcastInDim S1024 ![] bcast_S_S1024 (constantI S_ 32 0#32))))
    (subi (Host.divsi (iotaInDim S1024 32 0) (broadcastInDim S1024 ![] bcast_S_S1024 (constantI S_ 32 64#32)))
      (broadcastInDim S1024 ![] bcast_S_S1024 (constantI S_ 32 1#32)))
    (Host.divsi (iotaInDim S1024 32 0) (broadcastInDim S1024 ![] bcast_S_S1024 (constantI S_ 32 64#32)))

theorem heads_at (q : Fin 1024) : heads (ix1 q) = BitVec.ofNat 32 (q.val / 64) := by
  pointwise [heads]
  revert q
  decide +kernel

/-- A head's lane spread over its channels. -/
def spreadRow : FVec Ideal S128x1024 .bf16 :=
  uitofp .bf16 (cmpi .eq
    (broadcastInDim S128x1024 ![0, 1] bcast_S128x1_S128x1024_0_1 (broadcastInDim S128x1 ![0] bcast_S128_S128x1_0 (iotaInDim S128 32 0)))
    (broadcastInDim S128x1024 ![0, 1] bcast_S1x1024_S128x1024_0_1 (broadcastInDim S1x1024 ![1] bcast_S1024_S1x1024_1 heads)))

theorem spreadRow_at (k : Fin 128) (q : Fin 1024) : spreadRow (ix2 k q) = if k.val = q.val / 64 then 1 else 0 := by
  have e : spreadRow (ix2 k q) = FloatOps.uitofp (F := Ideal) .bf16 (IntOp.cmpi .eq (BitVec.ofNat 32 k.val) (heads (ix1 q))) := by
    pointwise [spreadRow]
  rw [e, heads_at]
  have h : IntOp.cmpi .eq (BitVec.ofNat 32 k.val) (BitVec.ofNat 32 (q.val / 64)) = BitVec.ofBool (decide (k.val = q.val / 64)) :=
    WordCmp.cmpi_eq_ofNat (by omega) (by omega)
  rw [h]
  by_cases hk : k.val = q.val / 64
  · rw [if_pos hk, decide_eq_true hk]
    simp [FloatOps.uitofp]
  · rw [if_neg hk, decide_eq_false hk]
    simp [FloatOps.uitofp]

theorem v12_eq : V m c main_v12
    = concatenate S256x1024 0 [⟨S128x1024, spreadRow⟩, ⟨S128x1024, spreadRow⟩] concatenates_S128x1024_S128x1024_S256x1024_d0 := by
  simp only [V, hostOps0, hostOps0_1, hostOps0_2, hostOps0_3, hostOps0_4, hostOps0_5, hostOps0_6, List.flatten_cons, List.flatten_nil, List.append_nil,
    List.cons_append, List.nil_append]
  after_results
  rfl

theorem v12_at : Spread (V m c main_v12) := by
  intro k q
  rw [v12_eq]
  pointwise
  by_cases h : k.val < 128
  · refine (dif_pos h).trans ?_
    rw [spreadRow_at, Nat.mod_eq_of_lt h]
  · refine (dif_neg h).trans ?_
    rw [spreadRow_at]
    have e : k.val % 128 = k.val - 128 := by omega
    rw [e]

end Cert.KernelIdeal.Blk

end
-- ==== Proof.ConvBlk.lean ====
/- The kernel's activated channels: a block's payload of the causal convolution (the rows before a row found by a
   one-hot matrix against the previous and the current row block) read at a row and a channel. -/
module

public import proofs.«01_k».proof.Proof.Gen.KernelIdeal.Skeleton
public import proofs.«01_k».proof.Proof.Spec

@[expose] public section

set_option maxRecDepth 16384

noncomputable section

namespace Cert.KernelIdeal.Blk

open Cert.KernelIdeal Cert.KernelIdeal.Gen Idealize.ShloMosaic Cert.Ssd

/-- The kernel's word test "column `x` is the row `d` before row `l`", for the three distances. -/
theorem eqw : ∀ l x : Fin 128,
    IntOp.cmpi .eq (BitVec.ofNat 32 x.val) (IntOp.addi (BitVec.ofNat 32 l.val) 125#32) = BitVec.ofBool (decide (x.val = l.val + 125))
    ∧ IntOp.cmpi .eq (BitVec.ofNat 32 x.val) (IntOp.addi (BitVec.ofNat 32 l.val) 126#32) = BitVec.ofBool (decide (x.val = l.val + 126))
    ∧ IntOp.cmpi .eq (BitVec.ofNat 32 x.val) (IntOp.addi (BitVec.ofNat 32 l.val) 127#32) = BitVec.ofBool (decide (x.val = l.val + 127))
    ∧ IntOp.cmpi .eq (BitVec.ofNat 32 (128 + x.val)) (IntOp.addi (BitVec.ofNat 32 l.val) 125#32) = BitVec.ofBool (decide (128 + x.val = l.val + 125))
    ∧ IntOp.cmpi .eq (BitVec.ofNat 32 (128 + x.val)) (IntOp.addi (BitVec.ofNat 32 l.val) 126#32) = BitVec.ofBool (decide (128 + x.val = l.val + 126))
    ∧ IntOp.cmpi .eq (BitVec.ofNat 32 (128 + x.val)) (IntOp.addi (BitVec.ofNat 32 l.val) 127#32) = BitVec.ofBool (decide (128 + x.val = l.val + 127)) := by
  decide +kernel

/-- The previous block's columns are below 128. -/
theorem sge_lo : ∀ x : Fin 128, IntOp.cmpi .sge (BitVec.ofNat 32 x.val) 128#32 = 0#1 := by decide +kernel

/-- The current block's are not. -/
theorem sge_hi : ∀ x : Fin 128, IntOp.cmpi .sge (BitVec.ofNat 32 (128 + x.val)) 128#32 = 1#1 := by decide +kernel

/-- The mask that keeps the previous block: not at a sequence's first chunk. -/
theorem keepw : ∀ c : Fin 64, Scalar.xori (Scalar.cmpi .eq (BitVec.ofNat 32 c.val) 0#32) 1#1 = BitVec.ofBool (decide (c.val ≠ 0)) := by
  decide +kernel

/-- The kernel's one-hot row sum over a pair of blocks is the row `d` earlier: in the current block, in the previous
    one, or zero before the sequence. -/
theorem tap_core (e1 e2 k1 k2 : Fin 128 → BitVec 1) (kp : BitVec 1) (c d : ℕ) (hd : d ≤ 127) (hd0 : 0 < d) (l : Fin 128)
    (he1 : ∀ x, e1 x = BitVec.ofBool (decide (x.val + d = l.val + 128)))
    (he2 : ∀ x, e2 x = BitVec.ofBool (decide (x.val + d = l.val)))
    (hk1 : ∀ x, k1 x = 0#1) (hk2 : ∀ x, k2 x = 1#1) (hkp : kp = BitVec.ofBool (decide (c ≠ 0)))
    (f g : Fin 128 → EReal) (T : EReal)
    (h2 : ∀ x : Fin 128, x.val + d = l.val → g x = T)
    (h1 : c ≠ 0 → ∀ x : Fin 128, x.val + d = l.val + 128 → f x = T)
    (h0 : c = 0 → l.val < d → T = 0) :
    (∑ x, Scalar.select (IntOp.andi (e1 x) (IntOp.ori (k1 x) kp)) (f x) 0)
      + ∑ x, Scalar.select (IntOp.andi (e2 x) (IntOp.ori (k2 x) kp)) (g x) 0 = T := by
  have s1 : ∀ x, Scalar.select (IntOp.andi (e1 x) (IntOp.ori (k1 x) kp)) (f x) 0
      = if x.val + d = l.val + 128 ∧ c ≠ 0 then f x else 0 := by
    intro x
    rw [he1, hk1, hkp]
    by_cases h : x.val + d = l.val + 128 <;> by_cases hc : c = 0 <;> simp [h, hc, Scalar.select, IntOp.andi, IntOp.ori]
  have s2 : ∀ x, Scalar.select (IntOp.andi (e2 x) (IntOp.ori (k2 x) kp)) (g x) 0
      = if x.val + d = l.val then g x else 0 := by
    intro x
    rw [he2, hk2, hkp]
    by_cases h : x.val + d = l.val <;> by_cases hc : c = 0 <;> simp [h, hc, Scalar.select, IntOp.andi, IntOp.ori]
  rw [Finset.sum_congr rfl fun x _ => s1 x, Finset.sum_congr rfl fun x _ => s2 x]
  by_cases hl : d ≤ l.val
  · rw [Finset.sum_eq_zero (fun x _ => if_neg (fun h => by have := x.isLt; omega)), zero_add,
      Finset.sum_eq_single (⟨l.val - d, by omega⟩ : Fin 128)]
    · rw [if_pos (by simp; omega)]; exact h2 _ (by simp; omega)
    · intro x _ hx; exact if_neg (fun h => hx (Fin.ext (by simp; omega)))
    · intro h; exact absurd (Finset.mem_univ _) h
  · rw [add_comm, Finset.sum_eq_zero (fun x _ => if_neg (fun h => by omega)), zero_add]
    by_cases hc : c = 0
    · rw [Finset.sum_eq_zero (fun x _ => if_neg (fun h => h.2 hc))]; exact (h0 hc (by omega)).symm
    · rw [Finset.sum_eq_single (⟨l.val + 128 - d, by omega⟩ : Fin 128)]
      · rw [if_pos ⟨by simp; omega, hc⟩]; exact h1 hc _ (by simp; omega)
      · intro x _ hx; exact if_neg (fun h => hx (Fin.ext (by simp; omega)))
      · intro h; exact absurd (Finset.mem_univ _) h

variable (A : Arrs)

/-- What a pair of row blocks of the convolution's input holds at chunk `c` of batch entry `bt`, columns from `q0`. -/
structure InBlk {n : ℕ} (bt c q0 : ℕ) (x0 x1 : FVec Ideal ⟨2, ![128, n]⟩ .bf16) : Prop where
  cur : ∀ (l : Fin 128) (q : Fin n), x0 (ix2 l q) = A.xbc (bt * 8192 + (c * 128 + l.val)) (q0 + q.val)
  prev : c ≠ 0 → ∀ (l : Fin 128) (q : Fin n), x1 (ix2 l q) = A.xbc (bt * 8192 + ((c - 1) * 128 + l.val)) (q0 + q.val)

/-- What a block of the convolution's weights and bias holds, columns from `q0`. -/
structure WBlk {n : ℕ} (q0 : ℕ) (w : FVec Ideal ⟨2, ![4, n]⟩ .f32) (b : FVec Ideal ⟨2, ![1, n]⟩ .f32) : Prop where
  w : ∀ (k : Fin 4) (q : Fin n), w (ix2 k q) = A.w k.val (q0 + q.val)
  b : ∀ (q : Fin n), b (ix2 0 q) = A.b (q0 + q.val)

/-- The one-hot row sum over a pair of input blocks is the convolution's tap. -/
theorem tap_blk {n : ℕ} {bt c q0 : ℕ} {x0 x1 : FVec Ideal ⟨2, ![128, n]⟩ .bf16} (hx : InBlk A bt c q0 x0 x1)
    (d : ℕ) (hd : d ≤ 127) (hd0 : 0 < d) (l : Fin 128) (q : Fin n) (e1 e2 : Fin 128 → BitVec 1) (kp : BitVec 1)
    (he1 : ∀ x, e1 x = BitVec.ofBool (decide (x.val + d = l.val + 128)))
    (he2 : ∀ x, e2 x = BitVec.ofBool (decide (x.val + d = l.val))) (hkp : kp = BitVec.ofBool (decide (c ≠ 0))) :
    (∑ x : Fin 128, Scalar.select (IntOp.andi (e1 x) (IntOp.ori (IntOp.cmpi .sge (BitVec.ofNat 32 x.val) 128#32) kp)) (x1 (ix2 x q) : EReal) 0)
      + ∑ x : Fin 128, Scalar.select (IntOp.andi (e2 x) (IntOp.ori (IntOp.cmpi .sge (BitVec.ofNat 32 (128 + x.val)) 128#32) kp)) (x0 (ix2 x q) : EReal) 0
      = tap A bt (c * 128 + l.val) (q0 + q.val) d := by
  refine tap_core e1 e2 _ _ kp c d hd hd0 l he1 he2 sge_lo sge_hi hkp _ _ _ ?_ ?_ ?_
  · intro x h
    rw [hx.cur]; unfold tap; rw [if_pos (by omega)]; congr 1; omega
  · intro hc x h
    rw [hx.prev hc]; unfold tap; rw [if_pos (by omega)]; congr 1; have := x.isLt; omega
  · intro hc hl
    unfold tap; exact if_neg (by omega)

/-- The two word tests of `tap_blk` at a distance. -/
theorem e1w (l : Fin 128) : (∀ x : Fin 128, IntOp.cmpi .eq (BitVec.ofNat 32 x.val) (IntOp.addi (BitVec.ofNat 32 l.val) 125#32) = BitVec.ofBool (decide (x.val + 3 = l.val + 128)))
    ∧ (∀ x : Fin 128, IntOp.cmpi .eq (BitVec.ofNat 32 x.val) (IntOp.addi (BitVec.ofNat 32 l.val) 126#32) = BitVec.ofBool (decide (x.val + 2 = l.val + 128)))
    ∧ (∀ x : Fin 128, IntOp.cmpi .eq (BitVec.ofNat 32 x.val) (IntOp.addi (BitVec.ofNat 32 l.val) 127#32) = BitVec.ofBool (decide (x.val + 1 = l.val + 128)))
    ∧ (∀ x : Fin 128, IntOp.cmpi .eq (BitVec.ofNat 32 (128 + x.val)) (IntOp.addi (BitVec.ofNat 32 l.val) 125#32) = BitVec.ofBool (decide (x.val + 3 = l.val)))
    ∧ (∀ x : Fin 128, IntOp.cmpi .eq (BitVec.ofNat 32 (128 + x.val)) (IntOp.addi (BitVec.ofNat 32 l.val) 126#32) = BitVec.ofBool (decide (x.val + 2 = l.val)))
    ∧ (∀ x : Fin 128, IntOp.cmpi .eq (BitVec.ofNat 32 (128 + x.val)) (IntOp.addi (BitVec.ofNat 32 l.val) 127#32) = BitVec.ofBool (decide (x.val + 1 = l.val))) := by
  refine ⟨fun x => ?_, fun x => ?_, fun x => ?_, fun x => ?_, fun x => ?_, fun x => ?_⟩
  · rw [(eqw l x).1]; congr 2; exact propext (by omega)
  · rw [(eqw l x).2.1]; congr 2; exact propext (by omega)
  · rw [(eqw l x).2.2.1]; congr 2; exact propext (by omega)
  · rw [(eqw l x).2.2.2.1]; congr 2; exact propext (by omega)
  · rw [(eqw l x).2.2.2.2.1]; congr 2; exact propext (by omega)
  · rw [(eqw l x).2.2.2.2.2]; congr 2; exact propext (by omega)

/-- The channels' block. -/
theorem actX_eq (i : grid0.Coords) {bt c q0 : ℕ} (hc : c < 64) (hi : (i 2).val = c) {x0 x1 : FVec Ideal S128x1024 .bf16}
    (hx : InBlk A bt c q0 x0 x1) {w : FVec Ideal S4x1024 .f32} {b : FVec Ideal S1x1024 .f32} (hw : WBlk A q0 w b)
    (l : Fin 128) (q : Fin 1024) :
    k0_pay10 (F := Ideal) (k0_pay4 (Scalar.cmpi .eq (BitVec.ofNat 32 (i 2).val) 0#32)) (k0_pay5 (Scalar.cmpi .eq (BitVec.ofNat 32 (i 2).val) 0#32)) (k0_pay6 (Scalar.cmpi .eq (BitVec.ofNat 32 (i 2).val) 0#32)) (k0_pay7 x0 x1) w (k0_pay8 x0 w) (k0_pay9 b) (ix2 l q) = act A bt (c * 128 + l.val) (q0 + q.val) := by
  have hkp : Scalar.xori (Scalar.cmpi .eq (BitVec.ofNat 32 (i 2).val) 0#32) 1#1 = BitVec.ofBool (decide (c ≠ 0)) := by
    rw [hi]; exact keepw ⟨c, hc⟩
  obtain ⟨a1, a2, a3, b1, b2, b3⟩ := e1w l
  have t3 := tap_blk A hx 3 (by decide) (by decide) l q _ _ _ a1 b1 hkp
  have t2 := tap_blk A hx 2 (by decide) (by decide) l q _ _ _ a2 b2 hkp
  have t1 := tap_blk A hx 1 (by decide) (by decide) l q _ _ _ a3 b3 hkp
  have t0 : x0 (ix2 l q) = tap A bt (c * 128 + l.val) (q0 + q.val) 0 := by
    rw [hx.cur]; unfold tap; rw [if_pos (Nat.zero_le _), Nat.sub_zero]
  pointwise [k0_pay10, k0_pay9, k0_pay8, k0_pay4, k0_pay5, k0_pay6, k0_pay3, k0_pay7]
  unfold act silu conv
  have w0 := hw.w 0 q
  have w1 := hw.w 1 q
  have w2 := hw.w 2 q
  have w3 := hw.w 3 q
  rw [t3, t2, t1, t0, w0, w1, w2, w3, hw.b]
  rfl

/-- The input projection's block. -/
theorem actB_eq (i : grid0.Coords) {bt c q0 : ℕ} (hc : c < 64) (hi : (i 2).val = c) {x0 x1 : FVec Ideal S128x128 .bf16}
    (hx : InBlk A bt c q0 x0 x1) {w : FVec Ideal S4x128 .f32} {b : FVec Ideal S1x128 .f32} (hw : WBlk A q0 w b)
    (l : Fin 128) (q : Fin 128) :
    k0_pay12 (F := Ideal) (k0_pay11 (k0_pay4 (Scalar.cmpi .eq (BitVec.ofNat 32 (i 2).val) 0#32)) (k0_pay5 (Scalar.cmpi .eq (BitVec.ofNat 32 (i 2).val) 0#32)) (k0_pay6 (Scalar.cmpi .eq (BitVec.ofNat 32 (i 2).val) 0#32)) x0 x1 w b) (ix2 l q) = act A bt (c * 128 + l.val) (q0 + q.val) := by
  have hkp : Scalar.xori (Scalar.cmpi .eq (BitVec.ofNat 32 (i 2).val) 0#32) 1#1 = BitVec.ofBool (decide (c ≠ 0)) := by
    rw [hi]; exact keepw ⟨c, hc⟩
  obtain ⟨a1, a2, a3, b1, b2, b3⟩ := e1w l
  have t3 := tap_blk A hx 3 (by decide) (by decide) l q _ _ _ a1 b1 hkp
  have t2 := tap_blk A hx 2 (by decide) (by decide) l q _ _ _ a2 b2 hkp
  have t1 := tap_blk A hx 1 (by decide) (by decide) l q _ _ _ a3 b3 hkp
  have t0 : x0 (ix2 l q) = tap A bt (c * 128 + l.val) (q0 + q.val) 0 := by
    rw [hx.cur]; unfold tap; rw [if_pos (Nat.zero_le _), Nat.sub_zero]
  pointwise [k0_pay12, k0_pay11, k0_pay4, k0_pay5, k0_pay6, k0_pay3]
  unfold act silu conv
  have w0 := hw.w 0 q
  have w1 := hw.w 1 q
  have w2 := hw.w 2 q
  have w3 := hw.w 3 q
  rw [t3, t2, t1, t0, w0, w1, w2, w3, hw.b]
  rfl

/-- The output projection's block. -/
theorem actC_eq (i : grid0.Coords) {bt c q0 : ℕ} (hc : c < 64) (hi : (i 2).val = c) {x0 x1 : FVec Ideal S128x128 .bf16}
    (hx : InBlk A bt c q0 x0 x1) {w : FVec Ideal S4x128 .f32} {b : FVec Ideal S1x128 .f32} (hw : WBlk A q0 w b)
    (l : Fin 128) (q : Fin 128) :
    k0_pay13 (F := Ideal) (k0_pay4 (Scalar.cmpi .eq (BitVec.ofNat 32 (i 2).val) 0#32)) (k0_pay5 (Scalar.cmpi .eq (BitVec.ofNat 32 (i 2).val) 0#32)) (k0_pay6 (Scalar.cmpi .eq (BitVec.ofNat 32 (i 2).val) 0#32)) x0 x1 w b (ix2 l q) = act A bt (c * 128 + l.val) (q0 + q.val) := by
  have hkp : Scalar.xori (Scalar.cmpi .eq (BitVec.ofNat 32 (i 2).val) 0#32) 1#1 = BitVec.ofBool (decide (c ≠ 0)) := by
    rw [hi]; exact keepw ⟨c, hc⟩
  obtain ⟨a1, a2, a3, b1, b2, b3⟩ := e1w l
  have t3 := tap_blk A hx 3 (by decide) (by decide) l q _ _ _ a1 b1 hkp
  have t2 := tap_blk A hx 2 (by decide) (by decide) l q _ _ _ a2 b2 hkp
  have t1 := tap_blk A hx 1 (by decide) (by decide) l q _ _ _ a3 b3 hkp
  have t0 : x0 (ix2 l q) = tap A bt (c * 128 + l.val) (q0 + q.val) 0 := by
    rw [hx.cur]; unfold tap; rw [if_pos (Nat.zero_le _), Nat.sub_zero]
  pointwise [k0_pay13, k0_pay4, k0_pay5, k0_pay6, k0_pay3]
  unfold act silu conv
  have w0 := hw.w 0 q
  have w1 := hw.w 1 q
  have w2 := hw.w 2 q
  have w3 := hw.w 3 q
  rw [t3, t2, t1, t0, w0, w1, w2, w3, hw.b]
  rfl

end Cert.KernelIdeal.Blk

end
-- ==== Proof.BlkTile.lean ====
/- What the rows of a chunk contribute to each other: the kernel's eight tiles, read at a row and a channel. -/
module

public import proofs.«01_k».proof.Proof.Gen.KernelIdeal.Skeleton
public import proofs.«01_k».proof.Proof.Spec
public import Idealize.ShloMosaic.Lib.WordCmp

@[expose] public section

set_option maxRecDepth 16384

noncomputable section

namespace Cert.KernelIdeal.Blk

open Cert.KernelIdeal Cert.KernelIdeal.Gen Idealize.ShloMosaic Cert.Ssd

/-- A lane lies in the first, in the second half of its tile. -/
theorem lo_half : ∀ p : Fin 128, IntOp.andi (IntOp.cmpi .sge (BitVec.ofNat 32 p.val) 0#32) (IntOp.cmpi .slt (BitVec.ofNat 32 p.val) 64#32)
    = BitVec.ofBool (decide (p.val < 64)) := by decide +kernel

theorem hi_half : ∀ p : Fin 128, IntOp.andi (IntOp.cmpi .sge (BitVec.ofNat 32 p.val) 64#32) (IntOp.cmpi .slt (BitVec.ofNat 32 p.val) 128#32)
    = BitVec.ofBool (decide (¬ p.val < 64)) := by decide +kernel

theorem row_le (x l : Fin 128) : IntOp.cmpi .sle (BitVec.ofNat 32 x.val) (BitVec.ofNat 32 l.val) = BitVec.ofBool (decide (x.val ≤ l.val)) :=
  WordCmp.cmpi_sle_ofNat (by have := x.isLt; omega) (by have := l.isLt; omega)

theorem sel_dec (P : Prop) [Decidable P] (a b : EReal) : Scalar.select (BitVec.ofBool (decide P)) a b = if P then a else b := by
  by_cases h : P
  · rw [if_pos h, decide_eq_true h]; rfl
  · rw [if_neg h, decide_eq_false h]; rfl

/-- The rows up to row `l` seen from it, at a channel. -/
def ySum (ac v201 : FVec Ideal S128x128 .f32) (v198 : FVec Ideal S128x1024 .bf16) (l : Fin 128) (q : Fin 1024) : EReal :=
  ∑ x : Fin 128, if x.val ≤ l.val then
    v201 (ix2 l x) * Ideal.exp (ac (ix2 l ⟨q.val / 64, by omega⟩) - ac (ix2 x ⟨q.val / 64, by omega⟩)) * v198 (ix2 x q) else 0

theorem tile (ac v201 : FVec Ideal S128x128 .f32) (v198 : FVec Ideal S128x1024 .bf16) (l p : Fin 128) (q : Fin 1024) (k k' : Fin 128) (q' q'' : Fin 1024)
    (w : ℕ) (hq : q.val = 128 * w + p.val) (hk : k.val = 2 * w) (hk' : k'.val = 2 * w + 1) (hq' : q' = q) (hq'' : q'' = q) :
    (∑ x : Fin 128, Scalar.select (IntOp.andi (IntOp.cmpi .sge (BitVec.ofNat 32 p.val) 0#32) (IntOp.cmpi .slt (BitVec.ofNat 32 p.val) 64#32))
        (Scalar.select (IntOp.cmpi .sle (BitVec.ofNat 32 x.val) (BitVec.ofNat 32 l.val))
          (v201 (ix2 l x) * Ideal.exp (ac (ix2 l k) - ac (ix2 x k)) * v198 (ix2 x q')) 0) 0)
      + (∑ x : Fin 128, Scalar.select (IntOp.andi (IntOp.cmpi .sge (BitVec.ofNat 32 p.val) 64#32) (IntOp.cmpi .slt (BitVec.ofNat 32 p.val) 128#32))
        (Scalar.select (IntOp.cmpi .sle (BitVec.ofNat 32 x.val) (BitVec.ofNat 32 l.val))
          (v201 (ix2 l x) * Ideal.exp (ac (ix2 l k') - ac (ix2 x k')) * v198 (ix2 x q'')) 0) 0)
      = ySum ac v201 v198 l q := by
  rw [hq', hq'']
  unfold ySum
  rw [← Finset.sum_add_distrib]
  refine Finset.sum_congr rfl fun x _ => ?_
  rw [lo_half, hi_half, row_le, sel_dec, sel_dec, sel_dec, sel_dec]
  have hp := p.isLt
  by_cases h : p.val < 64
  · have e : (⟨q.val / 64, by omega⟩ : Fin 128) = k := Fin.ext (by show q.val / 64 = k.val; omega)
    rw [if_pos h, if_neg (not_not.mpr h), add_zero, e]
  · have e : (⟨q.val / 64, by omega⟩ : Fin 128) = k' := Fin.ext (by show q.val / 64 = k'.val; omega)
    rw [if_neg h, if_pos h, zero_add, e]

variable (ac v201 : FVec Ideal S128x128 .f32) (v198 : FVec Ideal S128x1024 .bf16) (X : FVec Ideal S128x1024 .f32) (D Bm Cm : FVec Ideal S128x128 .f32)
  (E : FVec Ideal S256x1024 .bf16)

theorem tile0 (l p : Fin 128) :
    k0_pay28 (F := Ideal) k0_pay15 ac (k0_pay17 ac) (k0_pay24 Bm Cm) (iota .tc S128x128 32 [1] iota_S128x128_d1_w32) (k0_pay25 X D E) (k0_pay26 Bm Cm k0_pay15 ac) (k0_pay27 X D E) (ix2 l p)
      = ySum ac (k0_pay24 Bm Cm) (k0_pay22 X D E) l ⟨0 + p.val, by omega⟩ := by
  pointwise [k0_pay28, k0_pay15, k0_pay17, k0_pay25, k0_pay26, k0_pay27]
  exact tile ac (k0_pay24 Bm Cm) (k0_pay22 X D E) l p ⟨p.val, by omega⟩ 0 1 _ _ 0 (by show p.val = 128 * 0 + p.val; omega) rfl rfl rfl rfl

theorem tile1 (l p : Fin 128) :
    k0_pay34 (F := Ideal) (iota .tc S128x128 32 [1] iota_S128x128_d1_w32) (k0_pay29 v198) (k0_pay30 k0_pay15 ac (k0_pay17 ac) v201) (k0_pay31 v198 (iota .tc S128x128 32 [1] iota_S128x128_d1_w32)) (k0_pay32 k0_pay15 ac (k0_pay17 ac) v201) k0_pay33 (ix2 l p)
      = ySum ac v201 v198 l ⟨128 + p.val, by omega⟩ := by
  pointwise [k0_pay34, k0_pay29, k0_pay30, k0_pay31, k0_pay32, k0_pay33, k0_pay15, k0_pay17]
  refine tile ac v201 v198 l p ⟨128 + p.val, by omega⟩ 2 3 _ _ 1 rfl rfl rfl ?_ ?_ <;> first | rfl | exact Fin.ext (by simp)

theorem tile2 (l p : Fin 128) :
    k0_pay35 (F := Ideal) k0_pay15 ac (k0_pay17 ac) v198 v201 (iota .tc S128x128 32 [1] iota_S128x128_d1_w32) (ix2 l p)
      = ySum ac v201 v198 l ⟨256 + p.val, by omega⟩ := by
  pointwise [k0_pay35, k0_pay15, k0_pay17]
  refine tile ac v201 v198 l p ⟨256 + p.val, by omega⟩ 4 5 _ _ 2 rfl rfl rfl ?_ ?_ <;> first | rfl | exact Fin.ext (by simp)

theorem tile3 (l p : Fin 128) :
    k0_pay37 (F := Ideal) k0_pay15 ac (k0_pay17 ac) v201 (iota .tc S128x128 32 [1] iota_S128x128_d1_w32) (k0_pay36 v198) (ix2 l p)
      = ySum ac v201 v198 l ⟨384 + p.val, by omega⟩ := by
  pointwise [k0_pay37, k0_pay36, k0_pay15, k0_pay17]
  refine tile ac v201 v198 l p ⟨384 + p.val, by omega⟩ 6 7 _ _ 3 rfl rfl rfl ?_ ?_ <;> first | rfl | exact Fin.ext (by simp)

theorem tile4 (l p : Fin 128) :
    k0_pay41 (F := Ideal) k0_pay15 ac (k0_pay17 ac) v201 (iota .tc S128x128 32 [1] iota_S128x128_d1_w32) (k0_pay38 v198) (k0_pay39 k0_pay15 ac (k0_pay17 ac) v201) k0_pay40 (ix2 l p)
      = ySum ac v201 v198 l ⟨512 + p.val, by omega⟩ := by
  pointwise [k0_pay41, k0_pay38, k0_pay39, k0_pay40, k0_pay15, k0_pay17]
  refine tile ac v201 v198 l p ⟨512 + p.val, by omega⟩ 8 9 _ _ 4 rfl rfl rfl ?_ ?_ <;> first | rfl | exact Fin.ext (by simp)

theorem tile5 (l p : Fin 128) :
    k0_pay46 (F := Ideal) k0_pay15 v201 (iota .tc S128x128 32 [1] iota_S128x128_d1_w32) (k0_pay42 v198) (k0_pay43 k0_pay15 ac (k0_pay17 ac) v201) (k0_pay44 v198 (iota .tc S128x128 32 [1] iota_S128x128_d1_w32)) (k0_pay45 ac (k0_pay17 ac)) (ix2 l p)
      = ySum ac v201 v198 l ⟨640 + p.val, by omega⟩ := by
  pointwise [k0_pay46, k0_pay42, k0_pay43, k0_pay44, k0_pay45, k0_pay15, k0_pay17]
  refine tile ac v201 v198 l p ⟨640 + p.val, by omega⟩ 10 11 _ _ 5 rfl rfl rfl ?_ ?_ <;> first | rfl | exact Fin.ext (by simp)

theorem tile6 (l p : Fin 128) :
    (∑ x : Fin 128, k0_pay48 (F := Ideal) k0_pay15 ac (k0_pay17 ac) v201 (ix2 l x) * k0_pay49 (F := Ideal) v198 (iota .tc S128x128 32 [1] iota_S128x128_d1_w32) (ix2 x p))
      + (∑ x : Fin 128, Scalar.select (k0_pay51 (iota .tc S128x128 32 [1] iota_S128x128_d1_w32) (ix2 x p)) (k0_pay50 (F := Ideal) k0_pay15 ac (k0_pay17 ac) v201 (ix2 l x) * k0_pay47 (F := Ideal) v198 (ix2 x p)) 0)
      = ySum ac v201 v198 l ⟨768 + p.val, by omega⟩ := by
  pointwise [k0_pay47, k0_pay48, k0_pay49, k0_pay50, k0_pay51, k0_pay15, k0_pay17]
  exact tile ac v201 v198 l p ⟨768 + p.val, by omega⟩ 12 13 _ _ 6 rfl rfl rfl rfl rfl

/-- The eight tiles side by side. -/
theorem yd_blk (l : Fin 128) (q : Fin 1024) (T0 T1 T2 T3 T4 T5 : FVec Ideal S128x128 .f32) (v431 v441 v448 v458 : FVec Ideal S128x128 .bf16)
    (v463 : IVec S128x128 1)
    (h0 : ∀ l p : Fin 128, T0 (ix2 l p) = ySum ac v201 v198 l ⟨0 + p.val, by omega⟩)
    (h1 : ∀ l p : Fin 128, T1 (ix2 l p) = ySum ac v201 v198 l ⟨128 + p.val, by omega⟩)
    (h2 : ∀ l p : Fin 128, T2 (ix2 l p) = ySum ac v201 v198 l ⟨256 + p.val, by omega⟩)
    (h3 : ∀ l p : Fin 128, T3 (ix2 l p) = ySum ac v201 v198 l ⟨384 + p.val, by omega⟩)
    (h4 : ∀ l p : Fin 128, T4 (ix2 l p) = ySum ac v201 v198 l ⟨512 + p.val, by omega⟩)
    (h5 : ∀ l p : Fin 128, T5 (ix2 l p) = ySum ac v201 v198 l ⟨640 + p.val, by omega⟩)
    (h6 : ∀ l p : Fin 128, (∑ x : Fin 128, v441 (ix2 l x) * v448 (ix2 x p))
      + (∑ x : Fin 128, Scalar.select (v463 (ix2 x p)) (v458 (ix2 l x) * v431 (ix2 x p)) 0) = ySum ac v201 v198 l ⟨768 + p.val, by omega⟩) :
    k0_pay52 (F := Ideal) k0_pay15 ac (k0_pay17 ac) v198 v201 (iota .tc S128x128 32 [1] iota_S128x128_d1_w32) T0 T1 T2 T3 T4 T5 v431 v441 v448 v458 v463 (ix2 l q)
      = ySum ac v201 v198 l q := by
  have hqq := q.isLt
  pointwise [k0_pay52, k0_pay15, k0_pay17]
  by_cases c0 : q.val < 128
  · refine (dif_pos c0).trans ((h0 _ _).trans ?_); exact congrArg _ (Fin.ext (by show 0 + (q.val) = q.val; omega))
  refine (dif_neg c0).trans ?_
  by_cases c1 : q.val - 128 < 128
  · refine (dif_pos c1).trans ((h1 _ _).trans ?_); exact congrArg _ (Fin.ext (by show 128 + (q.val - 128) = q.val; omega))
  refine (dif_neg c1).trans ?_
  by_cases c2 : q.val - 128 - 128 < 128
  · refine (dif_pos c2).trans ((h2 _ _).trans ?_); exact congrArg _ (Fin.ext (by show 256 + (q.val - 128 - 128) = q.val; omega))
  refine (dif_neg c2).trans ?_
  by_cases c3 : q.val - 128 - 128 - 128 < 128
  · refine (dif_pos c3).trans ((h3 _ _).trans ?_); exact congrArg _ (Fin.ext (by show 384 + (q.val - 128 - 128 - 128) = q.val; omega))
  refine (dif_neg c3).trans ?_
  by_cases c4 : q.val - 128 - 128 - 128 - 128 < 128
  · refine (dif_pos c4).trans ((h4 _ _).trans ?_); exact congrArg _ (Fin.ext (by show 512 + (q.val - 128 - 128 - 128 - 128) = q.val; omega))
  refine (dif_neg c4).trans ?_
  by_cases c5 : q.val - 128 - 128 - 128 - 128 - 128 < 128
  · refine (dif_pos c5).trans ((h5 _ _).trans ?_); exact congrArg _ (Fin.ext (by show 640 + (q.val - 128 - 128 - 128 - 128 - 128) = q.val; omega))
  refine (dif_neg c5).trans ?_
  by_cases c6 : q.val - 128 - 128 - 128 - 128 - 128 - 128 < 128
  · refine (dif_pos c6).trans ((h6 _ _).trans ?_); exact congrArg _ (Fin.ext (by show 768 + (q.val - 128 - 128 - 128 - 128 - 128 - 128) = q.val; omega))
  refine (dif_neg c6).trans ?_
  exact tile ac v201 v198 l ⟨q.val - 128 - 128 - 128 - 128 - 128 - 128 - 128, by omega⟩ q 14 15 _ _ 7
      (by show q.val = 128 * 7 + (q.val - 128 - 128 - 128 - 128 - 128 - 128 - 128); omega) rfl rfl
      (Fin.ext (by show 896 + (q.val - 128 - 128 - 128 - 128 - 128 - 128 - 128) = q.val; omega))
      (Fin.ext (by show 896 + (q.val - 128 - 128 - 128 - 128 - 128 - 128 - 128) = q.val; omega))

variable (v187 : FVec Ideal S128x1024 .f32) (v199 : FVec Ideal S128x128 .bf16) (S U V yd : FVec Ideal S128x1024 .f32) (z : FVec Ideal S128x1024 .bf16)
  (dsk nw : FVec Ideal S1x1024 .f32)

/-- The gated output before its norm. -/
def gBlk (l : Fin 128) (q : Fin 1024) : EReal :=
  (yd (ix2 l q) + (∑ n : Fin 128, v199 (ix2 l n) * S (ix2 n q)) * v187 (ix2 l q) + X (ix2 l q) * dsk (ix2 0 q)) * silu (z (ix2 l q))

theorem out_blk (l : Fin 128) (q : Fin 1024) :
    k0_pay54 (F := Ideal) X v187 v199 yd (k0_pay53 S) (constant S128x1024 .f32 0x00000000#32) dsk z nw (ix2 l q)
      = gBlk X v187 v199 S yd z dsk l q
        * Ideal.rsqrt (Ideal.div (∑ x : Fin 1024, gBlk X v187 v199 S yd z dsk l x * gBlk X v187 v199 S yd z dsk l x)
            (Ideal.ofBits .f32 0x44800000#32) + Ideal.ofBits .f32 0x358637BD#32) * nw (ix2 0 q) := by
  pointwise [k0_pay54, k0_pay53]
  rfl

/-- The state leaving the chunk. -/
theorem state_blk (l : Fin 128) (q : Fin 1024) :
    k0_pay1 (F := Ideal) v187 S (k0_pay55 Bm U V) (ix2 l q)
      = S (ix2 l q) * v187 (ix2 127 q) + ∑ x : Fin 128, Bm (ix2 x l) * (U (ix2 x q) * V (ix2 x q)) := by
  pointwise [k0_pay1, k0_pay55]

theorem zero_blk (l : Fin 128) (q : Fin 1024) : k0_pay2 (F := Ideal) (ix2 l q) = 0 := by
  pointwise [k0_pay2]

end Cert.KernelIdeal.Blk

end
-- ==== Proof.BlkBody.lean ====
/- One grid point's body: what it stores in the output block and in the carried state, over blocks that hold the
   arrays' entries. -/
module

public import proofs.«01_k».proof.Proof.ConvBlk
public import proofs.«01_k».proof.Proof.BlkDecay
public import proofs.«01_k».proof.Proof.BlkTile

@[expose] public section

set_option maxRecDepth 16384

noncomputable section

namespace Cert.KernelIdeal.Blk

open Cert.KernelIdeal Cert.KernelIdeal.Gen Idealize.ShloMosaic Cert.Ssd

/-- A grid point's input blocks. -/
structure Ins where
  x0 : FVec Ideal S128x1024 .bf16
  x1 : FVec Ideal S128x1024 .bf16
  x2 : FVec Ideal S128x128 .bf16
  x3 : FVec Ideal S128x128 .bf16
  x4 : FVec Ideal S128x128 .bf16
  x5 : FVec Ideal S128x128 .bf16
  x6 : FVec Ideal S128x1024 .bf16
  x7 : FVec Ideal S128x128 .f32
  x8 : FVec Ideal S4x1024 .f32
  x9 : FVec Ideal S4x128 .f32
  x10 : FVec Ideal S4x128 .f32
  x11 : FVec Ideal S1x1024 .f32
  x12 : FVec Ideal S1x128 .f32
  x13 : FVec Ideal S1x128 .f32
  x14 : FVec Ideal S1x1x128 .f32
  x15 : FVec Ideal S1x1x128 .f32
  x16 : FVec Ideal S1x1024 .f32
  x17 : FVec Ideal S1x1024 .f32
  x18 : FVec Ideal S256x1024 .bf16

/-- The first lane of the point's group. -/
def lane0 (i : grid0.Coords) : BitVec 32 :=
  Scalar.select
    (Scalar.andi (Scalar.xori (Scalar.cmpi .slt (Scalar.remsi (Scalar.muli (BitVec.ofNat 32 (i 1).val) 16#32) 128#32) 0#32) 0#1)
      (Scalar.cmpi .ne (Scalar.remsi (Scalar.muli (BitVec.ofNat 32 (i 1).val) 16#32) 128#32) 0#32))
    (Scalar.addi (Scalar.remsi (Scalar.muli (BitVec.ofNat 32 (i 1).val) 16#32) 128#32) 128#32)
    (Scalar.remsi (Scalar.muli (BitVec.ofNat 32 (i 1).val) 16#32) 128#32)

theorem lane0_eq (i : grid0.Coords) (g : Fin 8) (hg : (i 1).val = g.val) : lane0 i = BitVec.ofNat 32 (16 * g.val) := by
  unfold lane0
  rw [hg]
  clear hg
  revert g
  decide +kernel

variable (i : grid0.Coords) (B : Ins)

/-- Is the point the first of its sequence. -/
abbrev first : BitVec 1 := Scalar.cmpi .eq (BitVec.ofNat 32 (i 2).val) 0#32

/-- The activated channels, the two projections, the step sizes and their summed log decays. -/
def bX : FVec Ideal S128x1024 .f32 :=
  k0_pay10 (k0_pay4 (first i)) (k0_pay5 (first i)) (k0_pay6 (first i)) (k0_pay7 B.x0 B.x1) B.x8 (k0_pay8 B.x0 B.x8) (k0_pay9 B.x11)
def bB : FVec Ideal S128x128 .f32 :=
  k0_pay12 (k0_pay11 (k0_pay4 (first i)) (k0_pay5 (first i)) (k0_pay6 (first i)) B.x2 B.x3 B.x9 B.x12)
def bC : FVec Ideal S128x128 .f32 :=
  k0_pay13 (k0_pay4 (first i)) (k0_pay5 (first i)) (k0_pay6 (first i)) B.x4 B.x5 B.x10 B.x13
def bD : FVec Ideal S128x128 .f32 := k0_pay14 (lane0 i) B.x7 B.x14
def bA : FVec Ideal S128x128 .f32 := k0_pay16 (lane0 i) B.x7 B.x14 B.x15
/-- The scores and the step-sized channels. -/
def bS : FVec Ideal S128x128 .f32 := k0_pay24 (bB i B) (bC i B)
def bV : FVec Ideal S128x1024 .bf16 := k0_pay22 (bX i B) (bD i B) B.x18

/-- The lane numbers. -/
abbrev lanes : IVec S128x128 32 := iota .tc S128x128 32 [1] iota_S128x128_d1_w32

/-- What the rows of the chunk contribute. -/
def bY : FVec Ideal S128x1024 .f32 :=
  k0_pay52 k0_pay15 (bA i B) (k0_pay17 (bA i B)) (bV i B) (bS i B) lanes
    (k0_pay28 k0_pay15 (bA i B) (k0_pay17 (bA i B)) (bS i B) lanes (k0_pay25 (bX i B) (bD i B) B.x18) (k0_pay26 (bB i B) (bC i B) k0_pay15 (bA i B))
      (k0_pay27 (bX i B) (bD i B) B.x18))
    (k0_pay34 lanes (k0_pay29 (bV i B)) (k0_pay30 k0_pay15 (bA i B) (k0_pay17 (bA i B)) (bS i B)) (k0_pay31 (bV i B) lanes)
      (k0_pay32 k0_pay15 (bA i B) (k0_pay17 (bA i B)) (bS i B)) k0_pay33)
    (k0_pay35 k0_pay15 (bA i B) (k0_pay17 (bA i B)) (bV i B) (bS i B) lanes)
    (k0_pay37 k0_pay15 (bA i B) (k0_pay17 (bA i B)) (bS i B) lanes (k0_pay36 (bV i B)))
    (k0_pay41 k0_pay15 (bA i B) (k0_pay17 (bA i B)) (bS i B) lanes (k0_pay38 (bV i B)) (k0_pay39 k0_pay15 (bA i B) (k0_pay17 (bA i B)) (bS i B)) k0_pay40)
    (k0_pay46 k0_pay15 (bS i B) lanes (k0_pay42 (bV i B)) (k0_pay43 k0_pay15 (bA i B) (k0_pay17 (bA i B)) (bS i B)) (k0_pay44 (bV i B) lanes)
      (k0_pay45 (bA i B) (k0_pay17 (bA i B))))
    (k0_pay47 (bV i B)) (k0_pay48 k0_pay15 (bA i B) (k0_pay17 (bA i B)) (bS i B)) (k0_pay49 (bV i B) lanes)
    (k0_pay50 k0_pay15 (bA i B) (k0_pay17 (bA i B)) (bS i B)) (k0_pay51 lanes)

/-- What the body stores in the output block, over the carried state `s`. -/
def bOut (s : FVec Ideal S128x1024 .f32) : FVec Ideal S128x1024 .bf16 :=
  k0_pay54 (bX i B) (k0_pay19 (bA i B) B.x18) (k0_pay23 (bC i B)) (bY i B) (k0_pay53 s) (constant S128x1024 .f32 0x00000000#32) B.x16 B.x6 B.x17

/-- … and in the carried state. -/
def bSt (s : FVec Ideal S128x1024 .f32) : FVec Ideal S128x1024 .f32 :=
  k0_pay1 (k0_pay19 (bA i B) B.x18) s (k0_pay55 (bB i B) (k0_pay20 (bA i B) B.x18) (k0_pay21 (bX i B) (bD i B) B.x18))

variable (A : Arrs)

/-- The blocks of chunk `c` of sequence `bt` and group `g` hold the arrays' entries. -/
structure Holds (bt c : ℕ) (g : Fin 8) : Prop where
  hc : c < 64
  i1 : (i 1).val = g.val
  i2 : (i 2).val = c
  inx : InBlk A bt c (g.val * 1024) B.x0 B.x1
  inb : InBlk A bt c (8192 + g.val * 128) B.x2 B.x3
  inc : InBlk A bt c (9216 + g.val * 128) B.x4 B.x5
  wx : WBlk A (g.val * 1024) B.x8 B.x11
  wb : WBlk A (8192 + g.val * 128) B.x9 B.x12
  wc : WBlk A (9216 + g.val * 128) B.x10 B.x13
  dt : DtBlk A bt c g.val B.x7 B.x14 B.x15
  z : ∀ (l : Fin 128) (q : Fin 1024), B.x6 (ix2 l q) = A.z (bt * 8192 + (c * 128 + l.val)) (g.val * 1024 + q.val)
  dsk : ∀ q : Fin 1024, B.x16 (ix2 0 q) = A.dsk ((g.val * 1024 + q.val) / 64)
  nw : ∀ q : Fin 1024, B.x17 (ix2 0 q) = A.nw (g.val * 1024 + q.val)
  sp : Spread B.x18

variable {i B A} {bt c : ℕ} {g : Fin 8} (H : Holds i B A bt c g) (hA : A.Fine)

include H

theorem bX_eq (l : Fin 128) (q : Fin 1024) : bX i B (ix2 l q) = act A bt (c * 128 + l.val) (g.val * 1024 + q.val) :=
  actX_eq A i H.hc H.i2 H.inx H.wx l q

theorem bB_eq (l n : Fin 128) : bB i B (ix2 l n) = bm A bt (c * 128 + l.val) g.val n.val :=
  actB_eq A i H.hc H.i2 H.inb H.wb l n

theorem bC_eq (l n : Fin 128) : bC i B (ix2 l n) = cm A bt (c * 128 + l.val) g.val n.val :=
  actC_eq A i H.hc H.i2 H.inc H.wc l n

theorem bD_eq (l j : Fin 128) : bD i B (ix2 l j) = dtL A bt (c * 128 + l.val) g.val j.val := by
  unfold bD
  rw [lane0_eq i g H.i1]
  exact dt_blk H.dt l j

theorem bA_eq (l j : Fin 128) : bA i B (ix2 l j) = acL A bt c g.val l.val j.val := by
  unfold bA
  rw [lane0_eq i g H.i1]
  exact ac_blk H.dt l j

theorem bS_eq (l s : Fin 128) : bS i B (ix2 l s) = sc A bt c g.val l.val s.val := by
  unfold bS sc
  rw [sc_blk]
  refine Finset.sum_congr rfl fun n _ => ?_
  rw [bC_eq H, bB_eq H]

omit H in
theorem ch64 (g : Fin 8) (q : Fin 1024) : (g.val * 1024 + q.val) / 64 = g.val * 16 + q.val / 64 := by omega

omit H in
theorem ch1024 (g : Fin 8) (q : Fin 1024) : (g.val * 1024 + q.val) / 1024 = g.val := by omega

omit H in
theorem dt_ch (bt t : ℕ) (g : Fin 8) (q : Fin 1024) : dtL A bt t g.val (q.val / 64) = Ssd.dt A bt t ((g.val * 1024 + q.val) / 64) := by
  rw [dtL_eq _ _ _ _ g.isLt (by omega), ch64]

omit H in
theorem ac_ch (bt c l : ℕ) (g : Fin 8) (q : Fin 1024) : acL A bt c g.val l (q.val / 64) = ac A bt c ((g.val * 1024 + q.val) / 64) l := by
  rw [acL_eq _ _ _ _ _ g.isLt (by omega), ch64]

include hA

theorem bV_eq (l : Fin 128) (q : Fin 1024) : bV i B (ix2 l q) = xdt A bt (c * 128 + l.val) (g.val * 1024 + q.val) := by
  unfold bV xdt
  rw [xdt_blk hA (bt := bt) (t := c * 128 + l.val) (g := g.val) l (fun j => bD_eq H l j) H.sp, bX_eq H, dt_ch]

theorem bV_eq' (l : Fin 128) (q : Fin 1024) :
    k0_pay21 (bX i B) (bD i B) B.x18 (ix2 l q) = xdt A bt (c * 128 + l.val) (g.val * 1024 + q.val) := by
  have h := bV_eq H hA l q
  unfold bV at h
  rw [← h]
  pointwise [k0_pay22]

theorem bE_eq (l : Fin 128) (q : Fin 1024) :
    k0_pay19 (F := Ideal) (bA i B) B.x18 (ix2 l q) = Ideal.exp (ac A bt c ((g.val * 1024 + q.val) / 64) l.val) := by
  rw [eac_blk hA (bt := bt) (c := c) (g := g.val) (fun l j => bA_eq H l j) H.sp, ac_ch]

theorem bF_eq (l : Fin 128) (q : Fin 1024) :
    k0_pay20 (F := Ideal) (bA i B) B.x18 (ix2 l q)
      = Ideal.exp (ac A bt c ((g.val * 1024 + q.val) / 64) 127 - ac A bt c ((g.val * 1024 + q.val) / 64) l.val) := by
  rw [dec_blk hA (bt := bt) (c := c) (g := g.val) (fun l j => bA_eq H l j) H.sp, ac_ch, ac_ch]

/-- What the rows of the chunk contribute. -/
theorem bY_eq (l : Fin 128) (q : Fin 1024) : bY i B (ix2 l q) = yd A bt c l.val (g.val * 1024 + q.val) := by
  unfold bY
  refine (yd_blk (bA i B) (bS i B) (bV i B) l q _ _ _ _ _ _ _ _ _ _ _ (tile0 (bA i B) (bX i B) (bD i B) (bB i B) (bC i B) B.x18)
    (tile1 (bA i B) (bS i B) (bV i B)) (tile2 (bA i B) (bS i B) (bV i B)) (tile3 (bA i B) (bS i B) (bV i B)) (tile4 (bA i B) (bS i B) (bV i B))
    (tile5 (bA i B) (bS i B) (bV i B)) (tile6 (bA i B) (bS i B) (bV i B))).trans ?_
  unfold ySum yd
  refine Finset.sum_congr rfl fun x _ => ?_
  rw [bS_eq H, bV_eq H hA, bA_eq H, bA_eq H, ch1024]
  dsimp only
  rw [ac_ch, ac_ch]
  by_cases h : x.val ≤ l.val
  · rw [if_pos h, if_pos h]
  · rw [if_neg h, if_neg h, mul_zero, zero_mul]

/-- The gated output before its norm. -/
theorem bG_eq {s : FVec Ideal S128x1024 .f32} (hs : ∀ (n : Fin 128) (q : Fin 1024), s (ix2 n q) = st A bt c n.val (g.val * 1024 + q.val))
    (l : Fin 128) (q : Fin 1024) :
    gBlk (bX i B) (k0_pay19 (bA i B) B.x18) (k0_pay23 (bC i B)) s (bY i B) B.x6 B.x16 l q = gt A bt c l.val (g.val * 1024 + q.val) := by
  have h : (∑ n : Fin 128, k0_pay23 (F := Ideal) (bC i B) (ix2 l n) * s (ix2 n q))
      = ∑ n : Fin 128, cm A bt (c * 128 + l.val) g.val n.val * st A bt c n.val (g.val * 1024 + q.val) :=
    Finset.sum_congr rfl fun n _ => by rw [hs, ← bC_eq H]; rfl
  unfold gBlk gt y yo
  rw [h, bY_eq H hA, bE_eq H hA, bX_eq H, H.dsk, H.z, ch1024]

/-- The output block. -/
theorem bOut_eq {s : FVec Ideal S128x1024 .f32} (hs : ∀ (n : Fin 128) (q : Fin 1024), s (ix2 n q) = st A bt c n.val (g.val * 1024 + q.val))
    (l : Fin 128) (q : Fin 1024) : bOut i B s (ix2 l q) = out A bt c l.val (g.val * 1024 + q.val) := by
  unfold bOut out
  rw [out_blk, bG_eq H hA hs, H.nw, ch1024,
    Finset.sum_congr rfl fun x _ => show _ = gt A bt c l.val (g.val * 1024 + x.val) * gt A bt c l.val (g.val * 1024 + x.val) by
      rw [bG_eq H hA hs]]

/-- The carried state. -/
theorem bSt_eq {s : FVec Ideal S128x1024 .f32} (hs : ∀ (n : Fin 128) (q : Fin 1024), s (ix2 n q) = st A bt c n.val (g.val * 1024 + q.val))
    (n : Fin 128) (q : Fin 1024) : bSt i B s (ix2 n q) = st A bt (c + 1) n.val (g.val * 1024 + q.val) := by
  unfold bSt
  have h : (∑ x : Fin 128, bB i B (ix2 x n) * (k0_pay20 (F := Ideal) (bA i B) B.x18 (ix2 x q) * k0_pay21 (bX i B) (bD i B) B.x18 (ix2 x q)))
      = ∑ x : Fin 128, bm A bt (c * 128 + x.val) g.val n.val * (Ideal.exp (ac A bt c ((g.val * 1024 + q.val) / 64) 127
          - ac A bt c ((g.val * 1024 + q.val) / 64) x.val) * xdt A bt (c * 128 + x.val) (g.val * 1024 + q.val)) :=
    Finset.sum_congr rfl fun x _ => by rw [bB_eq H, bF_eq H hA, bV_eq' H hA]
  rw [state_blk, hs, bE_eq H hA, h, st, ch1024]
  rfl

end Cert.KernelIdeal.Blk

end
-- ==== Proof.FrameOut.lean ====
/- What the body of a grid point leaves in the output block and in the carried state, over the point's input blocks. -/
module

public import proofs.«01_k».proof.Proof.Gen.KernelIdeal.Value
public import proofs.«01_k».proof.Proof.BlkBody
public import Idealize.ShloMosaic.Lib.Pipeline.ValueKit
public import Idealize.ShloMosaic.Lib.Pipeline.ReadBack

@[expose] public section

set_option maxRecDepth 16384

noncomputable section

namespace Cert.KernelIdeal.Blk

open Cert.KernelIdeal Cert.KernelIdeal.Gen Idealize.ShloMosaic Idealize.ShloMosaic.TcCoe Idealize.SL.Sem

variable (m : (ℓ : Loc nD τ sig) → Buf (Elt Ideal) ℓ)

/-- The input blocks of point `t`. -/
def ins (c : Dev nD) (t : Fin cfg0.N) : Ins :=
  ⟨iblk m c 0 t, iblk m c 1 t, iblk m c 2 t, iblk m c 3 t, iblk m c 4 t, iblk m c 5 t, iblk m c 6 t, iblk m c 7 t, iblk m c 8 t, iblk m c 9 t,
   iblk m c 10 t, iblk m c 11 t, iblk m c 12 t, iblk m c 13 t, iblk m c 14 t, iblk m c 15 t, iblk m c 16 t, iblk m c 17 t, iblk m c 18 t⟩

theorem out_A (c : Dev nD) (t : Fin cfg0.N) (h0 : t.val % 64 = 0) :
    (outsAt0 m c t.val t.isLt).1 = bOut (grid0.coords t) (ins m c t) k0_pay2 := by
  rw [outsAt0_A m c t h0]
  frame_out
  try simp only [read_unread_whole]
  simp only [bOut, bSt, bY, bV, bS, bA, bD, bC, bB, bX, lane0, ins]

theorem st_A (c : Dev nD) (t : Fin cfg0.N) (h0 : t.val % 64 = 0) :
    (outsAt0 m c t.val t.isLt).2 = bSt (grid0.coords t) (ins m c t) k0_pay2 := by
  rw [outsAt0_A m c t h0]
  frame_out
  try simp only [read_unread_whole]
  simp only [bOut, bSt, bY, bV, bS, bA, bD, bC, bB, bX, lane0, ins]

theorem out_B (c : Dev nD) (t : Fin cfg0.N) (h0 : ¬ t.val % 64 = 0) :
    (outsAt0 m c t.val t.isLt).1 = bOut (grid0.coords t) (ins m c t) (outsAt0 m c (t.val - 1) (Nat.lt_of_le_of_lt (Nat.sub_le _ _) t.isLt)).2 := by
  rw [outsAt0_B m c t h0]
  frame_out
  try simp only [read_unread_whole]
  simp only [bOut, bSt, bY, bV, bS, bA, bD, bC, bB, bX, lane0, ins]

theorem st_B (c : Dev nD) (t : Fin cfg0.N) (h0 : ¬ t.val % 64 = 0) :
    (outsAt0 m c t.val t.isLt).2 = bSt (grid0.coords t) (ins m c t) (outsAt0 m c (t.val - 1) (Nat.lt_of_le_of_lt (Nat.sub_le _ _) t.isLt)).2 := by
  rw [outsAt0_B m c t h0]
  frame_out
  try simp only [read_unread_whole]
  simp only [bOut, bSt, bY, bV, bS, bA, bD, bC, bB, bX, lane0, ins]

end Cert.KernelIdeal.Blk

end
-- ==== Proof.InBlocks.lean ====
/- The input blocks of a grid point hold the arrays' entries. -/
module

public import proofs.«01_k».proof.Proof.InIdx
public import proofs.«01_k».proof.Proof.HostOps
public import proofs.«01_k».proof.Proof.BlkBody
public import proofs.«01_k».proof.Proof.FrameOut

@[expose] public section

set_option maxRecDepth 16384

noncomputable section

namespace Cert.KernelIdeal.Blk

open Cert.KernelIdeal Cert.KernelIdeal.Gen Idealize.ShloMosaic Idealize.ShloMosaic.TcCoe Idealize.SL.Sem Cert.Ssd

variable (m : (ℓ : Loc nD τ sig) → Buf (Elt Ideal) ℓ) (c : Dev nD)

/-- The argument arrays, read at natural coordinates. -/
def arrs : Arrs where
  z := rd2 (n := 16384) (k := 8192) (m ((c : Thread nD τ).loc main_arg0))
  xbc := rd2 (n := 16384) (k := 10240) (m ((c : Thread nD τ).loc main_arg1))
  dtp := rd2 (n := 16384) (k := 128) (m ((c : Thread nD τ).loc main_arg2))
  w := rd2 (n := 4) (k := 10240) (m ((c : Thread nD τ).loc main_arg3))
  b := rd1 (n := 10240) (m ((c : Thread nD τ).loc main_arg4))
  dtb := rd1 (n := 128) (m ((c : Thread nD τ).loc main_arg5))
  alog := rd1 (n := 128) (m ((c : Thread nD τ).loc main_arg6))
  dsk := rd1 (n := 128) (m ((c : Thread nD τ).loc main_arg7))
  nw := rd1 (n := 8192) (m ((c : Thread nD τ).loc main_arg8))

theorem point_lt (t : Fin cfg0.N) : t.val < 1024 := lt_of_lt_of_eq t.isLt N_0

theorem row_of {k : ℕ} {X : (⟨2, ![1, k]⟩ : Shape).Idx → EReal} {f : ℕ → EReal} (hX : ∀ b : Fin k, X (ix2 0 b) = f b.val)
    (i : (⟨2, ![1, k]⟩ : Shape).Idx) (s : ℕ) (hs : (i 1).val = s) : X i = f s :=
  two_of (f := fun _ b => f b) (fun a b => by rw [Subsingleton.elim a 0]; exact hX b) i _ s rfl hs

theorem three_of {n k : ℕ} {X : (⟨3, ![n, 1, k]⟩ : Shape).Idx → EReal} {f : ℕ → ℕ → EReal} (hX : ∀ (a : Fin n) (b : Fin k), X (ix3 a 0 b) = f a.val b.val)
    (i : (⟨3, ![n, 1, k]⟩ : Shape).Idx) (r s : ℕ) (hr : (i 0).val = r) (hs : (i 2).val = s) : X i = f r s := by
  subst hr hs
  refine Eq.trans (congrArg X (funext fun a => ?_)) (hX (i 0) (i 2))
  match a with
  | ⟨0, _⟩ => rfl
  | ⟨1, _⟩ => exact Subsingleton.elim (α := Fin 1) _ _
  | ⟨2, _⟩ => rfl

theorem blk0 (t : Fin cfg0.N) (l : Fin 128) (q : Fin 1024) :
    iblk m c 0 t (ix2 l q) = (arrs m c).xbc (t.val / 512 * 8192 + (t.val % 64 * 128 + l.val)) (t.val / 64 % 8 * 1024 + q.val) := by
  have h := point_lt t
  have e := (idxX t).1
  blk_simp [iblk, V_main_arg1]
  refine two_of (fun a b => rd2_ix _ a b) _ _ _ ?_ ?_
  all_goals
    blk_simp [e]
    try omega

theorem blk1 (t : Fin cfg0.N) (l : Fin 128) (q : Fin 1024) :
    iblk m c 1 t (ix2 l q) = (arrs m c).xbc (t.val / 512 * 8192 + ((t.val % 64 - 1) * 128 + l.val)) (t.val / 64 % 8 * 1024 + q.val) := by
  have h := point_lt t
  have e := (idxX t).2.1
  blk_simp [iblk, V_main_arg1]
  refine two_of (fun a b => rd2_ix _ a b) _ _ _ ?_ ?_
  all_goals
    blk_simp [e]
    try omega

theorem blk2 (t : Fin cfg0.N) (l : Fin 128) (q : Fin 128) :
    iblk m c 2 t (ix2 l q) = (arrs m c).xbc (t.val / 512 * 8192 + (t.val % 64 * 128 + l.val)) (8192 + t.val / 64 % 8 * 128 + q.val) := by
  have h := point_lt t
  have e := (idxX t).2.2.1
  blk_simp [iblk, V_main_arg1]
  refine two_of (fun a b => rd2_ix _ a b) _ _ _ ?_ ?_
  all_goals
    blk_simp [e]
    try omega

theorem blk3 (t : Fin cfg0.N) (l : Fin 128) (q : Fin 128) :
    iblk m c 3 t (ix2 l q) = (arrs m c).xbc (t.val / 512 * 8192 + ((t.val % 64 - 1) * 128 + l.val)) (8192 + t.val / 64 % 8 * 128 + q.val) := by
  have h := point_lt t
  have e := (idxX t).2.2.2.1
  blk_simp [iblk, V_main_arg1]
  refine two_of (fun a b => rd2_ix _ a b) _ _ _ ?_ ?_
  all_goals
    blk_simp [e]
    try omega

theorem blk4 (t : Fin cfg0.N) (l : Fin 128) (q : Fin 128) :
    iblk m c 4 t (ix2 l q) = (arrs m c).xbc (t.val / 512 * 8192 + (t.val % 64 * 128 + l.val)) (9216 + t.val / 64 % 8 * 128 + q.val) := by
  have h := point_lt t
  have e := (idxX t).2.2.2.2.1
  blk_simp [iblk, V_main_arg1]
  refine two_of (fun a b => rd2_ix _ a b) _ _ _ ?_ ?_
  all_goals
    blk_simp [e]
    try omega

theorem blk5 (t : Fin cfg0.N) (l : Fin 128) (q : Fin 128) :
    iblk m c 5 t (ix2 l q) = (arrs m c).xbc (t.val / 512 * 8192 + ((t.val % 64 - 1) * 128 + l.val)) (9216 + t.val / 64 % 8 * 128 + q.val) := by
  have h := point_lt t
  have e := (idxX t).2.2.2.2.2
  blk_simp [iblk, V_main_arg1]
  refine two_of (fun a b => rd2_ix _ a b) _ _ _ ?_ ?_
  all_goals
    blk_simp [e]
    try omega

theorem blk6 (t : Fin cfg0.N) (l : Fin 128) (q : Fin 1024) :
    iblk m c 6 t (ix2 l q) = (arrs m c).z (t.val / 512 * 8192 + (t.val % 64 * 128 + l.val)) (t.val / 64 % 8 * 1024 + q.val) := by
  have h := point_lt t
  have e := (idxW t).1
  blk_simp [iblk, V_main_arg0]
  refine two_of (fun a b => rd2_ix _ a b) _ _ _ ?_ ?_
  all_goals
    blk_simp [e]
    try omega

theorem blk7 (t : Fin cfg0.N) (l : Fin 128) (q : Fin 128) :
    iblk m c 7 t (ix2 l q) = (arrs m c).dtp (t.val / 512 * 8192 + (t.val % 64 * 128 + l.val)) q.val := by
  have h := point_lt t
  have e := (idxW t).2.1
  blk_simp [iblk, V_main_arg2]
  refine two_of (fun a b => rd2_ix _ a b) _ _ _ ?_ ?_
  all_goals
    blk_simp [e]
    try omega

theorem blk8 (t : Fin cfg0.N) (l : Fin 4) (q : Fin 1024) :
    iblk m c 8 t (ix2 l q) = (arrs m c).w l.val (t.val / 64 % 8 * 1024 + q.val) := by
  have h := point_lt t
  have e := (idxW t).2.2.1
  blk_simp [iblk, V_main_arg3]
  refine two_of (fun a b => rd2_ix _ a b) _ _ _ ?_ ?_
  all_goals
    blk_simp [e]
    try omega

theorem blk9 (t : Fin cfg0.N) (l : Fin 4) (q : Fin 128) :
    iblk m c 9 t (ix2 l q) = (arrs m c).w l.val (8192 + t.val / 64 % 8 * 128 + q.val) := by
  have h := point_lt t
  have e := (idxW t).2.2.2.1
  blk_simp [iblk, V_main_arg3]
  refine two_of (fun a b => rd2_ix _ a b) _ _ _ ?_ ?_
  all_goals
    blk_simp [e]
    try omega

theorem blk10 (t : Fin cfg0.N) (l : Fin 4) (q : Fin 128) :
    iblk m c 10 t (ix2 l q) = (arrs m c).w l.val (9216 + t.val / 64 % 8 * 128 + q.val) := by
  have h := point_lt t
  have e := (idxW t).2.2.2.2.1
  blk_simp [iblk, V_main_arg3]
  refine two_of (fun a b => rd2_ix _ a b) _ _ _ ?_ ?_
  all_goals
    blk_simp [e]
    try omega

theorem blk11 (t : Fin cfg0.N) (q : Fin 1024) : iblk m c 11 t (ix2 0 q) = (arrs m c).b (t.val / 64 % 8 * 1024 + q.val) := by
  have h := point_lt t
  have e := (idxW t).2.2.2.2.2.1
  blk_simp [iblk]
  refine row_of (f := (arrs m c).b) (fun b => (v13_at m c b).trans (rd1_ix _ _)) _ _ ?_
  blk_simp [e]
  try omega

theorem blk12 (t : Fin cfg0.N) (q : Fin 128) : iblk m c 12 t (ix2 0 q) = (arrs m c).b (8192 + t.val / 64 % 8 * 128 + q.val) := by
  have h := point_lt t
  have e := (idxW t).2.2.2.2.2.2.1
  blk_simp [iblk]
  refine row_of (f := (arrs m c).b) (fun b => (v14_at m c b).trans (rd1_ix _ _)) _ _ ?_
  blk_simp [e]
  try omega

theorem blk13 (t : Fin cfg0.N) (q : Fin 128) : iblk m c 13 t (ix2 0 q) = (arrs m c).b (9216 + t.val / 64 % 8 * 128 + q.val) := by
  have h := point_lt t
  have e := (idxW t).2.2.2.2.2.2.2
  blk_simp [iblk]
  refine row_of (f := (arrs m c).b) (fun b => (v15_at m c b).trans (rd1_ix _ _)) _ _ ?_
  blk_simp [e]
  try omega

theorem blk16 (t : Fin cfg0.N) (q : Fin 1024) : iblk m c 16 t (ix2 0 q) = (arrs m c).dsk ((t.val / 64 % 8 * 1024 + q.val) / 64) := by
  have h := point_lt t
  have e := (idxO t).2.2.1
  blk_simp [iblk]
  refine row_of (f := fun s => (arrs m c).dsk (s / 64)) (fun b => (v2_at m c b).trans (rd1_ix _ _)) _ _ ?_
  blk_simp [e]
  try omega

theorem blk17 (t : Fin cfg0.N) (q : Fin 1024) : iblk m c 17 t (ix2 0 q) = (arrs m c).nw (t.val / 64 % 8 * 1024 + q.val) := by
  have h := point_lt t
  have e := (idxO t).2.2.2.1
  blk_simp [iblk]
  refine row_of (f := (arrs m c).nw) (fun b => (v20_at m c b).trans (rd1_ix _ _)) _ _ ?_
  blk_simp [e]
  try omega

theorem blk14 (t : Fin cfg0.N) (j : Fin 128) :
    iblk m c 14 t (ix3 0 0 j) = if j.val < 16 then (arrs m c).dtb (t.val / 64 % 8 * 16 + j.val) else 0 := by
  have h := point_lt t
  have e := (idxO t).1
  blk_simp [iblk]
  rw [v17_eq]
  refine three_of (f := fun g j => if j < 16 then (arrs m c).dtb (g * 16 + j) else 0) (fun a b => padded_at _ a b) _ _ _ ?_ ?_
  all_goals
    blk_simp [e]
    try omega

theorem blk15 (t : Fin cfg0.N) (j : Fin 128) :
    iblk m c 15 t (ix3 0 0 j) = if j.val < 16 then (arrs m c).alog (t.val / 64 % 8 * 16 + j.val) else 0 := by
  have h := point_lt t
  have e := (idxO t).2.1
  blk_simp [iblk]
  rw [v19_eq]
  refine three_of (f := fun g j => if j < 16 then (arrs m c).alog (g * 16 + j) else 0) (fun a b => padded_at _ a b) _ _ _ ?_ ?_
  all_goals
    blk_simp [e]
    try omega

theorem blk18 (t : Fin cfg0.N) : Spread (iblk m c 18 t) := by
  intro k q
  have h := point_lt t
  have e := (idxO t).2.2.2.2.1
  blk_simp [iblk]
  refine two_of (f := fun k q => if k % 128 = q / 64 then 1 else 0) (fun a b => v12_at m c a b) _ _ _ ?_ ?_
  all_goals
    blk_simp [e]
    try omega

/-- A point's group. -/
def grp (t : Fin cfg0.N) : Fin 8 := ⟨t.val / 64 % 8, by omega⟩

theorem inx (t : Fin cfg0.N) : InBlk (arrs m c) (t.val / 512) (t.val % 64) ((grp t).val * 1024) (ins m c t).x0 (ins m c t).x1 :=
  ⟨blk0 m c t, fun _ => blk1 m c t⟩

theorem inb (t : Fin cfg0.N) : InBlk (arrs m c) (t.val / 512) (t.val % 64) (8192 + (grp t).val * 128) (ins m c t).x2 (ins m c t).x3 :=
  ⟨blk2 m c t, fun _ => blk3 m c t⟩

theorem inc (t : Fin cfg0.N) : InBlk (arrs m c) (t.val / 512) (t.val % 64) (9216 + (grp t).val * 128) (ins m c t).x4 (ins m c t).x5 :=
  ⟨blk4 m c t, fun _ => blk5 m c t⟩

theorem wx (t : Fin cfg0.N) : WBlk (arrs m c) ((grp t).val * 1024) (ins m c t).x8 (ins m c t).x11 :=
  ⟨blk8 m c t, blk11 m c t⟩

theorem wb (t : Fin cfg0.N) : WBlk (arrs m c) (8192 + (grp t).val * 128) (ins m c t).x9 (ins m c t).x12 :=
  ⟨blk9 m c t, blk12 m c t⟩

theorem wc (t : Fin cfg0.N) : WBlk (arrs m c) (9216 + (grp t).val * 128) (ins m c t).x10 (ins m c t).x13 :=
  ⟨blk10 m c t, blk13 m c t⟩

theorem dtb (t : Fin cfg0.N) : DtBlk (arrs m c) (t.val / 512) (t.val % 64) (grp t).val (ins m c t).x7 (ins m c t).x14 (ins m c t).x15 :=
  ⟨blk7 m c t, blk14 m c t, blk15 m c t⟩

theorem holds (t : Fin cfg0.N) : Holds (grid0.coords t) (ins m c t) (arrs m c) (t.val / 512) (t.val % 64) (grp t) where
  hc := Nat.mod_lt _ (by decide)
  i1 := (coords_val t).2.1
  i2 := (coords_val t).2.2
  inx := inx m c t
  inb := inb m c t
  inc := inc m c t
  wx := wx m c t
  wb := wb m c t
  wc := wc m c t
  dt := dtb m c t
  z := blk6 m c t
  dsk := blk16 m c t
  nw := blk17 m c t
  sp := blk18 m c t

end Cert.KernelIdeal.Blk

end
-- ==== Proof.Bounds.lean ====
/- The precondition: what it says of the step sizes. -/
module

public import proofs.«01_k».proof.Defs
public import proofs.«01_k».proof.Proof.InBlocks
public import Idealize.ShloMosaic.Lib.ReduceAll
public import Idealize.ShloMosaic.Lib.Pointwise

@[expose] public section

set_option maxRecDepth 16384

noncomputable section

namespace Cert.Bounds

open Idealize.ShloMosaic Idealize.ShloMosaic.TcCoe Cert.Pre_no_infinite_step Cert.Ssd

/-- The side conditions of the precondition's operations. -/
theorem facts : Cert.Pre_no_infinite_step.Facts where
  bcast_S_S16384x128 := by decide
  reducesTo_S16384x128_S_d0_1 := by decide
  h_S_ := by decide
  bcast_S_S128 := by decide
  reducesTo_S128_S_d0 := by decide

instance : Subsingleton S_.Idx := ⟨fun _ _ => funext fun a => a.elim0⟩

/-- A comparison with plus infinity that holds. -/
theorem lt_top_of {v : EReal} (h : FloatOps.cmpf (F := Ideal) (φ := .f32) .olt v (Ideal.ofBits .f32 0x7F800000#32) = 1#1) : v < ⊤ := by
  have e : Ideal.ofBits .f32 0x7F800000#32 = ⊤ := by simp [Ideal.ofBits, Ideal.ieee]
  rw [e] at h
  by_contra hn
  have h0 : FloatOps.cmpf (F := Ideal) (φ := .f32) .olt v (⊤ : EReal) = BitVec.ofBool (decide (v < ⊤)) := rfl
  rw [h0, decide_eq_false hn] at h
  exact absurd h (by decide)

/-- Under the precondition the step sizes are below plus infinity. -/
theorem fine (m : (ℓ : Loc Cert.KernelIdeal.nD Cert.KernelIdeal.τ Cert.KernelIdeal.sig) → Buf (Elt Ideal) ℓ)
    (h : Cert.Pre_KernelIdeal_no_infinite_step (hPre_no_infinite_step := facts) m) (c : Dev Cert.KernelIdeal.nD) :
    (Cert.KernelIdeal.Blk.arrs m c).Fine := by
  have h0 := congrFun (h c) (fun a => a.elim0)
  unfold Cert.Pre_no_infinite_step.fn at h0
  have h1 := IntOp.andi_eq_one.mp h0
  refine ⟨fun r q => ?_, fun q => ?_⟩
  · show rd2 (n := 16384) (k := 128) _ r q < ⊤
    unfold rd2
    split_ifs with hr
    · exact lt_top_of (Host.reduce_andi_all _ _ _ _ _ h1.1 _)
    · exact EReal.zero_lt_top
  · show rd1 (n := 128) _ q < ⊤
    unfold rd1
    split_ifs with hr
    · exact lt_top_of (Host.reduce_andi_all _ _ _ _ _ h1.2 _)
    · exact EReal.zero_lt_top

end Cert.Bounds

end
-- ==== Proof.KernelValue.lean ====
/- The call's result array. -/
module

public import proofs.«01_k».proof.Proof.InBlocks

@[expose] public section

set_option maxRecDepth 16384

noncomputable section

namespace Cert.KernelIdeal.Blk

open Cert.KernelIdeal Cert.KernelIdeal.Gen Idealize.ShloMosaic Idealize.ShloMosaic.TcCoe Idealize.SL.Sem Cert.Ssd
open Idealize.ShloMosaic.Pipeline (Dat)

variable (m : (ℓ : Loc nD τ sig) → Buf (Elt Ideal) ℓ) (ρ : Dev nD → PrngReg) (c : Dev nD)

/-- What a point leaves in the carried state: the state after its chunk. -/
theorem state_at (hA : (arrs m c).Fine) (k : ℕ) : ∀ t : Fin cfg0.N, t.val = k → ∀ (n : Fin 128) (q : Fin 1024),
    (outsAt0 m c t.val t.isLt).2 (ix2 n q) = st (arrs m c) (t.val / 512) (t.val % 64 + 1) n.val ((grp t).val * 1024 + q.val) := by
  induction k with
  | zero =>
    intro t ht n q
    rw [st_A m c t (by omega)]
    refine bSt_eq (holds m c t) hA (fun n q => ?_) n q
    rw [zero_blk, ht]
    rfl
  | succ k ih =>
    intro t ht n q
    by_cases h0 : t.val % 64 = 0
    · rw [st_A m c t h0]
      refine bSt_eq (holds m c t) hA (fun n q => ?_) n q
      rw [zero_blk, h0]
      rfl
    · rw [st_B m c t h0]
      refine bSt_eq (holds m c t) hA (fun n q => ?_) n q
      have h := ih ⟨t.val - 1, by omega⟩ (by show t.val - 1 = k; omega) n q
      unfold grp at h ⊢
      dsimp only at h ⊢
      have e1 : (t.val - 1) / 512 = t.val / 512 := by omega
      have e2 : (t.val - 1) / 64 = t.val / 64 := by omega
      have e3 : (t.val - 1) % 64 + 1 = t.val % 64 := by omega
      rw [e1, e2, e3] at h
      exact h

/-- What a point leaves in its output block. -/
theorem out_at (hA : (arrs m c).Fine) (t : Fin cfg0.N) (l : Fin 128) (q : Fin 1024) :
    (outsAt0 m c t.val t.isLt).1 (ix2 l q) = out (arrs m c) (t.val / 512) (t.val % 64) l.val ((grp t).val * 1024 + q.val) := by
  by_cases h0 : t.val % 64 = 0
  · rw [out_A m c t h0]
    refine bOut_eq (holds m c t) hA (fun n q => ?_) l q
    rw [zero_blk, h0]
    rfl
  · rw [out_B m c t h0]
    refine bOut_eq (holds m c t) hA (fun n q => ?_) l q
    have h := state_at m c hA (t.val - 1) ⟨t.val - 1, by omega⟩ rfl n q
    unfold grp at h ⊢
    dsimp only at h ⊢
    have e1 : (t.val - 1) / 512 = t.val / 512 := by omega
    have e2 : (t.val - 1) / 64 = t.val / 64 := by omega
    have e3 : (t.val - 1) % 64 + 1 = t.val % 64 := by omega
    rw [e1, e2, e3] at h
    exact h

/-- The result array: row `r` is row `r % 128` of chunk `r % 8192 / 128` of sequence `r / 8192`. -/
def result (A : Arrs) : FVec Ideal S16384x8192 .bf16 := fun i =>
  out A ((i 0).val / 8192) ((i 0).val % 8192 / 128) ((i 0).val % 128) (i 1).val

theorem final (hA : (arrs m c).Fine) : (dats m 0 c).arrAt 19 cfg0.N = result (arrs m c) := by
  refine (dats m 0 c).arrAt_eq_of_covers 19 _ (by decide +kernel) fun t _ y => ?_
  have ht := point_lt t
  have e := (idxO t).2.2.2.2.2
  rw [after0_19]
  have hy : ∀ y : S128x1024.Idx, (outsAt0 m c t.val t.isLt).1 y
      = out (arrs m c) (t.val / 512) (t.val % 64) (y 0).val ((grp t).val * 1024 + (y 1).val) :=
    fun y => two_of (f := fun a b => out (arrs m c) (t.val / 512) (t.val % 64) a ((grp t).val * 1024 + b)) (fun a b => out_at m c hA t a b) y _ _ rfl rfl
  blk_simp
  rw [hy]
  unfold result
  have g0 : ((win0_19.blk t).view.emb y 0).val = (t.val / 512 * 64 + t.val % 64) * 128 + (y 0).val := by blk_simp [e]
  have g1 : ((win0_19.blk t).view.emb y 1).val = t.val / 64 % 8 * 1024 + (y 1).val := by blk_simp [e]
  have y0 : (y 0).val < 128 := (y 0).isLt
  rw [g0, g1]
  refine congr (congr (congr (congrArg (out (arrs m c)) ?_) ?_) ?_) rfl <;> omega

/-- The run: the result array and the arguments. -/
theorem run (hA : ∀ c, (arrs m c).Fine) :
    θ_run defs (onTc (τ := τ) (main (F := Ideal))) ⟨m, fun _ => 0, ρ⟩ fun r => ∀ c : Dev nD,
      r.2.mem ((c : Thread nD τ).loc main_v21) = result (arrs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c (hA c)), (h c).2⟩) (Value.run_blocks m ρ)

end Cert.KernelIdeal.Blk

end
-- ==== Proof.RefRun.lean ====
module

public import proofs.«01_k».proof.Proof.Gen.ReferenceIdeal.Run
public import proofs.«01_k».proof.Proof.Gen.ReferenceIdeal.Step

/-! The scan of the reference as an iterated step: what one trip makes of the loop's buffers is `step` of the state they hold. -/

@[expose] public section

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step hiding step_main_v74_7 step_main_v74_8

variable {F : FTy → Type} [FloatOps F]

/-- The loop's buffers hold the state `s` before trip `j`. -/
structure At (V : Valuation τ sig (Elt F)) (s : State F) (j : ℕ) : Prop where
  state : V (Proc.devRef .tc main_v74_7) = s.main_v74_7
  stack : V (Proc.devRef .tc main_v74_8) = s.main_v74_8
  xdt : V (Proc.devRef .tc main_v74_0) = s.main_v74_0
  la : V (Proc.devRef .tc main_v74_1) = s.main_v74_1
  bm : V (Proc.devRef .tc main_v74_2) = s.main_v74_2
  cm : V (Proc.devRef .tc main_v74_3) = s.main_v74_3
  skip : V (Proc.devRef .tc main_v74_4) = s.main_v74_4
  trip : V (Proc.devRef .tc main_v74_6) = constantI S_ 32 (BitVec.ofNat 32 j)
  mask : V (Proc.devRef .tc main_v74_5) = K_main_v71 (F := F)

variable {V : Valuation τ sig (Elt F)} {s : State F} {j : ℕ}

theorem xdt_of (h : At V s j) : res_main_while0b_v99 V = b6 j s := by
  unfold res_main_while0b_v99 b6 b5
  rw [h.xdt, h.trip]
  rfl

theorem bm_of (h : At V s j) : res_main_while0b_v101 V = b18 j s := by
  unfold res_main_while0b_v101 b18 b17
  rw [h.bm, h.trip]
  rfl

theorem cm_of (h : At V s j) : res_main_while0b_v102 V = b24 j s := by
  unfold res_main_while0b_v102 b24 b23
  rw [h.cm, h.trip]
  rfl

theorem acum_of (h : At V s j) : res_main_while0b_v104 V = b34 j s := by
  unfold res_main_while0b_v104 b34 b12 b11
  rw [h.la, h.trip]
  rfl

theorem state_of (h : At V s j) : step_main_v74_7 V = b74 j s := by
  unfold step_main_v74_7
  rw [xdt_of h, bm_of h, acum_of h, h.state]
  rfl

theorem stack_of (h : At V s j) : step_main_v74_8 V = b82 j s := by
  unfold step_main_v74_8
  rw [xdt_of h, bm_of h, cm_of h, acum_of h, h.state, h.skip, h.stack, h.mask, h.trip]
  rfl

theorem trip_of (h : At V s j) : step_main_v74_6 V = constantI S_ 32 (BitVec.ofNat 32 (j + 1)) := by
  unfold step_main_v74_6
  rw [h.trip]
  funext i
  exact (BitVec.ofNat_add j 1).symm

/-- A trip takes the buffers from one state to the next. -/
theorem At.next (h : At V s j) : At (STEP V) (step j s) (j + 1) where
  state := (STEP_main_v74_7 V).trans (state_of h)
  stack := (STEP_main_v74_8 V).trans (stack_of h)
  xdt := (STEP_main_v74_0 V).trans h.xdt
  la := (STEP_main_v74_1 V).trans h.la
  bm := (STEP_main_v74_2 V).trans h.bm
  cm := (STEP_main_v74_3 V).trans h.cm
  skip := (STEP_main_v74_4 V).trans h.skip
  trip := (STEP_main_v74_6 V).trans (trip_of h)
  mask := (STEP_main_v74_5 V).trans h.mask

theorem out_of (h : At V s j) : out_main_v98 V = R_main_v98 s (V (Proc.devRef .tc main_arg0)) (V (Proc.devRef .tc main_arg8)) := by
  unfold out_main_v98
  rw [h.stack]
  rfl

variable (m : (ℓ : Loc nD τ sig) → Buf (Elt F) ℓ) (c : Dev nD)

/-- The state before the first trip. -/
abbrev start : State F :=
  init (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7))

set_option maxRecDepth 65536 in
set_option maxHeartbeats 1000000 in
theorem at_start : At (entryContents preI m c) (start m c) 0 := by
  refine ⟨?_, ?_, ?_, ?_, ?_, ?_, ?_, ?_, ?_⟩
  all_goals
    simp only [entryContents, afterL_cons, afterL_nil]
    after_reads_simp
    rfl

/-- The state before trip `k`. -/
def trips : ℕ → State F
  | 0 => start m c
  | k + 1 => step k (trips k)

theorem at_trips (k : ℕ) : At (STEP^[k] (entryContents preI m c)) (trips m c k) k := by
  induction k with
  | zero => exact at_start m c
  | succ k ih =>
    rw [Function.iterate_succ_apply']
    exact ih.next

/-- The reference's run: the result is read off the state after 64 trips, and the arguments stay. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v98)
          = R_main_v98 (trips m c 64) (m ((c.tc : Thread nD τ).loc main_arg0)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Value.run m ρ)
  have h1 := out_of (at_trips m c 64)
  rw [iter_main_arg0, iter_main_arg8] at h1
  exact ⟨(h c).1.trans h1, (h c).2⟩

end Cert.ReferenceIdeal.Trips

end
-- ==== Proof.RefSlice.lean ====
/- The chunk a trip of the reference's loop takes, at an index, and its summed log decays. -/
module

public import proofs.«01_k».proof.Proof.Gen.ReferenceIdeal.Step
public import proofs.«01_k».proof.Proof.Spec
public import Idealize.ShloMosaic.Lib.Pointwise
public import Idealize.ShloMosaic.Lib.DynamicIndex
public import Idealize.ShloMosaic.Lib.ValueIdxRank6
public import Idealize.ShloMosaic.Lib.Pipeline.Value

@[expose] public section

set_option maxRecDepth 16384

noncomputable section

namespace Cert.ReferenceIdeal.Chunk

open Idealize.ShloMosaic Cert.ReferenceIdeal Cert.ReferenceIdeal.Gen Cert.ReferenceIdeal.Step Cert.Ssd

variable (s : State Ideal) (k : Fin 64)

/-- Where a trip's slices start. -/
theorem start6 (a : Fin 6) : ((![(constantI S_ 32 (BitVec.ofNat 32 k.val) : (⟨S_, .i32⟩ : BufTy).Contents (Elt Ideal)), constantI S_ 32 0#32, constantI S_ 32 0#32,
    constantI S_ 32 0#32, constantI S_ 32 0#32, constantI S_ 32 0#32] : Fin 6 → (⟨S_, .i32⟩ : BufTy).Contents (Elt Ideal)) a (Shape.Idx.first h_S_)).toInt
    = (((![k.val, 0, 0, 0, 0, 0] : Fin 6 → ℕ) a : ℕ) : ℤ) := by
  have hk : (BitVec.ofNat 32 k.val).toInt = (k.val : ℤ) := toInt_ofNat_of_lt (by omega)
  match a with
  | ⟨0, _⟩ => exact hk
  | ⟨1, _⟩ => rfl
  | ⟨2, _⟩ => rfl
  | ⟨3, _⟩ => rfl
  | ⟨4, _⟩ => rfl
  | ⟨5, _⟩ => rfl

theorem start5 (a : Fin 5) : ((![(constantI S_ 32 (BitVec.ofNat 32 k.val) : (⟨S_, .i32⟩ : BufTy).Contents (Elt Ideal)), constantI S_ 32 0#32, constantI S_ 32 0#32, constantI S_ 32 0#32, constantI S_ 32 0#32] : Fin 5 → (⟨S_, .i32⟩ : BufTy).Contents (Elt Ideal)) a (Shape.Idx.first h_S_)).toInt
    = (((![k.val, 0, 0, 0, 0] : Fin 5 → ℕ) a : ℕ) : ℤ) := by
  have hk : (BitVec.ofNat 32 k.val).toInt = (k.val : ℤ) := toInt_ofNat_of_lt (by omega)
  match a with
  | ⟨0, _⟩ => exact hk
  | ⟨1, _⟩ => rfl
  | ⟨2, _⟩ => rfl
  | ⟨3, _⟩ => rfl
  | ⟨4, _⟩ => rfl

theorem fits6 : S64x2x128x8x16x64.Slices ![k.val, 0, 0, 0, 0, 0] S1x2x128x8x16x64 :=
  ⟨rfl, fun a => by
    match a with
    | ⟨0, _⟩ => show k.val + 1 ≤ 64; omega
    | ⟨1, _⟩ => exact le_refl _
    | ⟨2, _⟩ => exact le_refl _
    | ⟨3, _⟩ => exact le_refl _
    | ⟨4, _⟩ => exact le_refl _
    | ⟨5, _⟩ => exact le_refl _
    ⟩

theorem fits5 : S64x2x128x8x16.Slices ![k.val, 0, 0, 0, 0] S1x2x128x8x16 :=
  ⟨rfl, fun a => by
    match a with
    | ⟨0, _⟩ => show k.val + 1 ≤ 64; omega
    | ⟨1, _⟩ => exact le_refl _
    | ⟨2, _⟩ => exact le_refl _
    | ⟨3, _⟩ => exact le_refl _
    | ⟨4, _⟩ => exact le_refl _
    ⟩

theorem fits5' : S64x2x128x8x128.Slices ![k.val, 0, 0, 0, 0] S1x2x128x8x128 :=
  ⟨rfl, fun a => by
    match a with
    | ⟨0, _⟩ => show k.val + 1 ≤ 64; omega
    | ⟨1, _⟩ => exact le_refl _
    | ⟨2, _⟩ => exact le_refl _
    | ⟨3, _⟩ => exact le_refl _
    | ⟨4, _⟩ => exact le_refl _
    ⟩

/-- Row `k` of a stack. -/
theorem row6 (x : FVec Ideal S64x2x128x8x16x64 .f32) (b : Fin 2) (l : Fin 128) (g : Fin 8) (j : Fin 16) (p : Fin 64) :
    shapeCast S2x128x8x16x64 (extractStridedSlice S1x2x128x8x16x64 ![k.val, 0, 0, 0, 0, 0] x (fits6 k)) shapeCasts_S1x2x128x8x16x64_S2x128x8x16x64 (ix5 b l g j p)
      = x (ix6 k b l g j p) := by
  pointwise

theorem row5 (x : FVec Ideal S64x2x128x8x16 .f32) (b : Fin 2) (l : Fin 128) (g : Fin 8) (j : Fin 16) :
    shapeCast S2x128x8x16 (extractStridedSlice S1x2x128x8x16 ![k.val, 0, 0, 0, 0] x (fits5 k)) shapeCasts_S1x2x128x8x16_S2x128x8x16 (ix4 b l g j)
      = x (ix5 k b l g j) := by
  pointwise

theorem row5' (x : FVec Ideal S64x2x128x8x128 .f32) (b : Fin 2) (l : Fin 128) (g : Fin 8) (n : Fin 128) :
    shapeCast S2x128x8x128 (extractStridedSlice S1x2x128x8x128 ![k.val, 0, 0, 0, 0] x (fits5' k)) shapeCasts_S1x2x128x8x128_S2x128x8x128 (ix4 b l g n)
      = x (ix5 k b l g n) := by
  pointwise

theorem b6_at (b : Fin 2) (l : Fin 128) (g : Fin 8) (j : Fin 16) (p : Fin 64) : b6 k.val s (ix5 b l g j p) = s.main_v74_0 (ix6 k b l g j p) := by
  unfold b6 b5 b0 b1 b2 b3 b4
  rw [Host.dynamicSlice_eq_extractStridedSlice _ _ _ ![k.val, 0, 0, 0, 0, 0] _ (fits6 k) (start6 k)]
  exact row6 k _ _ _ _ _ _

theorem b12_at (b : Fin 2) (l : Fin 128) (g : Fin 8) (j : Fin 16) : b12 k.val s (ix4 b l g j) = s.main_v74_1 (ix5 k b l g j) := by
  unfold b12 b11 b7 b8 b9 b10
  rw [Host.dynamicSlice_eq_extractStridedSlice _ _ _ ![k.val, 0, 0, 0, 0] _ (fits5 k) (start5 k)]
  exact row5 k _ _ _ _ _

theorem b18_at (b : Fin 2) (l : Fin 128) (g : Fin 8) (n : Fin 128) : b18 k.val s (ix4 b l g n) = s.main_v74_2 (ix5 k b l g n) := by
  unfold b18 b17 b13 b14 b15 b16
  rw [Host.dynamicSlice_eq_extractStridedSlice _ _ _ ![k.val, 0, 0, 0, 0] _ (fits5' k) (start5 k)]
  exact row5' k _ _ _ _ _

theorem b24_at (b : Fin 2) (l : Fin 128) (g : Fin 8) (n : Fin 128) : b24 k.val s (ix4 b l g n) = s.main_v74_3 (ix5 k b l g n) := by
  unfold b24 b23 b19 b20 b21 b22
  rw [Host.dynamicSlice_eq_extractStridedSlice _ _ _ ![k.val, 0, 0, 0, 0] _ (fits5' k) (start5 k)]
  exact row5' k _ _ _ _ _

theorem b31_at (b : Fin 2) (l : Fin 128) (g : Fin 8) (j : Fin 16) (p : Fin 64) : b31 k.val s (ix5 b l g j p) = s.main_v74_4 (ix6 k b l g j p) := by
  unfold b31 b30 b25 b26 b27 b28 b29
  rw [Host.dynamicSlice_eq_extractStridedSlice _ _ _ ![k.val, 0, 0, 0, 0, 0] _ (fits6 k) (start6 k)]
  exact row6 k _ _ _ _ _ _

end Cert.ReferenceIdeal.Chunk

end
-- ==== Proof.RefCum.lean ====
/- A running sum written as a window sum: the sum of the rows up to a row. -/
module

public import proofs.«01_k».proof.Proof.Gen.ReferenceIdeal.Step
public import proofs.«01_k».proof.Proof.Spec
public import Idealize.ShloMosaic.Lib.Pointwise

@[expose] public section

set_option maxRecDepth 16384

noncomputable section

namespace Cert.ReferenceIdeal.Chunk

open Idealize.ShloMosaic Cert.ReferenceIdeal Cert.ReferenceIdeal.Gen Cert.ReferenceIdeal.Step Cert.Ssd

/-- A left fold that adds is a sum. -/
theorem foldl_add {ι : Type} (f : ι → EReal) (L : List ι) (a : EReal) : L.foldl (fun r n => r + f n) a = a + (L.map f).sum := by
  induction L generalizing a with
  | nil => simp
  | cons x L ih => rw [List.foldl_cons, ih, List.map_cons, List.sum_cons, add_assoc]

theorem foldl_fin {n : ℕ} (f : Fin n → EReal) : (List.finRange n).foldl (fun r k => r + f k) 0 = ∑ k, f k := by
  rw [foldl_add, zero_add, Fin.sum_univ_def]

/-- A window sum that starts from zero is the sum over the window's positions, zero where they fall outside. -/
theorem window_sum {s t : Shape} (window strides lo hi : Fin s.rank → Nat) (h : s.ReduceWindows window strides lo hi t)
    (x : s.Idx → EReal) (j : t.Idx) :
    Ideal.hostReduceWindowAdd window strides lo hi h x 0 j
      = ∑ w : (⟨s.rank, window⟩ : Shape).Idx,
        (let p : Fin s.rank → Nat := fun a => (j (a.cast h.1.symm)).val * strides a + (w a).val
        if hin : ∀ a, lo a ≤ p a ∧ p a - lo a < s.size a then x (fun a => ⟨p a - lo a, (hin a).2⟩) else 0) := by
  unfold Ideal.hostReduceWindowAdd Host.reduceWindow
  rw [← Equiv.sum_comp (Shape.rowMajor (⟨s.rank, window⟩ : Shape)).symm]
  refine Eq.trans ?_ (foldl_fin _)
  dsimp only
  congr 1
  funext r n
  congr 1
  split_ifs <;> rfl

/-- A reader shifted into the last part of a range of 128. -/
theorem shift_sum (f : ℕ → EReal) (l : ℕ) (hl : l < 128) :
    (∑ u : Fin 128, if 127 ≤ l + u.val then f (l + u.val - 127) else 0) = ∑ k ∈ Finset.range (l + 1), f k := by
  rw [Fin.sum_univ_eq_sum_range (fun u => if 127 ≤ l + u then f (l + u - 127) else 0) 128,
    show 128 = (127 - l) + (l + 1) by omega, Finset.sum_range_add]
  rw [Finset.sum_eq_zero (fun u hu => if_neg (by have := Finset.mem_range.mp hu; omega)), zero_add]
  refine Finset.sum_congr rfl fun k hk => ?_
  rw [if_pos (by omega)]
  congr 1
  omega

/-- The running sum over axis 1. -/
theorem cum_at (x : FVec Ideal S2x128x8x16 .f32) (z : FVec Ideal S_ .f32) (hz : z (Shape.Idx.first h_S_) = (0 : EReal))
    (f : ℕ → EReal) (b : Fin 2) (l : Fin 128) (g : Fin 8) (j : Fin 16) (hf : ∀ k : Fin 128, x (ix4 b k g j) = f k.val) :
    (Host.reduceWindowAdd ![1, 128, 1, 1] ![1, 1, 1, 1] ![0, 127, 0, 0] ![0, 0, 0, 0] x z
      reduceWindows_S2x128x8x16_S2x128x8x16_w1s1p0_0_w128s1p127_0_w1s1p0_0_w1s1p0_0 h_S_ : FVec Ideal S2x128x8x16 .f32) (ix4 b l g j)
      = ∑ k ∈ Finset.range (l.val + 1), f k := by
  rw [← shift_sum f l.val l.isLt]
  unfold Host.reduceWindowAdd
  rw [hz]
  refine (window_sum _ _ _ _ _ x (ix4 b l g j)).trans ?_
  refine (sum_idx4 (n0 := 1) (n1 := 128) (n2 := 1) (n3 := 1) _).trans ?_
  rw [Fin.sum_univ_one]
  refine Finset.sum_congr rfl fun u _ => ?_
  rw [Fin.sum_univ_one, Fin.sum_univ_one]
  have hl := l.isLt
  have hu := u.isLt
  by_cases h : 127 ≤ l.val + u.val
  · rw [if_pos h, ← hf ⟨l.val + u.val - 127, by omega⟩]
    refine (dif_pos ?_).trans ?_
    · intro a
      match a with
      | ⟨0, _⟩ => exact ⟨Nat.zero_le _, by show b.val * 1 + 0 - 0 < 2; omega⟩
      | ⟨1, _⟩ => exact ⟨by show 127 ≤ l.val * 1 + u.val; omega, by show l.val * 1 + u.val - 127 < 128; omega⟩
      | ⟨2, _⟩ => exact ⟨Nat.zero_le _, by show g.val * 1 + 0 - 0 < 8; omega⟩
      | ⟨3, _⟩ => exact ⟨Nat.zero_le _, by show j.val * 1 + 0 - 0 < 16; omega⟩
    · refine congrArg x (funext fun a => Fin.ext ?_)
      match a with
      | ⟨0, _⟩ => show b.val * 1 + 0 - 0 = b.val; omega
      | ⟨1, _⟩ => show l.val * 1 + u.val - 127 = l.val + u.val - 127; omega
      | ⟨2, _⟩ => show g.val * 1 + 0 - 0 = g.val; omega
      | ⟨3, _⟩ => show j.val * 1 + 0 - 0 = j.val; omega
  · rw [if_neg h]
    refine dif_neg fun hin => h ?_
    have h1 : 127 ≤ l.val * 1 + u.val := (hin 1).1
    omega

end Cert.ReferenceIdeal.Chunk

end
-- ==== Proof.RefStep.lean ====
/- One trip of the reference's scan, read at an index. -/
module

public import proofs.«01_k».proof.Proof.RefSlice
public import proofs.«01_k».proof.Proof.RefCum
public import Idealize.ShloMosaic.Lib.WordCmp

@[expose] public section

set_option maxRecDepth 16384

noncomputable section

namespace Cert.ReferenceIdeal.Chunk

open Idealize.ShloMosaic Cert.ReferenceIdeal Cert.ReferenceIdeal.Gen Cert.ReferenceIdeal.Step Cert.Ssd

/-- The stacked arrays the loop reads, as the readers have them. -/
structure Stacked (A : Arrs) (s : State Ideal) : Prop where
  xdt : ∀ (c : Fin 64) (b : Fin 2) (l : Fin 128) (g : Fin 8) (j : Fin 16) (p : Fin 64),
    s.main_v74_0 (ix6 c b l g j p) = xdt A b.val (c.val * 128 + l.val) ((g.val * 16 + j.val) * 64 + p.val)
  la : ∀ (c : Fin 64) (b : Fin 2) (l : Fin 128) (g : Fin 8) (j : Fin 16),
    s.main_v74_1 (ix5 c b l g j) = la A b.val (c.val * 128 + l.val) (g.val * 16 + j.val)
  bm : ∀ (c : Fin 64) (b : Fin 2) (l : Fin 128) (g : Fin 8) (n : Fin 128),
    s.main_v74_2 (ix5 c b l g n) = bm A b.val (c.val * 128 + l.val) g.val n.val
  cm : ∀ (c : Fin 64) (b : Fin 2) (l : Fin 128) (g : Fin 8) (n : Fin 128),
    s.main_v74_3 (ix5 c b l g n) = cm A b.val (c.val * 128 + l.val) g.val n.val
  skip : ∀ (c : Fin 64) (b : Fin 2) (l : Fin 128) (g : Fin 8) (j : Fin 16) (p : Fin 64),
    s.main_v74_4 (ix6 c b l g j p) = act A b.val (c.val * 128 + l.val) ((g.val * 16 + j.val) * 64 + p.val) * A.dsk (g.val * 16 + j.val)

/-- The state a trip starts from. -/
def Enters (A : Arrs) (k : ℕ) (s : State Ideal) : Prop :=
  ∀ (b : Fin 2) (g : Fin 8) (j : Fin 16) (p : Fin 64) (n : Fin 128),
    s.main_v74_7 (ix5 b g j p n) = st A b.val k n.val ((g.val * 16 + j.val) * 64 + p.val)

/-- Row `l` sees row `s` when `s ≤ l`. -/
theorem mask_at (l s : Fin 128) (u v w : Fin 1) :
    (K_main_v71 (F := Ideal) : (⟨S1x128x128x1x1, .i1⟩ : BufTy).Contents (Elt Ideal)) (ix5 u l s v w) = if s.val ≤ l.val then 1#1 else 0#1 := by
  pointwise [K_main_v71, K_main_v70, K_main_v69, K_main_c_0, K_main_call3_v5, K_main_call3_c_0, K_main_call3_v4, K_main_call3_v3, K_main_call3_v2, K_main_call3_v1, K_main_call3_v0, K_main_call3_c]
  have e : IntOp.addi (BitVec.ofNat 32 l.val) 0#32 = BitVec.ofNat 32 l.val := BitVec.add_zero _
  rw [e]
  by_cases h : s.val ≤ l.val
  · rw [(WordCmp.cmpi_sge_ofNat_eq_one_iff (by omega) (by omega)).mpr h, if_pos h]
    rfl
  · rw [(WordCmp.cmpi_sge_ofNat_eq_zero_iff (by omega) (by omega)).mpr h, if_neg h]
    rfl

variable {A : Arrs} {s : State Ideal} (k : Fin 64)

theorem acum_at (H : Stacked A s) (b : Fin 2) (l : Fin 128) (g : Fin 8) (j : Fin 16) :
    b34 k.val s (ix4 b l g j) = ac A b.val k.val (g.val * 16 + j.val) l.val := by
  unfold b34
  refine cum_at _ _ ?_ (fun i => la A b.val (k.val * 128 + i) (g.val * 16 + j.val)) b l g j fun i => ?_
  · pointwise [b33, b32]
  · rw [b12_at, H.la]

/-- The decay from row `r` to row `l`, zero above the diagonal. -/
theorem decay_at (H : Stacked A s) (b : Fin 2) (l r : Fin 128) (g : Fin 8) (j : Fin 16) :
    b45 k.val s (ix5 b l r g j) = if r.val ≤ l.val
      then Ideal.exp (ac A b.val k.val (g.val * 16 + j.val) l.val - ac A b.val k.val (g.val * 16 + j.val) r.val) else 0 := by
  pointwise [b45, b44, b43, b42, b41, b40, b39, b38, b37, b36, b35]
  rw [mask_at, acum_at k H, acum_at k H]
  by_cases h : r.val ≤ l.val
  · rw [if_pos h, if_pos h]
    rfl
  · rw [if_neg h, if_neg h]
    show Ideal.exp (Ideal.ofBits FTy.f32 0xFF800000#32) = 0
    rw [show Ideal.ofBits FTy.f32 0xFF800000#32 = ⊥ by simp [Ideal.ofBits, Ideal.ieee]]
    rfl

theorem score_at (H : Stacked A s) (b : Fin 2) (l r : Fin 128) (g : Fin 8) (j : Fin 16) :
    b49 k.val s (ix5 b l r g j) = sc A b.val k.val g.val l.val r.val := by
  pointwise [b49, b48, b47, b46]
  unfold sc
  refine Finset.sum_congr rfl fun n _ => ?_
  rw [b18_at, b24_at, H.bm, H.cm]
  exact mul_comm _ _

theorem within_at (H : Stacked A s) (b : Fin 2) (l : Fin 128) (g : Fin 8) (j : Fin 16) (p : Fin 64) :
    b52 k.val s (ix5 b l g j p) = yd A b.val k.val l.val ((g.val * 16 + j.val) * 64 + p.val) := by
  have hw : ∀ r : Fin 128, b50 k.val s (ix5 b l r g j) = b49 k.val s (ix5 b l r g j) * b45 k.val s (ix5 b l r g j) := fun r => by
    pointwise [b50]
  have e1 : ((g.val * 16 + j.val) * 64 + p.val) / 64 = g.val * 16 + j.val := by omega
  have e2 : ((g.val * 16 + j.val) * 64 + p.val) / 1024 = g.val := by omega
  pointwise [b52, b51]
  unfold yd
  rw [e1, e2]
  refine Finset.sum_congr rfl fun r _ => ?_
  rw [hw, b6_at, H.xdt, score_at k H, decay_at k H]
  exact mul_comm _ _

theorem across_at (H : Stacked A s) (E : Enters A k.val s) (b : Fin 2) (l : Fin 128) (g : Fin 8) (j : Fin 16) (p : Fin 64) :
    b58 k.val s (ix5 b l g j p) = yo A b.val k.val l.val ((g.val * 16 + j.val) * 64 + p.val) := by
  have e1 : ((g.val * 16 + j.val) * 64 + p.val) / 64 = g.val * 16 + j.val := by omega
  have e2 : ((g.val * 16 + j.val) * 64 + p.val) / 1024 = g.val := by omega
  pointwise [b58, b57, b56, b55, b54, b53]
  unfold yo
  rw [e1, e2, acum_at k H]
  refine congrArg (fun v : EReal => v * Ideal.exp (ac A b.val k.val (g.val * 16 + j.val) l.val)) (Finset.sum_congr rfl fun n _ => ?_)
  rw [b24_at, H.cm, E]
  exact mul_comm _ _

theorem row_at (H : Stacked A s) (E : Enters A k.val s) (b : Fin 2) (l : Fin 128) (g : Fin 8) (j : Fin 16) (p : Fin 64) :
    b75 k.val s (ix5 b l g j p) = y A b.val k.val l.val ((g.val * 16 + j.val) * 64 + p.val) := by
  have e1 : ((g.val * 16 + j.val) * 64 + p.val) / 64 = g.val * 16 + j.val := by omega
  have h : b75 k.val s (ix5 b l g j p) = b52 k.val s (ix5 b l g j p) + b58 k.val s (ix5 b l g j p) + b31 k.val s (ix5 b l g j p) := by
    pointwise [b75, b59]
  rw [h, within_at k H, across_at k H E, b31_at, H.skip]
  unfold y
  rw [e1]

theorem weighted_at (H : Stacked A s) (b : Fin 2) (l : Fin 128) (g : Fin 8) (j : Fin 16) (p : Fin 64) :
    b66 k.val s (ix5 b l g j p) = Ideal.exp (ac A b.val k.val (g.val * 16 + j.val) 127 - ac A b.val k.val (g.val * 16 + j.val) l.val)
      * xdt A b.val (k.val * 128 + l.val) ((g.val * 16 + j.val) * 64 + p.val) := by
  pointwise [b66, b65, b64, b63, b62, b61, b60]
  rw [acum_at k H, acum_at k H, b6_at, H.xdt]
  rfl

theorem state_at (H : Stacked A s) (E : Enters A k.val s) (b : Fin 2) (g : Fin 8) (j : Fin 16) (p : Fin 64) (n : Fin 128) :
    b74 k.val s (ix5 b g j p n) = st A b.val (k.val + 1) n.val ((g.val * 16 + j.val) * 64 + p.val) := by
  have e1 : ((g.val * 16 + j.val) * 64 + p.val) / 64 = g.val * 16 + j.val := by omega
  have e2 : ((g.val * 16 + j.val) * 64 + p.val) / 1024 = g.val := by omega
  have h : b74 k.val s (ix5 b g j p n) = b72 k.val s (ix5 b g j p n) + b73 k.val s (ix5 b g j p n) := by
    pointwise [b74]
  have h1 : b72 k.val s (ix5 b g j p n) = st A b.val k.val n.val ((g.val * 16 + j.val) * 64 + p.val)
      * Ideal.exp (ac A b.val k.val (g.val * 16 + j.val) 127) := by
    pointwise [b72, b71, b70, b69, b68, b67]
    rw [acum_at k H, E]
    rfl
  have h2 : b73 k.val s (ix5 b g j p n) = ∑ l : Fin 128, b66 k.val s (ix5 b l g j p) * b18 k.val s (ix4 b l g n) := by
    pointwise [b73]
  rw [h, h1, h2, st, e1, e2]
  refine congrArg (fun v : EReal => _ + v) (Finset.sum_congr rfl fun l _ => ?_)
  rw [weighted_at k H, b18_at, H.bm]
  exact mul_comm _ _

/-- The stack after the trip: its row `k` is replaced. -/
theorem stack_at (c : Fin 64) (b : Fin 2) (l : Fin 128) (g : Fin 8) (j : Fin 16) (p : Fin 64) :
    b82 k.val s (ix6 c b l g j p) = if c = k then b75 k.val s (ix5 b l g j p) else s.main_v74_8 (ix6 c b l g j p) := by
  have h76 : ∀ i : S1x2x128x8x16x64.Idx, i = ix6 0 b l g j p → b76 k.val s i = b75 k.val s (ix5 b l g j p) := by
    rintro i rfl
    pointwise [b76]
  unfold b82 b77 b78 b79 b80 b81
  rw [Host.dynamicUpdateSlice_eq_updateSlice _ _ _ _ ![k.val, 0, 0, 0, 0, 0] (fun a => by
    rw [start6 k a]
    match a with
    | ⟨0, _⟩ => show (min (max ((k.val : ℕ) : ℤ) 0) ((64 - 1 : ℕ) : ℤ)).toNat = k.val; omega
    | ⟨1, _⟩ => rfl
    | ⟨2, _⟩ => rfl
    | ⟨3, _⟩ => rfl
    | ⟨4, _⟩ => rfl
    | ⟨5, _⟩ => rfl) (fits6 k)]
  unfold updateSlice
  by_cases h : c = k
  · rw [if_pos h]
    refine (dif_pos ?_).trans (h76 _ (funext fun a => Fin.ext ?_))
    · intro a
      match a with
      | ⟨0, _⟩ => exact ⟨by show k.val ≤ c.val; rw [h], by show c.val < k.val + 1; rw [h]; omega⟩
      | ⟨1, _⟩ => exact ⟨Nat.zero_le _, by show b.val < 0 + 2; omega⟩
      | ⟨2, _⟩ => exact ⟨Nat.zero_le _, by show l.val < 0 + 128; omega⟩
      | ⟨3, _⟩ => exact ⟨Nat.zero_le _, by show g.val < 0 + 8; omega⟩
      | ⟨4, _⟩ => exact ⟨Nat.zero_le _, by show j.val < 0 + 16; omega⟩
      | ⟨5, _⟩ => exact ⟨Nat.zero_le _, by show p.val < 0 + 64; omega⟩
    · match a with
      | ⟨0, _⟩ => show c.val - k.val = 0; rw [h]; omega
      | ⟨1, _⟩ => rfl
      | ⟨2, _⟩ => rfl
      | ⟨3, _⟩ => rfl
      | ⟨4, _⟩ => rfl
      | ⟨5, _⟩ => rfl
  · rw [if_neg h]
    refine dif_neg fun hin => h ?_
    have h1 : k.val ≤ c.val ∧ c.val < k.val + 1 := hin 0
    exact Fin.ext (by omega)

end Cert.ReferenceIdeal.Chunk

end
-- ==== Proof.RefShape.lean ====
/- The reference's reshapes between token-major and chunked arrays, read at an index. -/
module

public import proofs.«01_k».proof.Proof.Gen.ReferenceIdeal.Step
public import Idealize.ShloMosaic.Lib.Pointwise
public import Idealize.ShloMosaic.Lib.ValueIdxRank6
public import Idealize.ShloMosaic.Lib.Pipeline.Value

@[expose] public section

set_option maxRecDepth 16384

noncomputable section

namespace Cert.ReferenceIdeal.Before

open Cert.ReferenceIdeal Cert.ReferenceIdeal.Gen Idealize.ShloMosaic

/-- Splitting the token axis into chunks and rows and the head axis into groups and heads of a group. -/
theorem chunk6 {α : Type} (x : S2x8192x128x64.Idx → α) (h : S2x8192x128x64.ShapeCasts S2x64x128x8x16x64)
    (b : Fin 2) (c : Fin 64) (l : Fin 128) (g : Fin 8) (j : Fin 16) (p : Fin 64) :
    shapeCast S2x64x128x8x16x64 x h (ix6 b c l g j p)
      = x (ix4 b ⟨c.val * 128 + l.val, by omega⟩ ⟨g.val * 16 + j.val, by omega⟩ p) := by
  refine shapeCast_apply x h _ _ ?_
  rw [Shape.rowMajor_val_four, Shape.rowMajor_val_six]
  show ((b.val * 8192 + (c.val * 128 + l.val)) * 128 + (g.val * 16 + j.val)) * 64 + p.val = ((((b.val * 64 + c.val) * 128 + l.val) * 8 + g.val) * 16 + j.val) * 64 + p.val
  ring

/-- … and back. -/
theorem flat4 {α : Type} (x : S2x64x128x8x16x64.Idx → α) (h : S2x64x128x8x16x64.ShapeCasts S2x8192x128x64)
    (b : Fin 2) (c : Fin 64) (l : Fin 128) (g : Fin 8) (j : Fin 16) (p : Fin 64) :
    shapeCast S2x8192x128x64 x h (ix4 b ⟨c.val * 128 + l.val, by omega⟩ ⟨g.val * 16 + j.val, by omega⟩ p)
      = x (ix6 b c l g j p) := by
  refine shapeCast_apply x h _ _ ?_
  rw [Shape.rowMajor_val_four, Shape.rowMajor_val_six]
  show ((((b.val * 64 + c.val) * 128 + l.val) * 8 + g.val) * 16 + j.val) * 64 + p.val = ((b.val * 8192 + (c.val * 128 + l.val)) * 128 + (g.val * 16 + j.val)) * 64 + p.val
  ring

end Cert.ReferenceIdeal.Before

end
-- ==== Proof.RefConv.lean ====
/- What the reference computes before its loop, read at an index: the activated channels, the step sizes, and the
   chunked arrays that the loop reads. -/
module

public import proofs.«01_k».proof.Proof.Gen.ReferenceIdeal.Step
public import proofs.«01_k».proof.Proof.Spec
public import proofs.«01_k».proof.Proof.RefShape

@[expose] public section

set_option maxRecDepth 16384

noncomputable section

namespace Cert.ReferenceIdeal.Before

open Cert.ReferenceIdeal Cert.ReferenceIdeal.Gen Cert.ReferenceIdeal.Step Idealize.ShloMosaic Cert.Ssd

variable (A : Arrs)

/-- The seven arrays the loop's set-up reads, as the readers have them. -/
structure Reads (x1 : FVec Ideal S16384x10240 .bf16) (x2 : FVec Ideal S16384x128 .f32) (x3 : FVec Ideal S4x10240 .f32)
    (x4 : FVec Ideal S10240 .f32) (x5 x6 x7 : FVec Ideal S128 .f32) : Prop where
  xbc : ∀ (r : Fin 16384) (q : Fin 10240), x1 (ix2 r q) = A.xbc r.val q.val
  dtp : ∀ (r : Fin 16384) (h : Fin 128), x2 (ix2 r h) = A.dtp r.val h.val
  w : ∀ (k : Fin 4) (q : Fin 10240), x3 (ix2 k q) = A.w k.val q.val
  b : ∀ q : Fin 10240, x4 (ix1 q) = A.b q.val
  dtb : ∀ h : Fin 128, x5 (ix1 h) = A.dtb h.val
  alog : ∀ h : Fin 128, x6 (ix1 h) = A.alog h.val
  dsk : ∀ h : Fin 128, x7 (ix1 h) = A.dsk h.val

variable {A} {x1 : FVec Ideal S16384x10240 .bf16} {x2 : FVec Ideal S16384x128 .f32} {x3 : FVec Ideal S4x10240 .f32}
    {x4 : FVec Ideal S10240 .f32} {x5 x6 x7 : FVec Ideal S128 .f32} (H : Reads A x1 x2 x3 x4 x5 x6 x7)

include H in
/-- The padded input's row `t` is the input's row three earlier. -/
theorem up_eq (b : Fin 2) (t : Fin 8195) (q : Fin 10240) :
    A_main_v3 (F := Ideal) x1 x2 x3 x4 x5 x6 x7 (ix3 b t q) = if 3 ≤ t.val then A.xbc (b.val * 8192 + (t.val - 3)) q.val else 0 := by
  pointwise [A_main_v3, A_main_v1, A_main_v0, K_main_call0_v0, K_main_c]
  by_cases h3 : 3 ≤ t.val
  · rw [dif_pos ⟨h3, by omega⟩, if_pos h3]
    exact H.xbc _ _
  · rw [dif_neg (fun h => h3 h.1), if_neg h3]
    simp [FloatOps.sitofp]

include H in
/-- The padded input `k` rows on is the tap `3 - k` rows back. -/
theorem tap_eq (b : Fin 2) (t : Fin 8192) (q : Fin 10240) (k : ℕ) (r : Fin 8195) (hr : r.val = k + t.val) (hk : k ≤ 3) :
    A_main_v3 (F := Ideal) x1 x2 x3 x4 x5 x6 x7 (ix3 b r q) = tap A b.val t.val q.val (3 - k) := by
  rw [up_eq H]
  unfold tap
  by_cases h3 : 3 ≤ r.val
  · rw [if_pos h3, if_pos (by omega)]
    congr 2
    omega
  · rw [if_neg h3, if_neg (by omega)]

include H in
theorem conv_eq (b : Fin 2) (t : Fin 8192) (q : Fin 10240) :
    A_main_v35 (F := Ideal) x1 x2 x3 x4 x5 x6 x7 (ix3 b t q) = conv A b.val t.val q.val := by
  pointwise [A_main_v35, A_main_v34, A_main_v33, A_main_v32, A_main_v31, A_main_v30, A_main_v29, A_main_v28, A_main_v27, A_main_v26, A_main_v25,
   A_main_v24, A_main_v23, A_main_v22, A_main_v21, A_main_v20, A_main_v19, A_main_v18, A_main_v17, A_main_v16, A_main_v15, A_main_v14,
   A_main_v13, A_main_v12, A_main_v11, A_main_v9, A_main_v8, A_main_v7, A_main_v6, A_main_v5, A_main_v4, K_main_v10, K_main_cst]
  rw [tap_eq H b t q 0 _ (by simp) (by decide), tap_eq H b t q 1 _ (by simp) (by decide), tap_eq H b t q 2 _ (by simp) (by decide),
    tap_eq H b t q 3 _ (by simp) (by decide), H.w, H.w, H.w, H.w, H.b]
  unfold conv
  show tap A b.val t.val q.val 3 * A.w 0 q.val + tap A b.val t.val q.val 2 * A.w 1 q.val + tap A b.val t.val q.val 1 * A.w 2 q.val
    + tap A b.val t.val q.val 0 * A.w 3 q.val + A.b q.val = _
  ac_rfl

include H in
theorem dt_eq (b : Fin 2) (t : Fin 8192) (h : Fin 128) :
    A_main_v46 (F := Ideal) x1 x2 x3 x4 x5 x6 x7 (ix3 b t h) = dt A b.val t.val h.val := by
  pointwise [A_main_v46, A_main_call2_v11, A_main_call2_v10, A_main_call2_v9, A_main_call2_v8, A_main_call2_v7, A_main_call2_v6, A_main_call2_v4,
    A_main_call2_v3, A_main_call2_v1, A_main_v45, A_main_v44, A_main_v43, A_main_v2, K_main_call2_v0, K_main_call2_v2, K_main_call2_v5, K_main_call2_cst]
  rw [if_neg (fun h => h rfl), H.dtp, H.dtb]
  rfl

include H in
theorem act_eq (b : Fin 2) (t : Fin 8192) (q : Fin 10240) :
    A_main_v36 (F := Ideal) x1 x2 x3 x4 x5 x6 x7 (ix3 b t q) = act A b.val t.val q.val := by
  have h := conv_eq H b t q
  pointwise [A_main_v36, A_main_call1_v5, A_main_call1_v3, A_main_call1_v1, A_main_call1_v0, K_main_call1_v2, K_main_call1_v4, K_main_call1_cst, K_main_call1_cst_0]
  rw [h]
  rfl

end Cert.ReferenceIdeal.Before

end
-- ==== Proof.RefChunk.lean ====
/- The chunked arrays that the reference's loop reads, at an index. -/
module

public import proofs.«01_k».proof.Proof.Gen.ReferenceIdeal.Step
public import proofs.«01_k».proof.Proof.Spec
public import proofs.«01_k».proof.Proof.RefConv

@[expose] public section

set_option maxRecDepth 16384

noncomputable section

namespace Cert.ReferenceIdeal.Before

open Cert.ReferenceIdeal Cert.ReferenceIdeal.Gen Cert.ReferenceIdeal.Step Idealize.ShloMosaic Cert.Ssd

variable (A : Arrs)

variable {A} {x1 : FVec Ideal S16384x10240 .bf16} {x2 : FVec Ideal S16384x128 .f32} {x3 : FVec Ideal S4x10240 .f32}
    {x4 : FVec Ideal S10240 .f32} {x5 x6 x7 : FVec Ideal S128 .f32} (H : Reads A x1 x2 x3 x4 x5 x6 x7)

/-- The step-sized channels, chunked. -/
theorem v57_eq (c : Fin 64) (b : Fin 2) (l : Fin 128) (g : Fin 8) (j : Fin 16) (p : Fin 64) :
    A_main_v57 (F := Ideal) x1 x2 x3 x4 x5 x6 x7 (ix6 c b l g j p)
      = A_main_v56 (F := Ideal) x1 x2 x3 x4 x5 x6 x7 (ix6 b c l g j p) := by
  pointwise [A_main_v57]

theorem v56_eq (c : Fin 64) (b : Fin 2) (l : Fin 128) (g : Fin 8) (j : Fin 16) (p : Fin 64) :
    A_main_v56 (F := Ideal) x1 x2 x3 x4 x5 x6 x7 (ix6 b c l g j p)
      = A_main_v55 (F := Ideal) x1 x2 x3 x4 x5 x6 x7 (ix4 b ⟨c.val * 128 + l.val, by omega⟩ ⟨g.val * 16 + j.val, by omega⟩ p) := by
  unfold A_main_v56
  exact chunk6 _ _ b c l g j p

theorem v64_eq (c : Fin 64) (b : Fin 2) (l : Fin 128) (g : Fin 8) (j : Fin 16) (p : Fin 64) :
    A_main_v64 (F := Ideal) x1 x2 x3 x4 x5 x6 x7 (ix6 c b l g j p)
      = A_main_v63 (F := Ideal) x1 x2 x3 x4 x5 x6 x7 (ix6 b c l g j p) := by
  pointwise [A_main_v64]

theorem v63_eq (c : Fin 64) (b : Fin 2) (l : Fin 128) (g : Fin 8) (j : Fin 16) (p : Fin 64) :
    A_main_v63 (F := Ideal) x1 x2 x3 x4 x5 x6 x7 (ix6 b c l g j p)
      = A_main_v52 (F := Ideal) x1 x2 x3 x4 x5 x6 x7 (ix4 b ⟨c.val * 128 + l.val, by omega⟩ ⟨g.val * 16 + j.val, by omega⟩ p) := by
  unfold A_main_v63
  exact chunk6 _ _ b c l g j p

/-- The product of two values. -/
def mul2 (a b : EReal) : EReal := a * b

theorem mulf_at (u v : FVec Ideal S2x8192x128x64 .f32) (i : S2x8192x128x64.Idx) : (mulf u v) i = mul2 (u i) (v i) := rfl

/-- The same before the chunking, at a token and a head. -/
theorem v40_eq (b : Fin 2) (t : Fin 8192) (h : Fin 128) (p : Fin 64) :
    A_main_v40 (F := Ideal) x1 x2 x3 x4 x5 x6 x7 (ix4 b t h p)
      = A_main_v36 (F := Ideal) x1 x2 x3 x4 x5 x6 x7 (ix3 b t ⟨h.val * 64 + p.val, by omega⟩) := by
  pointwise [A_main_v40, A_main_v37]

theorem v54_eq (b : Fin 2) (t : Fin 8192) (h : Fin 128) (p : Fin 64) :
    A_main_v54 (F := Ideal) x1 x2 x3 x4 x5 x6 x7 (ix4 b t h p)
      = A_main_v46 (F := Ideal) x1 x2 x3 x4 x5 x6 x7 (ix3 b t h) := by
  pointwise [A_main_v54, A_main_v53]

theorem v51_eq (b : Fin 2) (t : Fin 8192) (h : Fin 128) (p : Fin 64) :
    A_main_v51 (F := Ideal) x1 x2 x3 x4 x5 x6 x7 (ix4 b t h p) = x7 (ix1 h) := by
  pointwise [A_main_v51, A_main_v50, A_main_v49]

theorem v55_eq (b : Fin 2) (t : Fin 8192) (h : Fin 128) (p : Fin 64) :
    A_main_v55 (F := Ideal) x1 x2 x3 x4 x5 x6 x7 (ix4 b t h p)
      = mul2 (A_main_v36 (F := Ideal) x1 x2 x3 x4 x5 x6 x7 (ix3 b t ⟨h.val * 64 + p.val, by omega⟩))
        (A_main_v46 (F := Ideal) x1 x2 x3 x4 x5 x6 x7 (ix3 b t h)) := by
  rw [A_main_v55, mulf_at, v40_eq, v54_eq]

theorem v52_eq (b : Fin 2) (t : Fin 8192) (h : Fin 128) (p : Fin 64) :
    A_main_v52 (F := Ideal) x1 x2 x3 x4 x5 x6 x7 (ix4 b t h p)
      = mul2 (A_main_v36 (F := Ideal) x1 x2 x3 x4 x5 x6 x7 (ix3 b t ⟨h.val * 64 + p.val, by omega⟩)) (x7 (ix1 h)) := by
  rw [A_main_v52, mulf_at, v40_eq, v51_eq]

include H

/-- The step-sized channels. -/
theorem xdt_eq (c : Fin 64) (b : Fin 2) (l : Fin 128) (g : Fin 8) (j : Fin 16) (p : Fin 64) :
    A_main_v57 (F := Ideal) x1 x2 x3 x4 x5 x6 x7 (ix6 c b l g j p)
      = xdt A b.val (c.val * 128 + l.val) ((g.val * 16 + j.val) * 64 + p.val) := by
  have hq : ((g.val * 16 + j.val) * 64 + p.val) / 64 = g.val * 16 + j.val := by have := p.isLt; omega
  rw [v57_eq, v56_eq, v55_eq, act_eq H, dt_eq H]
  unfold xdt mul2
  rw [hq]

/-- The skip. -/
theorem skip_eq (c : Fin 64) (b : Fin 2) (l : Fin 128) (g : Fin 8) (j : Fin 16) (p : Fin 64) :
    A_main_v64 (F := Ideal) x1 x2 x3 x4 x5 x6 x7 (ix6 c b l g j p)
      = act A b.val (c.val * 128 + l.val) ((g.val * 16 + j.val) * 64 + p.val) * A.dsk (g.val * 16 + j.val) := by
  rw [v64_eq, v63_eq, v52_eq, act_eq H, H.dsk]
  rfl

/-- The log decays. -/
theorem la_eq (c : Fin 64) (b : Fin 2) (l : Fin 128) (g : Fin 8) (j : Fin 16) :
    A_main_v62 (F := Ideal) x1 x2 x3 x4 x5 x6 x7 (ix5 c b l g j) = la A b.val (c.val * 128 + l.val) (g.val * 16 + j.val) := by
  pointwise [A_main_v62, A_main_v61, A_main_v60, A_main_v59, A_main_v58, A_main_v48, A_main_v47]
  rw [dt_eq H, H.alog]
  rfl

/-- The input projections. -/
theorem bm_eq (c : Fin 64) (b : Fin 2) (l : Fin 128) (g : Fin 8) (n : Fin 128) :
    A_main_v66 (F := Ideal) x1 x2 x3 x4 x5 x6 x7 (ix5 c b l g n) = bm A b.val (c.val * 128 + l.val) g.val n.val := by
  pointwise [A_main_v66, A_main_v65, A_main_v41, A_main_v38]
  rw [act_eq H]
  unfold bm
  congr 1
  exact (Nat.add_assoc _ _ _).symm

/-- The output projections. -/
theorem cm_eq (c : Fin 64) (b : Fin 2) (l : Fin 128) (g : Fin 8) (n : Fin 128) :
    A_main_v68 (F := Ideal) x1 x2 x3 x4 x5 x6 x7 (ix5 c b l g n) = cm A b.val (c.val * 128 + l.val) g.val n.val := by
  pointwise [A_main_v68, A_main_v67, A_main_v42, A_main_v39]
  rw [act_eq H]
  unfold cm
  congr 1
  exact (Nat.add_assoc _ _ _).symm

end Cert.ReferenceIdeal.Before

end
-- ==== Proof.RefOut.lean ====
/- What the reference makes of the scan's stack: the gate and the group norm, read at an index. -/
module

public import proofs.«01_k».proof.Proof.RefShape
public import proofs.«01_k».proof.Proof.Spec

@[expose] public section

set_option maxRecDepth 16384

noncomputable section

namespace Cert.ReferenceIdeal.After

open Idealize.ShloMosaic Cert.ReferenceIdeal Cert.ReferenceIdeal.Gen Cert.ReferenceIdeal.Step Cert.ReferenceIdeal.Before Cert.Ssd

variable (s : State Ideal) (x0 : FVec Ideal S16384x8192 .bf16) (x8 : FVec Ideal S8192 .f32)

/-- The scan's output, token by token. -/
def yT : FVec Ideal S2x8192x8192 .f32 :=
  shapeCast _ (shapeCast _ (transpose S2x64x128x8x16x64 [1, 0, 2, 3, 4, 5] (s.main_v74_8) transposes_S64x2x128x8x16x64_S2x64x128x8x16x64_1_0_2_3_4_5) shapeCasts_S2x64x128x8x16x64_S2x8192x128x64) shapeCasts_S2x8192x128x64_S2x8192x8192

/-- The gate. -/
def zT : FVec Ideal S2x8192x8192 .f32 :=
  mulf (shapeCast _ (extf .f32 (x0) bitsLt_bf16_f32) shapeCasts_S16384x8192_S2x8192x8192) (Host.divf (broadcastInDim S2x8192x8192 ![] bcast_S_S2x8192x8192 (constant S_ .f32 0x3F800000#32)) (addf (broadcastInDim S2x8192x8192 ![] bcast_S_S2x8192x8192 (constant S_ .f32 0x3F800000#32)) (Host.exp (Host.negf (shapeCast _ (extf .f32 (x0) bitsLt_bf16_f32) shapeCasts_S16384x8192_S2x8192x8192)))))

/-- The gated output, its channels in groups. -/
def gT : FVec Ideal S2x8192x8x1024 .f32 := shapeCast _ (mulf (yT s) (zT x0)) shapeCasts_S2x8192x8192_S2x8192x8x1024

/-- … normalised. -/
def nT : FVec Ideal S2x8192x8x1024 .f32 :=
  mulf (gT s x0) (broadcastInDim S2x8192x8x1024 ![0, 1, 2, 3] bcast_S2x8192x8x1_S2x8192x8x1024_0_1_2_3 (Host.rsqrt (addf (Host.divf (broadcastInDim S2x8192x8x1 ![0, 1, 2] bcast_S2x8192x8_S2x8192x8x1_0_1_2 (Host.reduceAdd (mulf (gT s x0) (gT s x0)) (constant S_ .f32 0x00000000#32) reducesTo_S2x8192x8x1024_S2x8192x8_d3 h_S_)) (broadcastInDim S2x8192x8x1 ![] bcast_S_S2x8192x8x1 (constant S_ .f32 0x44800000#32))) (broadcastInDim S2x8192x8x1 ![] bcast_S_S2x8192x8x1 (constant S_ .f32 0x358637BD#32)))))

theorem out_eq : R_main_v98 s x0 x8 = shapeCast _ (truncf .bf16 (mulf (shapeCast _ (nT s x0) shapeCasts_S2x8192x8x1024_S2x8192x8192) (broadcastInDim S2x8192x8192 ![0, 1, 2] bcast_S1x1x8192_S2x8192x8192_0_1_2 (broadcastInDim S1x1x8192 ![2] bcast_S8192_S1x1x8192_2 (x8)))) bitsLt_bf16_f32) shapeCasts_S2x8192x8192_S16384x8192 := rfl

theorem yT_at (b : Fin 2) (c : Fin 64) (l : Fin 128) (g : Fin 8) (j : Fin 16) (p : Fin 64) :
    yT s (ix3 b ⟨c.val * 128 + l.val, by omega⟩ ⟨(g.val * 16 + j.val) * 64 + p.val, by omega⟩) = s.main_v74_8 (ix6 c b l g j p) := by
  unfold yT
  refine (shapeCast_apply _ _ _ (ix4 b ⟨c.val * 128 + l.val, by omega⟩ ⟨g.val * 16 + j.val, by omega⟩ p) ?_).trans ?_
  · rw [Shape.rowMajor_val_four, Shape.rowMajor_val_three]
    show ((b.val * 8192 + (c.val * 128 + l.val)) * 128 + (g.val * 16 + j.val)) * 64 + p.val = (b.val * 8192 + (c.val * 128 + l.val)) * 8192 + ((g.val * 16 + j.val) * 64 + p.val)
    ring
  · refine (flat4 _ _ b c l g j p).trans ?_
    pointwise

theorem zT_at (b : Fin 2) (t q : Fin 8192) : zT x0 (ix3 b t q) = silu (x0 (ix2 ⟨b.val * 8192 + t.val, by omega⟩ q)) := by
  pointwise [zT]
  rfl

theorem gT_at (b : Fin 2) (t : Fin 8192) (g : Fin 8) (q : Fin 1024) :
    gT s x0 (ix4 b t g q) = yT s (ix3 b t ⟨g.val * 1024 + q.val, by omega⟩) * zT x0 (ix3 b t ⟨g.val * 1024 + q.val, by omega⟩) := by
  pointwise [gT]

theorem nT_at (b : Fin 2) (t : Fin 8192) (g : Fin 8) (q : Fin 1024) :
    nT s x0 (ix4 b t g q) = gT s x0 (ix4 b t g q) * Ideal.rsqrt (Ideal.div (∑ r : Fin 1024, gT s x0 (ix4 b t g r) * gT s x0 (ix4 b t g r))
      (Ideal.ofBits .f32 0x44800000#32) + Ideal.ofBits .f32 0x358637BD#32) := by
  pointwise [nT]

theorem R_at (b : Fin 2) (t : Fin 8192) (g : Fin 8) (q : Fin 1024) (r : Fin 16384) (ch : Fin 8192) (hr : r.val = b.val * 8192 + t.val) (hq : ch.val = g.val * 1024 + q.val) :
    R_main_v98 s x0 x8 (ix2 r ch) = nT s x0 (ix4 b t g q) * x8 (ix1 ch) := by
  rw [out_eq]
  refine (shapeCast_apply _ _ _ (ix3 b t ch) ?_).trans ?_
  · rw [Shape.rowMajor_val_three, Shape.rowMajor_val_two]
    show (b.val * 8192 + t.val) * 8192 + ch.val = r.val * 8192 + ch.val
    rw [hr]
  have h1 : (shapeCast S2x8192x8192 (nT s x0) shapeCasts_S2x8192x8x1024_S2x8192x8192) (ix3 b t ch) = nT s x0 (ix4 b t g q) := by
    refine shapeCast_apply _ _ _ (ix4 b t g q) ?_
    rw [Shape.rowMajor_val_three, Shape.rowMajor_val_four]
    show ((b.val * 8192 + t.val) * 8 + g.val) * 1024 + q.val = (b.val * 8192 + t.val) * 8192 + ch.val
    rw [hq]
    ring
  rw [← h1]
  pointwise

variable {s x0 x8} {A : Arrs}

/-- The reference's result is the readers' normalised output. -/
theorem out_at (hy : ∀ (c : Fin 64) (b : Fin 2) (l : Fin 128) (g : Fin 8) (j : Fin 16) (p : Fin 64),
      s.main_v74_8 (ix6 c b l g j p) = y A b.val c.val l.val ((g.val * 16 + j.val) * 64 + p.val))
    (hz : ∀ (r : Fin 16384) (q : Fin 8192), x0 (ix2 r q) = A.z r.val q.val) (hn : ∀ q : Fin 8192, x8 (ix1 q) = A.nw q.val)
    (r : Fin 16384) (ch : Fin 8192) :
    R_main_v98 s x0 x8 (ix2 r ch) = out A (r.val / 8192) (r.val % 8192 / 128) (r.val % 128) ch.val := by
  have hg : ∀ (q : Fin 8192), yT s (ix3 ⟨r.val / 8192, by omega⟩ ⟨r.val % 8192, by omega⟩ q) * zT x0 (ix3 ⟨r.val / 8192, by omega⟩ ⟨r.val % 8192, by omega⟩ q)
      = gt A (r.val / 8192) (r.val % 8192 / 128) (r.val % 128) q.val := by
    intro q
    have e1 : (⟨r.val % 8192, by omega⟩ : Fin 8192) = ⟨(⟨r.val % 8192 / 128, by omega⟩ : Fin 64).val * 128 + (⟨r.val % 128, by omega⟩ : Fin 128).val, by show _ * 128 + _ < _; omega⟩ :=
      Fin.ext (by show r.val % 8192 = r.val % 8192 / 128 * 128 + r.val % 128; omega)
    have e2 : q = ⟨((⟨q.val / 1024, by omega⟩ : Fin 8).val * 16 + (⟨q.val % 1024 / 64, by omega⟩ : Fin 16).val) * 64 + (⟨q.val % 64, by omega⟩ : Fin 64).val, by show (_ * 16 + _) * 64 + _ < _; omega⟩ :=
      Fin.ext (by show q.val = (q.val / 1024 * 16 + q.val % 1024 / 64) * 64 + q.val % 64; omega)
    have h1 : yT s (ix3 ⟨r.val / 8192, by omega⟩ ⟨r.val % 8192, by omega⟩ q) = y A (r.val / 8192) (r.val % 8192 / 128) (r.val % 128) q.val := by
      rw [e1, e2, yT_at, hy]
    rw [h1, zT_at, hz]
    unfold gt
    congr 3
    show r.val / 8192 * 8192 + r.val % 8192 = r.val / 8192 * 8192 + (r.val % 8192 / 128 * 128 + r.val % 128)
    omega
  have hG : ∀ q : Fin 1024, gT s x0 (ix4 ⟨r.val / 8192, by omega⟩ ⟨r.val % 8192, by omega⟩ ⟨ch.val / 1024, by omega⟩ q)
      = gt A (r.val / 8192) (r.val % 8192 / 128) (r.val % 128) (ch.val / 1024 * 1024 + q.val) := fun q => by
    rw [gT_at, hg]
  rw [R_at s x0 x8 ⟨r.val / 8192, by omega⟩ ⟨r.val % 8192, by omega⟩ ⟨ch.val / 1024, by omega⟩ ⟨ch.val % 1024, by omega⟩ r ch
      (by show r.val = r.val / 8192 * 8192 + r.val % 8192; omega) (by show ch.val = ch.val / 1024 * 1024 + ch.val % 1024; omega),
    nT_at, hn]
  simp only [hG]
  unfold out
  rw [show ch.val / 1024 * 1024 + ch.val % 1024 = ch.val by omega]

end Cert.ReferenceIdeal.After

end
-- ==== Proof.RefLoop.lean ====
/- The reference's scan, all of its trips: what the stack holds at the end, and the result. -/
module

public import proofs.«01_k».proof.Proof.RefRun
public import proofs.«01_k».proof.Proof.RefStep
public import proofs.«01_k».proof.Proof.RefChunk
public import proofs.«01_k».proof.Proof.RefOut

@[expose] public section

set_option maxRecDepth 16384

noncomputable section

namespace Cert.ReferenceIdeal.Trips

open Idealize.ShloMosaic Idealize.ShloMosaic.TcCoe Cert.ReferenceIdeal Cert.ReferenceIdeal.Gen Cert.Ssd
open Cert.ReferenceIdeal.Step Cert.ReferenceIdeal.Chunk Cert.ReferenceIdeal.Before

variable {A : Arrs} (m : (ℓ : Loc nD τ sig) → Buf (Elt Ideal) ℓ) (c : Dev nD)
  (R : Reads A (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)))

include R

theorem stacked (k : ℕ) : Stacked A (trips m c k) := by
  induction k with
  | zero =>
    exact ⟨fun c b l g j p => xdt_eq R c b l g j p, fun c b l g j => la_eq R c b l g j, fun c b l g n => bm_eq R c b l g n,
      fun c b l g n => cm_eq R c b l g n, fun c b l g j p => skip_eq R c b l g j p⟩
  | succ k ih => exact ⟨ih.xdt, ih.la, ih.bm, ih.cm, ih.skip⟩

theorem enters (k : ℕ) (hk : k ≤ 64) : Enters A k (trips m c k) := by
  induction k with
  | zero =>
    intro b g j p n
    show (K_main_v72 (F := Ideal) : FVec Ideal S2x8x16x64x128 .f32) (ix5 b g j p n) = 0
    pointwise [K_main_v72, K_main_cst_1]
  | succ k ih =>
    intro b g j p n
    exact state_at ⟨k, by omega⟩ (stacked m c R k) (ih (by omega)) b g j p n

theorem filled (k : ℕ) (hk : k ≤ 64) (r : Fin 64) (hr : r.val < k) (b : Fin 2) (l : Fin 128) (g : Fin 8) (j : Fin 16) (p : Fin 64) :
    (trips m c k).main_v74_8 (ix6 r b l g j p) = y A b.val r.val l.val ((g.val * 16 + j.val) * 64 + p.val) := by
  induction k with
  | zero => omega
  | succ k ih =>
    refine (stack_at ⟨k, by omega⟩ r b l g j p).trans ?_
    by_cases h : r = ⟨k, by omega⟩
    · rw [if_pos h, row_at ⟨k, by omega⟩ (stacked m c R k) (enters m c R k (by omega)), h]
    · rw [if_neg h]
      have h1 : r.val ≠ k := fun e => h (Fin.ext e)
      exact ih (by omega) (by omega)

theorem result_at (hz : ∀ (r : Fin 16384) (q : Fin 8192), (m ((c.tc : Thread nD τ).loc main_arg0) : FVec Ideal S16384x8192 .bf16) (ix2 r q) = A.z r.val q.val)
    (hn : ∀ q : Fin 8192, (m ((c.tc : Thread nD τ).loc main_arg8) : FVec Ideal S8192 .f32) (ix1 q) = A.nw q.val)
    (r : Fin 16384) (ch : Fin 8192) :
    R_main_v98 (trips m c 64) (m ((c.tc : Thread nD τ).loc main_arg0)) (m ((c.tc : Thread nD τ).loc main_arg8)) (ix2 r ch)
      = out A (r.val / 8192) (r.val % 8192 / 128) (r.val % 128) ch.val :=
  After.out_at (fun r b l g j p => filled m c R 64 (le_refl _) r r.isLt b l g j p) hz hn r ch

end Cert.ReferenceIdeal.Trips

end
-- ==== Proof.Mm.lean ====
/- A product of two arrays of two axes, read at natural coordinates. -/
module

public import proofs.«01_k».proof.Proof.Spec

@[expose] public section

noncomputable section

open Idealize.ShloMosaic

namespace Cert.Ssd

/-- Row `r` of `A` against column `q` of `B`, over `K` terms. -/
def mm (K : ℕ) (A B : ℕ → ℕ → EReal) (r q : ℕ) : EReal := ∑ k : Fin K, A r k.val * B k.val q

/-- The first of two stacked arrays, read at natural coordinates (zero outside). -/
def lay {n k : ℕ} (X : (⟨3, ![2, n, k]⟩ : Shape).Idx → EReal) (r c : ℕ) : EReal :=
  if h : r < n ∧ c < k then X (ix3 0 ⟨r, h.1⟩ ⟨c, h.2⟩) else 0

theorem lay_of {n k : ℕ} (X : (⟨3, ![2, n, k]⟩ : Shape).Idx → EReal) (i : (⟨3, ![2, n, k]⟩ : Shape).Idx) (r s : ℕ)
    (hz : (i 0).val = 0) (hr : (i 1).val = r) (hs : (i 2).val = s) : X i = lay X r s := by
  subst hr hs
  unfold lay
  rw [dif_pos ⟨(i 1).isLt, (i 2).isLt⟩]
  refine congrArg X (funext fun a => ?_)
  match a with
  | ⟨0, _⟩ => exact Fin.ext hz
  | ⟨1, _⟩ => rfl
  | ⟨2, _⟩ => rfl

theorem lay_ix {n k : ℕ} (X : (⟨3, ![2, n, k]⟩ : Shape).Idx → EReal) (a : Fin n) (b : Fin k) : X (ix3 0 a b) = lay X a b := by
  unfold lay; rw [dif_pos ⟨a.isLt, b.isLt⟩]

theorem rd2_fn {n k : ℕ} (f : ℕ → ℕ → EReal) (a : Fin n) (b : Fin k) :
    rd2 (n := n) (k := k) (fun i => f (i 0).val (i 1).val) a.val b.val = f a.val b.val := (rd2_ix _ a b).symm

theorem rd2_lay {n k : ℕ} (X : (⟨3, ![2, n, k]⟩ : Shape).Idx → EReal) :
    rd2 (n := n) (k := k) (fun i => lay X (i 0).val (i 1).val) = lay X := by
  funext a b
  by_cases h : a < n ∧ b < k
  · exact rd2_fn (lay X) ⟨a, h.1⟩ ⟨b, h.2⟩
  · unfold rd2 lay
    rw [dif_neg h, dif_neg h]

/-- An array of one axis, laid out as a row. -/
theorem rd_row {n : ℕ} {X : (⟨2, ![1, n]⟩ : Shape).Idx → EReal} {x : (⟨1, ![n]⟩ : Shape).Idx → EReal} (h : ∀ q : Fin n, X (ix2 0 q) = x (ix1 q)) :
    (fun q => rd2 X 0 q) = rd1 x := by
  funext q
  unfold rd2 rd1
  by_cases hq : q < n
  · rw [dif_pos ⟨Nat.one_pos, hq⟩, dif_pos hq]
    exact h ⟨q, hq⟩
  · rw [dif_neg hq, dif_neg fun e => hq e.2]

/-- Two branches, each multiplied by its weights and gated: the first by the gates' first `4096` columns, the second by
    the columns after them. -/
def mixed (ya wa yb wb g : ℕ → ℕ → EReal) (b : ℕ → EReal) (r q : ℕ) : EReal :=
  Ideal.logistic (g r q + b q) * mm 8192 ya wa r q + Ideal.logistic (g r (4096 + q) + b (4096 + q)) * mm 4096 yb wb r q

/-- A row of `4096` numbers less its mean, over its deviation, scaled by `g` and shifted by `b`. -/
def ln (s g b : ℕ → EReal) (q : ℕ) : EReal :=
  (s q - Ideal.div (∑ k : Fin 4096, s k.val) (Ideal.ofBits .f32 0x45800000#32))
    * Ideal.rsqrt (Ideal.div (∑ k : Fin 4096, (s k.val - Ideal.div (∑ k : Fin 4096, s k.val) (Ideal.ofBits .f32 0x45800000#32))
        * (s k.val - Ideal.div (∑ k : Fin 4096, s k.val) (Ideal.ofBits .f32 0x45800000#32))) (Ideal.ofBits .f32 0x45800000#32)
      + Ideal.ofBits .f32 0x3727C5AC#32) * g q + b q

/-- The norm of the scaled stream plus a branch, row by row. -/
def lnr (h f : ℕ → ℕ → EReal) (g b : ℕ → EReal) (r q : ℕ) : EReal := ln (fun k => Ideal.ofBits .f32 0x3FB504F3#32 * h r k + f r k) g b q

end Cert.Ssd

end
-- ==== Proof.Proj.lean ====
/- What the calls of the input projection leave in their result arrays: each the product of the stream's rows with the
   columns it is given. -/
module

public import proofs.«01_k».proof.Proof.Gen.Kernel2Ideal.Frame
public import proofs.«01_k».proof.Proof.Mm
public import Idealize.ShloMosaic.Lib.Pipeline.ValueKit
public import Idealize.ShloMosaic.Lib.Pointwise

@[expose] public section

set_option maxRecDepth 16384

noncomputable section

namespace Cert.Kernel2Ideal.Blk

open Cert.Kernel2Ideal Cert.Kernel2Ideal.Gen Idealize.ShloMosaic Idealize.ShloMosaic.TcCoe Idealize.SL.Sem Cert.Ssd
open Idealize.ShloMosaic.Pipeline (Dat)

variable (V : (c : Dev nD) → (b : Ref sig .tc) → Buf (Elt Ideal) ((c : Thread nD τ).loc b)) (c : Dev nD)

/-- The blocks that a point of the call for the SSD gate z stages. -/
theorem idx0 : ∀ t : Fin cfg0.N, win0_0.index t = ![t.val / 16, 0] ∧ win0_1.index t = ![0, t.val % 16] ∧ win0_2.index t = ![t.val / 16, t.val % 16] :=
  (by decide +kernel : ∀ t : Fin grid0.N, _)

theorem out0_at (x0 : Vec Ideal S1024x4096 .bf16) (x1 : Vec Ideal S4096x512 .bf16) (l : Fin 1024) (q : Fin 512) :
    out0_2 x0 x1 (ix2 l q) = ∑ k : Fin 4096, x0 (ix2 l k) * x1 (ix2 k q) := by
  frame_out
  pointwise [k0_pay1]

/-- The array of the SSD gate z. -/
theorem fin0 : (dat0 V c).arrAt 2 cfg0.N
    = fun i => mm 4096 (rd2 (n := 16384) (k := 4096) (V c main_arg0)) (rd2 (n := 4096) (k := 8192) (V c main_v2)) (i 0).val (i 1).val := by
  refine (dat0 V c).arrAt_eq_of_covers 2 _ (by decide +kernel) fun t _ y => ?_
  have ht : t.val < 256 := lt_of_lt_of_eq t.isLt N_0
  obtain ⟨e0, e1, e2⟩ := idx0 t
  have b0 : ∀ (l : Fin 1024) (k : Fin 4096), iblk0 V c 0 t (ix2 l k) = rd2 (n := 16384) (k := 4096) (V c main_arg0) (t.val / 16 * 1024 + l.val) k.val := by
    intro l k
    blk_simp [iblk0]
    refine two_of (fun a b => rd2_ix _ a b) _ _ _ ?_ ?_
    all_goals
      blk_simp [e0]
      try omega
  have b1 : ∀ (k : Fin 4096) (q : Fin 512), iblk0 V c 1 t (ix2 k q) = rd2 (n := 4096) (k := 8192) (V c main_v2) k.val (t.val % 16 * 512 + q.val) := by
    intro k q
    blk_simp [iblk0]
    refine two_of (fun a b => rd2_ix _ a b) _ _ _ ?_ ?_
    all_goals
      blk_simp [e1]
      try omega
  rw [after0_2]
  have hy : ∀ y : S1024x512.Idx, out0_2 (iblk0 V c 0 t) (iblk0 V c 1 t) y
      = mm 4096 (rd2 (n := 16384) (k := 4096) (V c main_arg0)) (rd2 (n := 4096) (k := 8192) (V c main_v2)) (t.val / 16 * 1024 + (y 0).val) (t.val % 16 * 512 + (y 1).val) :=
    fun y => two_of (f := fun a b => mm 4096 _ _ (t.val / 16 * 1024 + a) (t.val % 16 * 512 + b))
      (fun a b => by rw [out0_at]; exact Finset.sum_congr rfl fun k _ => by rw [b0, b1]) y _ _ rfl rfl
  blk_simp
  rw [hy, e2]
  rfl

/-- The blocks that a point of the call for the convolved channels stages. -/
theorem idx1 : ∀ t : Fin cfg1.N, win1_0.index t = ![t.val / 20, 0] ∧ win1_1.index t = ![0, t.val % 20] ∧ win1_2.index t = ![t.val / 20, t.val % 20] :=
  (by decide +kernel : ∀ t : Fin grid1.N, _)

theorem out1_at (x0 : Vec Ideal S1024x4096 .bf16) (x1 : Vec Ideal S4096x512 .bf16) (l : Fin 1024) (q : Fin 512) :
    out1_2 x0 x1 (ix2 l q) = ∑ k : Fin 4096, x0 (ix2 l k) * x1 (ix2 k q) := by
  frame_out
  pointwise [k1_pay1]

/-- The array of the convolved channels. -/
theorem fin1 : (dat1 V c).arrAt 2 cfg1.N
    = fun i => mm 4096 (rd2 (n := 16384) (k := 4096) (V c main_arg0)) (rd2 (n := 4096) (k := 10240) (V c main_v5)) (i 0).val (i 1).val := by
  refine (dat1 V c).arrAt_eq_of_covers 2 _ (by decide +kernel) fun t _ y => ?_
  have ht : t.val < 320 := lt_of_lt_of_eq t.isLt N_1
  obtain ⟨e0, e1, e2⟩ := idx1 t
  have b0 : ∀ (l : Fin 1024) (k : Fin 4096), iblk1 V c 0 t (ix2 l k) = rd2 (n := 16384) (k := 4096) (V c main_arg0) (t.val / 20 * 1024 + l.val) k.val := by
    intro l k
    blk_simp [iblk1]
    refine two_of (fun a b => rd2_ix _ a b) _ _ _ ?_ ?_
    all_goals
      blk_simp [e0]
      try omega
  have b1 : ∀ (k : Fin 4096) (q : Fin 512), iblk1 V c 1 t (ix2 k q) = rd2 (n := 4096) (k := 10240) (V c main_v5) k.val (t.val % 20 * 512 + q.val) := by
    intro k q
    blk_simp [iblk1]
    refine two_of (fun a b => rd2_ix _ a b) _ _ _ ?_ ?_
    all_goals
      blk_simp [e1]
      try omega
  rw [after1_2]
  have hy : ∀ y : S1024x512.Idx, out1_2 (iblk1 V c 0 t) (iblk1 V c 1 t) y
      = mm 4096 (rd2 (n := 16384) (k := 4096) (V c main_arg0)) (rd2 (n := 4096) (k := 10240) (V c main_v5)) (t.val / 20 * 1024 + (y 0).val) (t.val % 20 * 512 + (y 1).val) :=
    fun y => two_of (f := fun a b => mm 4096 _ _ (t.val / 20 * 1024 + a) (t.val % 20 * 512 + b))
      (fun a b => by rw [out1_at]; exact Finset.sum_congr rfl fun k _ => by rw [b0, b1]) y _ _ rfl rfl
  blk_simp
  rw [hy, e2]
  rfl

/-- The blocks that a point of the call for the step sizes stages. -/
theorem idx2 : ∀ t : Fin cfg2.N, win2_0.index t = ![t.val / 1, 0] ∧ win2_1.index t = ![0, t.val % 1] ∧ win2_2.index t = ![t.val / 1, t.val % 1] :=
  (by decide +kernel : ∀ t : Fin grid2.N, _)

theorem out2_at (x0 : Vec Ideal S1024x4096 .bf16) (x1 : Vec Ideal S4096x128 .bf16) (l : Fin 1024) (q : Fin 128) :
    out2_2 x0 x1 (ix2 l q) = ∑ k : Fin 4096, x0 (ix2 l k) * x1 (ix2 k q) := by
  frame_out
  pointwise [k2_pay1]

/-- The array of the step sizes. -/
theorem fin2 : (dat2 V c).arrAt 2 cfg2.N
    = fun i => mm 4096 (rd2 (n := 16384) (k := 4096) (V c main_arg0)) (rd2 (n := 4096) (k := 128) (V c main_v8)) (i 0).val (i 1).val := by
  refine (dat2 V c).arrAt_eq_of_covers 2 _ (by decide +kernel) fun t _ y => ?_
  have ht : t.val < 16 := lt_of_lt_of_eq t.isLt N_2
  obtain ⟨e0, e1, e2⟩ := idx2 t
  have b0 : ∀ (l : Fin 1024) (k : Fin 4096), iblk2 V c 0 t (ix2 l k) = rd2 (n := 16384) (k := 4096) (V c main_arg0) (t.val / 1 * 1024 + l.val) k.val := by
    intro l k
    blk_simp [iblk2]
    refine two_of (fun a b => rd2_ix _ a b) _ _ _ ?_ ?_
    all_goals
      blk_simp [e0]
      try omega
  have b1 : ∀ (k : Fin 4096) (q : Fin 128), iblk2 V c 1 t (ix2 k q) = rd2 (n := 4096) (k := 128) (V c main_v8) k.val (t.val % 1 * 128 + q.val) := by
    intro k q
    blk_simp [iblk2]
    refine two_of (fun a b => rd2_ix _ a b) _ _ _ ?_ ?_
    all_goals
      blk_simp [e1]
      try omega
  rw [after2_2]
  have hy : ∀ y : S1024x128.Idx, out2_2 (iblk2 V c 0 t) (iblk2 V c 1 t) y
      = mm 4096 (rd2 (n := 16384) (k := 4096) (V c main_arg0)) (rd2 (n := 4096) (k := 128) (V c main_v8)) (t.val / 1 * 1024 + (y 0).val) (t.val % 1 * 128 + (y 1).val) :=
    fun y => two_of (f := fun a b => mm 4096 _ _ (t.val / 1 * 1024 + a) (t.val % 1 * 128 + b))
      (fun a b => by rw [out2_at]; exact Finset.sum_congr rfl fun k _ => by rw [b0, b1]) y _ _ rfl rfl
  blk_simp
  rw [hy, e2]
  rfl

/-- The blocks that a point of the call for the queries and keys stages. -/
theorem idx3 : ∀ t : Fin cfg3.N, win3_0.index t = ![t.val / 8, 0] ∧ win3_1.index t = ![0, t.val % 8] ∧ win3_2.index t = ![t.val / 8, t.val % 8] :=
  (by decide +kernel : ∀ t : Fin grid3.N, _)

theorem out3_at (x0 : Vec Ideal S1024x4096 .bf16) (x1 : Vec Ideal S4096x512 .bf16) (l : Fin 1024) (q : Fin 512) :
    out3_2 x0 x1 (ix2 l q) = ∑ k : Fin 4096, x0 (ix2 l k) * x1 (ix2 k q) := by
  frame_out
  pointwise [k3_pay1]

/-- The array of the queries and keys. -/
theorem fin3 : (dat3 V c).arrAt 2 cfg3.N
    = fun i => mm 4096 (rd2 (n := 16384) (k := 4096) (V c main_arg0)) (rd2 (n := 4096) (k := 4096) (V c main_v11)) (i 0).val (i 1).val := by
  refine (dat3 V c).arrAt_eq_of_covers 2 _ (by decide +kernel) fun t _ y => ?_
  have ht : t.val < 128 := lt_of_lt_of_eq t.isLt N_3
  obtain ⟨e0, e1, e2⟩ := idx3 t
  have b0 : ∀ (l : Fin 1024) (k : Fin 4096), iblk3 V c 0 t (ix2 l k) = rd2 (n := 16384) (k := 4096) (V c main_arg0) (t.val / 8 * 1024 + l.val) k.val := by
    intro l k
    blk_simp [iblk3]
    refine two_of (fun a b => rd2_ix _ a b) _ _ _ ?_ ?_
    all_goals
      blk_simp [e0]
      try omega
  have b1 : ∀ (k : Fin 4096) (q : Fin 512), iblk3 V c 1 t (ix2 k q) = rd2 (n := 4096) (k := 4096) (V c main_v11) k.val (t.val % 8 * 512 + q.val) := by
    intro k q
    blk_simp [iblk3]
    refine two_of (fun a b => rd2_ix _ a b) _ _ _ ?_ ?_
    all_goals
      blk_simp [e1]
      try omega
  rw [after3_2]
  have hy : ∀ y : S1024x512.Idx, out3_2 (iblk3 V c 0 t) (iblk3 V c 1 t) y
      = mm 4096 (rd2 (n := 16384) (k := 4096) (V c main_arg0)) (rd2 (n := 4096) (k := 4096) (V c main_v11)) (t.val / 8 * 1024 + (y 0).val) (t.val % 8 * 512 + (y 1).val) :=
    fun y => two_of (f := fun a b => mm 4096 _ _ (t.val / 8 * 1024 + a) (t.val % 8 * 512 + b))
      (fun a b => by rw [out3_at]; exact Finset.sum_congr rfl fun k _ => by rw [b0, b1]) y _ _ rfl rfl
  blk_simp
  rw [hy, e2]
  rfl

/-- The blocks that a point of the call for the values stages. -/
theorem idx4 : ∀ t : Fin cfg4.N, win4_0.index t = ![t.val / 8, 0] ∧ win4_1.index t = ![0, t.val % 8] ∧ win4_2.index t = ![t.val / 8, t.val % 8] :=
  (by decide +kernel : ∀ t : Fin grid4.N, _)

theorem out4_at (x0 : Vec Ideal S1024x4096 .bf16) (x1 : Vec Ideal S4096x512 .bf16) (l : Fin 1024) (q : Fin 512) :
    out4_2 x0 x1 (ix2 l q) = ∑ k : Fin 4096, x0 (ix2 l k) * x1 (ix2 k q) := by
  frame_out
  pointwise [k4_pay1]

/-- The array of the values. -/
theorem fin4 : (dat4 V c).arrAt 2 cfg4.N
    = fun i => mm 4096 (rd2 (n := 16384) (k := 4096) (V c main_arg0)) (rd2 (n := 4096) (k := 4096) (V c main_v14)) (i 0).val (i 1).val := by
  refine (dat4 V c).arrAt_eq_of_covers 2 _ (by decide +kernel) fun t _ y => ?_
  have ht : t.val < 128 := lt_of_lt_of_eq t.isLt N_4
  obtain ⟨e0, e1, e2⟩ := idx4 t
  have b0 : ∀ (l : Fin 1024) (k : Fin 4096), iblk4 V c 0 t (ix2 l k) = rd2 (n := 16384) (k := 4096) (V c main_arg0) (t.val / 8 * 1024 + l.val) k.val := by
    intro l k
    blk_simp [iblk4]
    refine two_of (fun a b => rd2_ix _ a b) _ _ _ ?_ ?_
    all_goals
      blk_simp [e0]
      try omega
  have b1 : ∀ (k : Fin 4096) (q : Fin 512), iblk4 V c 1 t (ix2 k q) = rd2 (n := 4096) (k := 4096) (V c main_v14) k.val (t.val % 8 * 512 + q.val) := by
    intro k q
    blk_simp [iblk4]
    refine two_of (fun a b => rd2_ix _ a b) _ _ _ ?_ ?_
    all_goals
      blk_simp [e1]
      try omega
  rw [after4_2]
  have hy : ∀ y : S1024x512.Idx, out4_2 (iblk4 V c 0 t) (iblk4 V c 1 t) y
      = mm 4096 (rd2 (n := 16384) (k := 4096) (V c main_arg0)) (rd2 (n := 4096) (k := 4096) (V c main_v14)) (t.val / 8 * 1024 + (y 0).val) (t.val % 8 * 512 + (y 1).val) :=
    fun y => two_of (f := fun a b => mm 4096 _ _ (t.val / 8 * 1024 + a) (t.val % 8 * 512 + b))
      (fun a b => by rw [out4_at]; exact Finset.sum_congr rfl fun k _ => by rw [b0, b1]) y _ _ rfl rfl
  blk_simp
  rw [hy, e2]
  rfl

/-- The blocks that a point of the call for the output gate stages. -/
theorem idx5 : ∀ t : Fin cfg5.N, win5_0.index t = ![t.val / 8, 0] ∧ win5_1.index t = ![0, t.val % 8] ∧ win5_2.index t = ![t.val / 8, t.val % 8] :=
  (by decide +kernel : ∀ t : Fin grid5.N, _)

theorem out5_at (x0 : Vec Ideal S1024x4096 .bf16) (x1 : Vec Ideal S4096x512 .bf16) (l : Fin 1024) (q : Fin 512) :
    out5_2 x0 x1 (ix2 l q) = ∑ k : Fin 4096, x0 (ix2 l k) * x1 (ix2 k q) := by
  frame_out
  pointwise [k5_pay1]

/-- The array of the output gate. -/
theorem fin5 : (dat5 V c).arrAt 2 cfg5.N
    = fun i => mm 4096 (rd2 (n := 16384) (k := 4096) (V c main_arg0)) (rd2 (n := 4096) (k := 4096) (V c main_v17)) (i 0).val (i 1).val := by
  refine (dat5 V c).arrAt_eq_of_covers 2 _ (by decide +kernel) fun t _ y => ?_
  have ht : t.val < 128 := lt_of_lt_of_eq t.isLt N_5
  obtain ⟨e0, e1, e2⟩ := idx5 t
  have b0 : ∀ (l : Fin 1024) (k : Fin 4096), iblk5 V c 0 t (ix2 l k) = rd2 (n := 16384) (k := 4096) (V c main_arg0) (t.val / 8 * 1024 + l.val) k.val := by
    intro l k
    blk_simp [iblk5]
    refine two_of (fun a b => rd2_ix _ a b) _ _ _ ?_ ?_
    all_goals
      blk_simp [e0]
      try omega
  have b1 : ∀ (k : Fin 4096) (q : Fin 512), iblk5 V c 1 t (ix2 k q) = rd2 (n := 4096) (k := 4096) (V c main_v17) k.val (t.val % 8 * 512 + q.val) := by
    intro k q
    blk_simp [iblk5]
    refine two_of (fun a b => rd2_ix _ a b) _ _ _ ?_ ?_
    all_goals
      blk_simp [e1]
      try omega
  rw [after5_2]
  have hy : ∀ y : S1024x512.Idx, out5_2 (iblk5 V c 0 t) (iblk5 V c 1 t) y
      = mm 4096 (rd2 (n := 16384) (k := 4096) (V c main_arg0)) (rd2 (n := 4096) (k := 4096) (V c main_v17)) (t.val / 8 * 1024 + (y 0).val) (t.val % 8 * 512 + (y 1).val) :=
    fun y => two_of (f := fun a b => mm 4096 _ _ (t.val / 8 * 1024 + a) (t.val % 8 * 512 + b))
      (fun a b => by rw [out5_at]; exact Finset.sum_congr rfl fun k _ => by rw [b0, b1]) y _ _ rfl rfl
  blk_simp
  rw [hy, e2]
  rfl

/-- The blocks that a point of the call for the mLSTM gates' columns stages. -/
theorem idx6 : ∀ t : Fin cfg6.N, win6_0.index t = ![t.val / 1, 0] ∧ win6_1.index t = ![0, t.val % 1] ∧ win6_2.index t = ![t.val / 1, t.val % 1] :=
  (by decide +kernel : ∀ t : Fin grid6.N, _)

theorem out6_at (x0 : Vec Ideal S1024x4096 .bf16) (x1 : Vec Ideal S4096x128 .bf16) (l : Fin 1024) (q : Fin 128) :
    out6_2 x0 x1 (ix2 l q) = ∑ k : Fin 4096, x0 (ix2 l k) * x1 (ix2 k q) := by
  frame_out
  pointwise [k6_pay1]

/-- The array of the mLSTM gates' columns. -/
theorem fin6 : (dat6 V c).arrAt 2 cfg6.N
    = fun i => mm 4096 (rd2 (n := 16384) (k := 4096) (V c main_arg0)) (rd2 (n := 4096) (k := 128) (V c main_v20)) (i 0).val (i 1).val := by
  refine (dat6 V c).arrAt_eq_of_covers 2 _ (by decide +kernel) fun t _ y => ?_
  have ht : t.val < 16 := lt_of_lt_of_eq t.isLt N_6
  obtain ⟨e0, e1, e2⟩ := idx6 t
  have b0 : ∀ (l : Fin 1024) (k : Fin 4096), iblk6 V c 0 t (ix2 l k) = rd2 (n := 16384) (k := 4096) (V c main_arg0) (t.val / 1 * 1024 + l.val) k.val := by
    intro l k
    blk_simp [iblk6]
    refine two_of (fun a b => rd2_ix _ a b) _ _ _ ?_ ?_
    all_goals
      blk_simp [e0]
      try omega
  have b1 : ∀ (k : Fin 4096) (q : Fin 128), iblk6 V c 1 t (ix2 k q) = rd2 (n := 4096) (k := 128) (V c main_v20) k.val (t.val % 1 * 128 + q.val) := by
    intro k q
    blk_simp [iblk6]
    refine two_of (fun a b => rd2_ix _ a b) _ _ _ ?_ ?_
    all_goals
      blk_simp [e1]
      try omega
  rw [after6_2]
  have hy : ∀ y : S1024x128.Idx, out6_2 (iblk6 V c 0 t) (iblk6 V c 1 t) y
      = mm 4096 (rd2 (n := 16384) (k := 4096) (V c main_arg0)) (rd2 (n := 4096) (k := 128) (V c main_v20)) (t.val / 1 * 1024 + (y 0).val) (t.val % 1 * 128 + (y 1).val) :=
    fun y => two_of (f := fun a b => mm 4096 _ _ (t.val / 1 * 1024 + a) (t.val % 1 * 128 + b))
      (fun a b => by rw [out6_at]; exact Finset.sum_congr rfl fun k _ => by rw [b0, b1]) y _ _ rfl rfl
  blk_simp
  rw [hy, e2]
  rfl

/-- The blocks that a point of the call for the gates' rows stages. -/
theorem idx7 : ∀ t : Fin cfg7.N, win7_0.index t = ![0, 0] ∧ win7_1.index t = ![t.val, 0] ∧ win7_2.index t = ![0, t.val] :=
  (by decide +kernel : ∀ t : Fin grid7.N, _)

theorem out7_at (x0 : Vec Ideal S16x4096 .bf16) (x1 : Vec Ideal S1024x4096 .bf16) (l : Fin 16) (q : Fin 1024) :
    out7_2 x0 x1 (ix2 l q) = ∑ k : Fin 4096, x0 (ix2 l k) * x1 (ix2 q k) := by
  frame_out
  pointwise [k7_pay1]

/-- The array of the gates' rows. -/
theorem fin7 : (dat7 V c).arrAt 2 cfg7.N
    = fun i => mm 4096 (rd2 (n := 16) (k := 4096) (V c main_v25)) (fun k q => rd2 (n := 16384) (k := 4096) (V c main_arg0) q k) (i 0).val (i 1).val := by
  refine (dat7 V c).arrAt_eq_of_covers 2 _ (by decide +kernel) fun t _ y => ?_
  have ht : t.val < 16 := lt_of_lt_of_eq t.isLt N_7
  obtain ⟨e0, e1, e2⟩ := idx7 t
  have b0 : ∀ (l : Fin 16) (k : Fin 4096), iblk7 V c 0 t (ix2 l k) = rd2 (n := 16) (k := 4096) (V c main_v25) l.val k.val := by
    intro l k
    blk_simp [iblk7]
    refine two_of (fun a b => rd2_ix _ a b) _ _ _ ?_ ?_
    all_goals
      blk_simp [e0]
      try omega
  have b1 : ∀ (q : Fin 1024) (k : Fin 4096), iblk7 V c 1 t (ix2 q k) = rd2 (n := 16384) (k := 4096) (V c main_arg0) (t.val * 1024 + q.val) k.val := by
    intro q k
    blk_simp [iblk7]
    refine two_of (fun a b => rd2_ix _ a b) _ _ _ ?_ ?_
    all_goals
      blk_simp [e1]
      try omega
  rw [after7_2]
  have hy : ∀ y : S16x1024.Idx, out7_2 (iblk7 V c 0 t) (iblk7 V c 1 t) y
      = mm 4096 (rd2 (n := 16) (k := 4096) (V c main_v25)) (fun k q => rd2 (n := 16384) (k := 4096) (V c main_arg0) q k) (y 0).val (t.val * 1024 + (y 1).val) :=
    fun y => two_of (f := fun a b => mm 4096 _ _ a (t.val * 1024 + b))
      (fun a b => by rw [out7_at]; exact Finset.sum_congr rfl fun k _ => by rw [b0, b1]) y _ _ rfl rfl
  blk_simp
  rw [hy, e2]
  refine congr (congrArg (mm 4096 _ _) ?_) ?_ <;> simp

/-- The blocks that a point of the call for the branches' gates stages. -/
theorem idx8 : ∀ t : Fin cfg8.N, win8_0.index t = ![t.val / 16, 0] ∧ win8_1.index t = ![0, t.val % 16] ∧ win8_2.index t = ![t.val / 16, t.val % 16] :=
  (by decide +kernel : ∀ t : Fin grid8.N, _)

theorem out8_at (x0 : Vec Ideal S1024x4096 .bf16) (x1 : Vec Ideal S4096x512 .bf16) (l : Fin 1024) (q : Fin 512) :
    out8_2 x0 x1 (ix2 l q) = ∑ k : Fin 4096, x0 (ix2 l k) * x1 (ix2 k q) := by
  frame_out
  pointwise [k8_pay1]

/-- The array of the branches' gates. -/
theorem fin8 : (dat8 V c).arrAt 2 cfg8.N
    = fun i => mm 4096 (rd2 (n := 16384) (k := 4096) (V c main_arg0)) (rd2 (n := 4096) (k := 8192) (V c main_v23)) (i 0).val (i 1).val := by
  refine (dat8 V c).arrAt_eq_of_covers 2 _ (by decide +kernel) fun t _ y => ?_
  have ht : t.val < 256 := lt_of_lt_of_eq t.isLt N_8
  obtain ⟨e0, e1, e2⟩ := idx8 t
  have b0 : ∀ (l : Fin 1024) (k : Fin 4096), iblk8 V c 0 t (ix2 l k) = rd2 (n := 16384) (k := 4096) (V c main_arg0) (t.val / 16 * 1024 + l.val) k.val := by
    intro l k
    blk_simp [iblk8]
    refine two_of (fun a b => rd2_ix _ a b) _ _ _ ?_ ?_
    all_goals
      blk_simp [e0]
      try omega
  have b1 : ∀ (k : Fin 4096) (q : Fin 512), iblk8 V c 1 t (ix2 k q) = rd2 (n := 4096) (k := 8192) (V c main_v23) k.val (t.val % 16 * 512 + q.val) := by
    intro k q
    blk_simp [iblk8]
    refine two_of (fun a b => rd2_ix _ a b) _ _ _ ?_ ?_
    all_goals
      blk_simp [e1]
      try omega
  rw [after8_2]
  have hy : ∀ y : S1024x512.Idx, out8_2 (iblk8 V c 0 t) (iblk8 V c 1 t) y
      = mm 4096 (rd2 (n := 16384) (k := 4096) (V c main_arg0)) (rd2 (n := 4096) (k := 8192) (V c main_v23)) (t.val / 16 * 1024 + (y 0).val) (t.val % 16 * 512 + (y 1).val) :=
    fun y => two_of (f := fun a b => mm 4096 _ _ (t.val / 16 * 1024 + a) (t.val % 16 * 512 + b))
      (fun a b => by rw [out8_at]; exact Finset.sum_congr rfl fun k _ => by rw [b0, b1]) y _ _ rfl rfl
  blk_simp
  rw [hy, e2]
  rfl

end Cert.Kernel2Ideal.Blk

end
-- ==== Proof.ProjRun.lean ====
/- The input projection's kernels: the columns each call is given, what each leaves, and the run. -/
module

public import proofs.«01_k».proof.Proof.Proj
public import Idealize.ShloMosaic.Lib.StableHlo.Run

@[expose] public section

set_option maxRecDepth 16384

noncomputable section

namespace Cert.Kernel2Ideal.Blk

open Cert.Kernel2Ideal Cert.Kernel2Ideal.Gen Idealize.ShloMosaic Idealize.ShloMosaic.TcCoe Idealize.SL Idealize.SL.Sem Cert.Ssd

variable (m : (ℓ : Loc nD τ sig) → Buf (Elt Ideal) ℓ) (ρ : Dev nD → PrngReg) (c : Dev nD)

/-- The projection's columns from `off` on. -/
def cols (n off : ℕ) : (⟨2, ![16384, n]⟩ : Shape).Idx → EReal := fun i =>
  mm 4096 (rd2 (n := 16384) (k := 4096) (m ((c : Thread nD τ).loc main_arg0))) (rd2 (n := 4096) (k := 39056) (m ((c : Thread nD τ).loc main_arg1)))
    (i 0).val (off + (i 1).val)

/-- A product with a slice of the weights is the slice of the product. -/
theorem cols_of {n off : ℕ} (w : (⟨2, ![4096, n]⟩ : Shape).Idx → EReal)
    (hw : ∀ (k : Fin 4096) (q : Fin n), w (ix2 k q) = rd2 (n := 4096) (k := 39056) (m ((c : Thread nD τ).loc main_arg1)) k.val (off + q.val)) :
    (fun i : (⟨2, ![16384, n]⟩ : Shape).Idx => mm 4096 (rd2 (n := 16384) (k := 4096) (m ((c : Thread nD τ).loc main_arg0))) (rd2 w) (i 0).val (i 1).val)
      = cols m c n off := by
  funext i
  unfold cols mm
  refine Finset.sum_congr rfl fun k _ => ?_
  refine congrArg (fun x : EReal => _ * x) ?_
  exact (rd2_ix w k (i 1)).symm.trans (hw k (i 1))

/-- The array of z: the weights' columns, padded by nothing. -/
theorem e_z : W17 m ρ c (Proc.devRef .tc main_v2)
    = truncf (F := Ideal) .bf16 (pad S4096x8192 ![0, 0] ![0, 0] ![0, 0]
        (extractStridedSlice S4096x8192 ![0, 0] (m ((c : Thread nD τ).loc main_arg1)) slices_S4096x39056_S4096x8192_0_0)
        (sitofp (F := Ideal) .f32 (constantI S_ 32 0#32)) pads_S4096x8192_S4096x8192_000_000 h_S_) bitsLt_bf16_f32 := by
  simp only [W17, W16, W15, W14, W13, W12, W11, W10, W9, W8, W7, W6, W5, W4, W3, W2, W1, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
  after_results
  rfl

theorem w_z (k : Fin 4096) (q : Fin 8192) : W17 m ρ c (Proc.devRef .tc main_v2) (ix2 k q)
    = rd2 (n := 4096) (k := 39056) (m ((c : Thread nD τ).loc main_arg1)) k.val (0 + q.val) := by
  rw [e_z]
  pointwise
  refine two_of (fun a b => rd2_ix _ a b) _ _ _ ?_ ?_ <;> dsimp

/-- The array of xbc: the weights' columns, padded by nothing. -/
theorem e_xbc : W17 m ρ c (Proc.devRef .tc main_v5)
    = truncf (F := Ideal) .bf16 (pad S4096x10240 ![0, 0] ![0, 0] ![0, 0]
        (extractStridedSlice S4096x10240 ![0, 8192] (m ((c : Thread nD τ).loc main_arg1)) slices_S4096x39056_S4096x10240_0_8192)
        (sitofp (F := Ideal) .f32 (constantI S_ 32 0#32)) pads_S4096x10240_S4096x10240_000_000 h_S_) bitsLt_bf16_f32 := by
  simp only [W17, W16, W15, W14, W13, W12, W11, W10, W9, W8, W7, W6, W5, W4, W3, W2, W1, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
  after_results
  rfl

theorem w_xbc (k : Fin 4096) (q : Fin 10240) : W17 m ρ c (Proc.devRef .tc main_v5) (ix2 k q)
    = rd2 (n := 4096) (k := 39056) (m ((c : Thread nD τ).loc main_arg1)) k.val (8192 + q.val) := by
  rw [e_xbc]
  pointwise
  refine two_of (fun a b => rd2_ix _ a b) _ _ _ ?_ ?_ <;> dsimp

/-- The array of dt: the weights' columns, padded by nothing. -/
theorem e_dt : W17 m ρ c (Proc.devRef .tc main_v8)
    = truncf (F := Ideal) .bf16 (pad S4096x128 ![0, 0] ![0, 0] ![0, 0]
        (extractStridedSlice S4096x128 ![0, 18432] (m ((c : Thread nD τ).loc main_arg1)) slices_S4096x39056_S4096x128_0_18432)
        (sitofp (F := Ideal) .f32 (constantI S_ 32 0#32)) pads_S4096x128_S4096x128_000_000 h_S_) bitsLt_bf16_f32 := by
  simp only [W17, W16, W15, W14, W13, W12, W11, W10, W9, W8, W7, W6, W5, W4, W3, W2, W1, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
  after_results
  rfl

theorem w_dt (k : Fin 4096) (q : Fin 128) : W17 m ρ c (Proc.devRef .tc main_v8) (ix2 k q)
    = rd2 (n := 4096) (k := 39056) (m ((c : Thread nD τ).loc main_arg1)) k.val (18432 + q.val) := by
  rw [e_dt]
  pointwise
  refine two_of (fun a b => rd2_ix _ a b) _ _ _ ?_ ?_ <;> dsimp

/-- The array of qk: the weights' columns, padded by nothing. -/
theorem e_qk : W17 m ρ c (Proc.devRef .tc main_v11)
    = truncf (F := Ideal) .bf16 (pad S4096x4096 ![0, 0] ![0, 0] ![0, 0]
        (extractStridedSlice S4096x4096 ![0, 18560] (m ((c : Thread nD τ).loc main_arg1)) slices_S4096x39056_S4096x4096_0_18560)
        (sitofp (F := Ideal) .f32 (constantI S_ 32 0#32)) pads_S4096x4096_S4096x4096_000_000 h_S_) bitsLt_bf16_f32 := by
  simp only [W17, W16, W15, W14, W13, W12, W11, W10, W9, W8, W7, W6, W5, W4, W3, W2, W1, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
  after_results
  rfl

theorem w_qk (k : Fin 4096) (q : Fin 4096) : W17 m ρ c (Proc.devRef .tc main_v11) (ix2 k q)
    = rd2 (n := 4096) (k := 39056) (m ((c : Thread nD τ).loc main_arg1)) k.val (18560 + q.val) := by
  rw [e_qk]
  pointwise
  refine two_of (fun a b => rd2_ix _ a b) _ _ _ ?_ ?_ <;> dsimp

/-- The array of v: the weights' columns, padded by nothing. -/
theorem e_v : W17 m ρ c (Proc.devRef .tc main_v14)
    = truncf (F := Ideal) .bf16 (pad S4096x4096 ![0, 0] ![0, 0] ![0, 0]
        (extractStridedSlice S4096x4096 ![0, 22656] (m ((c : Thread nD τ).loc main_arg1)) slices_S4096x39056_S4096x4096_0_22656)
        (sitofp (F := Ideal) .f32 (constantI S_ 32 0#32)) pads_S4096x4096_S4096x4096_000_000 h_S_) bitsLt_bf16_f32 := by
  simp only [W17, W16, W15, W14, W13, W12, W11, W10, W9, W8, W7, W6, W5, W4, W3, W2, W1, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
  after_results
  rfl

theorem w_v (k : Fin 4096) (q : Fin 4096) : W17 m ρ c (Proc.devRef .tc main_v14) (ix2 k q)
    = rd2 (n := 4096) (k := 39056) (m ((c : Thread nD τ).loc main_arg1)) k.val (22656 + q.val) := by
  rw [e_v]
  pointwise
  refine two_of (fun a b => rd2_ix _ a b) _ _ _ ?_ ?_ <;> dsimp

/-- The array of o: the weights' columns, padded by nothing. -/
theorem e_o : W17 m ρ c (Proc.devRef .tc main_v17)
    = truncf (F := Ideal) .bf16 (pad S4096x4096 ![0, 0] ![0, 0] ![0, 0]
        (extractStridedSlice S4096x4096 ![0, 26752] (m ((c : Thread nD τ).loc main_arg1)) slices_S4096x39056_S4096x4096_0_26752)
        (sitofp (F := Ideal) .f32 (constantI S_ 32 0#32)) pads_S4096x4096_S4096x4096_000_000 h_S_) bitsLt_bf16_f32 := by
  simp only [W17, W16, W15, W14, W13, W12, W11, W10, W9, W8, W7, W6, W5, W4, W3, W2, W1, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
  after_results
  rfl

theorem w_o (k : Fin 4096) (q : Fin 4096) : W17 m ρ c (Proc.devRef .tc main_v17) (ix2 k q)
    = rd2 (n := 4096) (k := 39056) (m ((c : Thread nD τ).loc main_arg1)) k.val (26752 + q.val) := by
  rw [e_o]
  pointwise
  refine two_of (fun a b => rd2_ix _ a b) _ _ _ ?_ ?_ <;> dsimp

/-- The array of i: the weights' columns, padded with zero columns. -/
theorem e_i : W17 m ρ c (Proc.devRef .tc main_v20)
    = truncf (F := Ideal) .bf16 (pad S4096x128 ![0, 0] ![0, 112] ![0, 0]
        (extractStridedSlice S4096x16 ![0, 30848] (m ((c : Thread nD τ).loc main_arg1)) slices_S4096x39056_S4096x16_0_30848)
        (sitofp (F := Ideal) .f32 (constantI S_ 32 0#32)) pads_S4096x16_S4096x128_000_01120 h_S_) bitsLt_bf16_f32 := by
  simp only [W17, W16, W15, W14, W13, W12, W11, W10, W9, W8, W7, W6, W5, W4, W3, W2, W1, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
  after_results
  rfl

theorem w_i (k : Fin 4096) (q : Fin 128) (hq : q.val < 16) : W17 m ρ c (Proc.devRef .tc main_v20) (ix2 k q)
    = rd2 (n := 4096) (k := 39056) (m ((c : Thread nD τ).loc main_arg1)) k.val (30848 + q.val) := by
  rw [e_i]
  pointwise
  refine (dif_pos (by omega)).trans ?_
  refine two_of (fun a b => rd2_ix _ a b) _ _ _ ?_ ?_ <;> dsimp

/-- The array of g: the weights' columns, padded by nothing. -/
theorem e_g : W17 m ρ c (Proc.devRef .tc main_v23)
    = truncf (F := Ideal) .bf16 (pad S4096x8192 ![0, 0] ![0, 0] ![0, 0]
        (extractStridedSlice S4096x8192 ![0, 30864] (m ((c : Thread nD τ).loc main_arg1)) slices_S4096x39056_S4096x8192_0_30864)
        (sitofp (F := Ideal) .f32 (constantI S_ 32 0#32)) pads_S4096x8192_S4096x8192_000_000 h_S_) bitsLt_bf16_f32 := by
  simp only [W17, W16, W15, W14, W13, W12, W11, W10, W9, W8, W7, W6, W5, W4, W3, W2, W1, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
  after_results
  rfl

theorem w_g (k : Fin 4096) (q : Fin 8192) : W17 m ρ c (Proc.devRef .tc main_v23) (ix2 k q)
    = rd2 (n := 4096) (k := 39056) (m ((c : Thread nD τ).loc main_arg1)) k.val (30864 + q.val) := by
  rw [e_g]
  pointwise
  refine two_of (fun a b => rd2_ix _ a b) _ _ _ ?_ ?_ <;> dsimp

/-- The array of the gates' rows' weights: the sixteen gate columns, transposed. -/
theorem e_r : W17 m ρ c (Proc.devRef .tc main_v25)
    = transpose S16x4096 [1, 0] (extractStridedSlice S4096x16 ![0, 0] (truncf (F := Ideal) .bf16 (pad S4096x128 ![0, 0] ![0, 112] ![0, 0]
        (extractStridedSlice S4096x16 ![0, 30848] (m ((c : Thread nD τ).loc main_arg1)) slices_S4096x39056_S4096x16_0_30848)
        (sitofp (F := Ideal) .f32 (constantI S_ 32 0#32)) pads_S4096x16_S4096x128_000_01120 h_S_) bitsLt_bf16_f32) slices_S4096x128_S4096x16_0_0)
        transposes_S4096x16_S16x4096_1_0 := by
  simp only [W17, W16, W15, W14, W13, W12, W11, W10, W9, W8, W7, W6, W5, W4, W3, W2, W1, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]
  after_results
  rfl

theorem w_r (l : Fin 16) (k : Fin 4096) : W17 m ρ c (Proc.devRef .tc main_v25) (ix2 l k)
    = rd2 (n := 4096) (k := 39056) (m ((c : Thread nD τ).loc main_arg1)) k.val (30848 + l.val) := by
  rw [e_r]
  pointwise
  refine two_of (fun a b => rd2_ix _ a b) _ _ _ ?_ ?_ <;> dsimp

/-- The result z. -/
theorem res_z : W27 m ρ c (Proc.devRef .tc main_v26) = cols m c 8192 0 := by
  refine Eq.trans ((W27_of m ρ c main_v26 (by decide)).trans ((W26_of m ρ c main_v26 (by decide)).trans ((W25_of m ρ c main_v26 (by decide)).trans ((W24_of m ρ c main_v26 (by decide)).trans ((W23_of m ρ c main_v26 (by decide)).trans ((W22_of m ρ c main_v26 (by decide)).trans ((W21_of m ρ c main_v26 (by decide)).trans ((W20_of m ρ c main_v26 (by decide)).trans (W19_of m ρ c main_v26 (by decide)))))))))) ((W18_arr m ρ c 2).trans ((fin0 (V17 m ρ) c).trans ?_))
  rw [show V17 m ρ c main_arg0 = m ((c : Thread nD τ).loc main_arg0) from W17_args m ρ c main_arg0 (by decide),
    show V17 m ρ c main_v2 = W17 m ρ c (Proc.devRef .tc main_v2) from rfl]
  exact cols_of m c _ (w_z m ρ c)

/-- The result xbc. -/
theorem res_xbc : W27 m ρ c (Proc.devRef .tc main_v27) = cols m c 10240 8192 := by
  refine Eq.trans ((W27_of m ρ c main_v27 (by decide)).trans ((W26_of m ρ c main_v27 (by decide)).trans ((W25_of m ρ c main_v27 (by decide)).trans ((W24_of m ρ c main_v27 (by decide)).trans ((W23_of m ρ c main_v27 (by decide)).trans ((W22_of m ρ c main_v27 (by decide)).trans ((W21_of m ρ c main_v27 (by decide)).trans (W20_of m ρ c main_v27 (by decide))))))))) ((W19_arr m ρ c 2).trans ((fin1 (V18 m ρ) c).trans ?_))
  rw [show V18 m ρ c main_arg0 = m ((c : Thread nD τ).loc main_arg0) from W18_args m ρ c main_arg0 (by decide),
    show V18 m ρ c main_v5 = W17 m ρ c (Proc.devRef .tc main_v5) from (W18_of m ρ c main_v5 (by decide))]
  exact cols_of m c _ (w_xbc m ρ c)

/-- The result dt. -/
theorem res_dt : W27 m ρ c (Proc.devRef .tc main_v28) = cols m c 128 18432 := by
  refine Eq.trans ((W27_of m ρ c main_v28 (by decide)).trans ((W26_of m ρ c main_v28 (by decide)).trans ((W25_of m ρ c main_v28 (by decide)).trans ((W24_of m ρ c main_v28 (by decide)).trans ((W23_of m ρ c main_v28 (by decide)).trans ((W22_of m ρ c main_v28 (by decide)).trans (W21_of m ρ c main_v28 (by decide)))))))) ((W20_arr m ρ c 2).trans ((fin2 (V19 m ρ) c).trans ?_))
  rw [show V19 m ρ c main_arg0 = m ((c : Thread nD τ).loc main_arg0) from W19_args m ρ c main_arg0 (by decide),
    show V19 m ρ c main_v8 = W17 m ρ c (Proc.devRef .tc main_v8) from (W19_of m ρ c main_v8 (by decide)).trans (W18_of m ρ c main_v8 (by decide))]
  exact cols_of m c _ (w_dt m ρ c)

/-- The result qk. -/
theorem res_qk : W27 m ρ c (Proc.devRef .tc main_v29) = cols m c 4096 18560 := by
  refine Eq.trans ((W27_of m ρ c main_v29 (by decide)).trans ((W26_of m ρ c main_v29 (by decide)).trans ((W25_of m ρ c main_v29 (by decide)).trans ((W24_of m ρ c main_v29 (by decide)).trans ((W23_of m ρ c main_v29 (by decide)).trans (W22_of m ρ c main_v29 (by decide))))))) ((W21_arr m ρ c 2).trans ((fin3 (V20 m ρ) c).trans ?_))
  rw [show V20 m ρ c main_arg0 = m ((c : Thread nD τ).loc main_arg0) from W20_args m ρ c main_arg0 (by decide),
    show V20 m ρ c main_v11 = W17 m ρ c (Proc.devRef .tc main_v11) from (W20_of m ρ c main_v11 (by decide)).trans ((W19_of m ρ c main_v11 (by decide)).trans (W18_of m ρ c main_v11 (by decide)))]
  exact cols_of m c _ (w_qk m ρ c)

/-- The result v. -/
theorem res_v : W27 m ρ c (Proc.devRef .tc main_v30) = cols m c 4096 22656 := by
  refine Eq.trans ((W27_of m ρ c main_v30 (by decide)).trans ((W26_of m ρ c main_v30 (by decide)).trans ((W25_of m ρ c main_v30 (by decide)).trans ((W24_of m ρ c main_v30 (by decide)).trans (W23_of m ρ c main_v30 (by decide)))))) ((W22_arr m ρ c 2).trans ((fin4 (V21 m ρ) c).trans ?_))
  rw [show V21 m ρ c main_arg0 = m ((c : Thread nD τ).loc main_arg0) from W21_args m ρ c main_arg0 (by decide),
    show V21 m ρ c main_v14 = W17 m ρ c (Proc.devRef .tc main_v14) from (W21_of m ρ c main_v14 (by decide)).trans ((W20_of m ρ c main_v14 (by decide)).trans ((W19_of m ρ c main_v14 (by decide)).trans (W18_of m ρ c main_v14 (by decide))))]
  exact cols_of m c _ (w_v m ρ c)

/-- The result o. -/
theorem res_o : W27 m ρ c (Proc.devRef .tc main_v31) = cols m c 4096 26752 := by
  refine Eq.trans ((W27_of m ρ c main_v31 (by decide)).trans ((W26_of m ρ c main_v31 (by decide)).trans ((W25_of m ρ c main_v31 (by decide)).trans (W24_of m ρ c main_v31 (by decide))))) ((W23_arr m ρ c 2).trans ((fin5 (V22 m ρ) c).trans ?_))
  rw [show V22 m ρ c main_arg0 = m ((c : Thread nD τ).loc main_arg0) from W22_args m ρ c main_arg0 (by decide),
    show V22 m ρ c main_v17 = W17 m ρ c (Proc.devRef .tc main_v17) from (W22_of m ρ c main_v17 (by decide)).trans ((W21_of m ρ c main_v17 (by decide)).trans ((W20_of m ρ c main_v17 (by decide)).trans ((W19_of m ρ c main_v17 (by decide)).trans (W18_of m ρ c main_v17 (by decide)))))]
  exact cols_of m c _ (w_o m ρ c)

/-- The result g. -/
theorem res_g : W27 m ρ c (Proc.devRef .tc main_v34) = cols m c 8192 30864 := by
  refine Eq.trans ((W27_of m ρ c main_v34 (by decide))) ((W26_arr m ρ c 2).trans ((fin8 (V25 m ρ) c).trans ?_))
  rw [show V25 m ρ c main_arg0 = m ((c : Thread nD τ).loc main_arg0) from W25_args m ρ c main_arg0 (by decide),
    show V25 m ρ c main_v23 = W17 m ρ c (Proc.devRef .tc main_v23) from (W25_of m ρ c main_v23 (by decide)).trans ((W24_of m ρ c main_v23 (by decide)).trans ((W23_of m ρ c main_v23 (by decide)).trans ((W22_of m ρ c main_v23 (by decide)).trans ((W21_of m ρ c main_v23 (by decide)).trans ((W20_of m ρ c main_v23 (by decide)).trans ((W19_of m ρ c main_v23 (by decide)).trans (W18_of m ρ c main_v23 (by decide))))))))]
  exact cols_of m c _ (w_g m ρ c)

/-- The gates' columns before the padding is cut off. -/
theorem res_i0 : W26 m ρ c (Proc.devRef .tc main_v32) = fun i => mm 4096 (rd2 (n := 16384) (k := 4096) (m ((c : Thread nD τ).loc main_arg0)))
    (rd2 (n := 4096) (k := 128) (W17 m ρ c (Proc.devRef .tc main_v20))) (i 0).val (i 1).val := by
  refine Eq.trans ((W26_of m ρ c main_v32 (by decide)).trans (W25_of m ρ c main_v32 (by decide))) ((W24_arr m ρ c 2).trans ((fin6 (V23 m ρ) c).trans ?_))
  rw [show V23 m ρ c main_arg0 = m ((c : Thread nD τ).loc main_arg0) from W23_args m ρ c main_arg0 (by decide),
    show V23 m ρ c main_v20 = W17 m ρ c (Proc.devRef .tc main_v20) from (W23_of m ρ c main_v20 (by decide)).trans ((W22_of m ρ c main_v20 (by decide)).trans ((W21_of m ρ c main_v20 (by decide)).trans ((W20_of m ρ c main_v20 (by decide)).trans ((W19_of m ρ c main_v20 (by decide)).trans (W18_of m ρ c main_v20 (by decide))))))]

/-- The result of the gates' columns. -/
theorem res_i : W27 m ρ c (Proc.devRef .tc main_v35) = cols m c 16 30848 := by
  have h : W27 m ρ c (Proc.devRef .tc main_v35) = extractStridedSlice S16384x16 ![0, 0] (W26 m ρ c (Proc.devRef .tc main_v32)) slices_S16384x128_S16384x16_0_0 := by
    simp only [W27, hostOps9]
    after_results
  rw [h, res_i0]
  funext i
  refine two_of (f := fun a b => mm 4096 (rd2 (n := 16384) (k := 4096) (m ((c : Thread nD τ).loc main_arg0)))
    (rd2 (n := 4096) (k := 39056) (m ((c : Thread nD τ).loc main_arg1))) a (30848 + b)) (fun a b => ?_) i _ _ rfl rfl
  pointwise
  refine Finset.sum_congr rfl fun k _ => ?_
  refine congrArg (fun x : EReal => _ * x) ?_
  exact (rd2_ix (n := 4096) (k := 128) _ k ⟨b.val, by omega⟩).symm.trans (w_i m ρ c k ⟨b.val, by omega⟩ b.isLt)

/-- The gates' rows: the gate columns transposed. -/
def rows : (⟨2, ![16, 16384]⟩ : Shape).Idx → EReal := fun i =>
  mm 4096 (rd2 (n := 16384) (k := 4096) (m ((c : Thread nD τ).loc main_arg0))) (rd2 (n := 4096) (k := 39056) (m ((c : Thread nD τ).loc main_arg1)))
    (i 1).val (30848 + (i 0).val)

/-- The result of the gates' rows. -/
theorem res_r : W27 m ρ c (Proc.devRef .tc main_v33) = rows m c := by
  refine Eq.trans ((W27_of m ρ c main_v33 (by decide)).trans (W26_of m ρ c main_v33 (by decide))) ((W25_arr m ρ c 2).trans ((fin7 (V24 m ρ) c).trans ?_))
  rw [show V24 m ρ c main_arg0 = m ((c : Thread nD τ).loc main_arg0) from W24_args m ρ c main_arg0 (by decide),
    show V24 m ρ c main_v25 = W17 m ρ c (Proc.devRef .tc main_v25) from (W24_of m ρ c main_v25 (by decide)).trans ((W23_of m ρ c main_v25 (by decide)).trans ((W22_of m ρ c main_v25 (by decide)).trans ((W21_of m ρ c main_v25 (by decide)).trans ((W20_of m ρ c main_v25 (by decide)).trans ((W19_of m ρ c main_v25 (by decide)).trans (W18_of m ρ c main_v25 (by decide)))))))]
  funext i
  unfold rows mm
  refine Finset.sum_congr rfl fun k _ => ?_
  rw [mul_comm]
  refine congrArg (fun x : EReal => _ * x) ?_
  exact (rd2_ix (n := 16) (k := 4096) _ (i 0) k).symm.trans (w_r m ρ c (i 0) k)

open Idealize.SL.RA Idealize.SL.BI Idealize.SL.BI.BIBase Idealize.SL.BI.Laws Idealize.SL.ProofMode Idealize.ShloMosaic.Rounds Idealize.ShloMosaic.Tactic
open scoped Idealize.SL.BI
open Idealize.ShloMosaic.Pipeline (Dat Cfg Window BodyObligation cellOf)

-- the launch theorem's implicit arguments are found by unifying its conclusion with this one
set_option backward.isDefEq.respectTransparency.types false in
/-- The run: the nine results and the two arguments. -/
theorem run : θ_run defs (onTc (τ := τ) (main (F := Ideal))) ⟨m, fun _ => 0, ρ⟩ (fun r => ∀ c : Dev nD,
      r.2.mem ((c.tc : Thread nD τ).loc main_v26) = cols m c 8192 0
      ∧ r.2.mem ((c.tc : Thread nD τ).loc main_v27) = cols m c 10240 8192
      ∧ r.2.mem ((c.tc : Thread nD τ).loc main_v28) = cols m c 128 18432
      ∧ r.2.mem ((c.tc : Thread nD τ).loc main_v29) = cols m c 4096 18560
      ∧ r.2.mem ((c.tc : Thread nD τ).loc main_v30) = cols m c 4096 22656
      ∧ r.2.mem ((c.tc : Thread nD τ).loc main_v31) = cols m c 4096 26752
      ∧ r.2.mem ((c.tc : Thread nD τ).loc main_v35) = cols m c 16 30848
      ∧ r.2.mem ((c.tc : Thread nD τ).loc main_v33) = rows m c
      ∧ r.2.mem ((c.tc : Thread nD τ).loc main_v34) = cols m c 8192 30864
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W27 m ρ c b)
    (hfin := fun c s' => by
      iintro ⟨⟨Hh, -⟩, HSI⟩
      unfold StableHlo.held
      imodintro
      iapply (pointsTo_read_all (Pipeline.ucRefs τ sig) (fun b => (((c : Thread nD τ)).1, b)) (W27 m ρ c) s')
      isplitl [Hh] <;> iassumption)
    (hQ := fun s h hz c => ⟨(h c _ (mem_uc main_v26 (by decide))).trans (res_z m ρ c), (h c _ (mem_uc main_v27 (by decide))).trans (res_xbc m ρ c), (h c _ (mem_uc main_v28 (by decide))).trans (res_dt m ρ c), (h c _ (mem_uc main_v29 (by decide))).trans (res_qk m ρ c), (h c _ (mem_uc main_v30 (by decide))).trans (res_v m ρ c), (h c _ (mem_uc main_v31 (by decide))).trans (res_o m ρ c), (h c _ (mem_uc main_v35 (by decide))).trans (res_i m ρ c), (h c _ (mem_uc main_v33 (by decide))).trans (res_r m ρ c), (h c _ (mem_uc main_v34 (by decide))).trans (res_g m ρ c),
       (h c _ (mem_uc main_arg0 (by decide))).trans (W27_main_arg0 m ρ c),
       (h c _ (mem_uc main_arg1 (by decide))).trans (W27_main_arg1 m ρ c)⟩)

end Cert.Kernel2Ideal.Blk

end
-- ==== Proof.RefProj.lean ====
/- The input projection's reference: each result the product's columns from its offset on. -/
module

public import proofs.«01_k».proof.Proof.Gen.Reference2Ideal.Run
public import proofs.«01_k».proof.Proof.Mm
public import Idealize.ShloMosaic.Lib.Pointwise

@[expose] public section

set_option maxRecDepth 16384

noncomputable section

namespace Cert.Reference2Ideal.Proj

open Cert.Reference2Ideal Cert.Reference2Ideal.Gen Idealize.ShloMosaic Idealize.ShloMosaic.TcCoe Idealize.SL.Sem Cert.Ssd

/-- The whole product at an index. -/
theorem dot_at (H : FVec Ideal S16384x4096 .bf16) (W : FVec Ideal S4096x39056 .f32) (r : Fin 16384) (q : Fin 39056) :
    Host.dotGeneral dot_S16384x4096_S4096x39056_S16384x39056_1_0_0_1_n_n none (extf .f32 H bitsLt_bf16_f32) W (ix2 r q)
      = mm 4096 (rd2 (n := 16384) (k := 4096) H) (rd2 (n := 4096) (k := 39056) W) r.val q.val := by
  pointwise
  refine Finset.sum_congr rfl fun k _ => ?_
  exact congrArg₂ (fun x y : EReal => x * y) (rd2_ix (n := 16384) (k := 4096) H r k) (rd2_ix (n := 4096) (k := 39056) W k q)

variable {X : FVec Ideal S16384x39056 .f32} {f : ℕ → ℕ → EReal} (hX : ∀ (r : Fin 16384) (q : Fin 39056), X (ix2 r q) = f r.val q.val)
include hX

theorem z : truncf (F := Ideal) .bf16 (extractStridedSlice S16384x8192 ![0, 0] X slices_S16384x39056_S16384x8192_0_0) bitsLt_bf16_f32 = fun i => f (i 0).val (0 + (i 1).val) := by
  funext i
  refine two_of (f := fun a b => f a (0 + b)) (fun a b => ?_) i _ _ rfl rfl
  pointwise
  exact two_of hX _ _ _ (by simp) (by simp)

theorem xbc : truncf (F := Ideal) .bf16 (extractStridedSlice S16384x10240 ![0, 8192] X slices_S16384x39056_S16384x10240_0_8192) bitsLt_bf16_f32 = fun i => f (i 0).val (8192 + (i 1).val) := by
  funext i
  refine two_of (f := fun a b => f a (8192 + b)) (fun a b => ?_) i _ _ rfl rfl
  pointwise
  exact two_of hX _ _ _ (by simp) (by simp)

theorem dt : (extractStridedSlice S16384x128 ![0, 18432] X slices_S16384x39056_S16384x128_0_18432) = fun i => f (i 0).val (18432 + (i 1).val) := by
  funext i
  refine two_of (f := fun a b => f a (18432 + b)) (fun a b => ?_) i _ _ rfl rfl
  pointwise
  exact two_of hX _ _ _ (by simp) (by simp)

theorem qk : truncf (F := Ideal) .bf16 (concatenate S16384x4096 1 [⟨S16384x2048, (extractStridedSlice S16384x2048 ![0, 18560] X slices_S16384x39056_S16384x2048_0_18560)⟩, ⟨S16384x2048, (extractStridedSlice S16384x2048 ![0, 20608] X slices_S16384x39056_S16384x2048_0_20608)⟩] concatenates_S16384x2048_S16384x2048_S16384x4096_d1) bitsLt_bf16_f32 = fun i => f (i 0).val (18560 + (i 1).val) := by
  funext i
  refine two_of (f := fun a b => f a (18560 + b)) (fun a b => ?_) i _ _ rfl rfl
  pointwise
  split
  · exact two_of hX _ _ _ (by simp) (by simp)
  · exact two_of hX _ _ _ (by simp) (by simp; omega)

theorem v : truncf (F := Ideal) .bf16 (extractStridedSlice S16384x4096 ![0, 22656] X slices_S16384x39056_S16384x4096_0_22656) bitsLt_bf16_f32 = fun i => f (i 0).val (22656 + (i 1).val) := by
  funext i
  refine two_of (f := fun a b => f a (22656 + b)) (fun a b => ?_) i _ _ rfl rfl
  pointwise
  exact two_of hX _ _ _ (by simp) (by simp)

theorem o : truncf (F := Ideal) .bf16 (extractStridedSlice S16384x4096 ![0, 26752] X slices_S16384x39056_S16384x4096_0_26752) bitsLt_bf16_f32 = fun i => f (i 0).val (26752 + (i 1).val) := by
  funext i
  refine two_of (f := fun a b => f a (26752 + b)) (fun a b => ?_) i _ _ rfl rfl
  pointwise
  exact two_of hX _ _ _ (by simp) (by simp)

theorem gi : (concatenate S16384x16 1 [⟨S16384x8, (extractStridedSlice S16384x8 ![0, 30848] X slices_S16384x39056_S16384x8_0_30848)⟩, ⟨S16384x8, (extractStridedSlice S16384x8 ![0, 30856] X slices_S16384x39056_S16384x8_0_30856)⟩] concatenates_S16384x8_S16384x8_S16384x16_d1) = fun i => f (i 0).val (30848 + (i 1).val) := by
  funext i
  refine two_of (f := fun a b => f a (30848 + b)) (fun a b => ?_) i _ _ rfl rfl
  pointwise
  split
  · exact two_of hX _ _ _ (by simp) (by simp)
  · exact two_of hX _ _ _ (by simp) (by simp; omega)

theorem gr : transpose S16x16384 [1, 0] (concatenate S16384x16 1 [⟨S16384x8, (extractStridedSlice S16384x8 ![0, 30848] X slices_S16384x39056_S16384x8_0_30848)⟩, ⟨S16384x8, (extractStridedSlice S16384x8 ![0, 30856] X slices_S16384x39056_S16384x8_0_30856)⟩] concatenates_S16384x8_S16384x8_S16384x16_d1) transposes_S16384x16_S16x16384_1_0 = fun i => f (i 1).val (30848 + (i 0).val) := by
  funext i
  refine two_of (f := fun a b => f b (30848 + a)) (fun a b => ?_) i _ _ rfl rfl
  pointwise
  split
  · exact two_of hX _ _ _ (by simp) (by simp)
  · exact two_of hX _ _ _ (by simp) (by simp; omega)

theorem g : truncf (F := Ideal) .bf16 (concatenate S16384x8192 1 [⟨S16384x4096, (extractStridedSlice S16384x4096 ![0, 30864] X slices_S16384x39056_S16384x4096_0_30864)⟩, ⟨S16384x4096, (extractStridedSlice S16384x4096 ![0, 34960] X slices_S16384x39056_S16384x4096_0_34960)⟩] concatenates_S16384x4096_S16384x4096_S16384x8192_d1) bitsLt_bf16_f32 = fun i => f (i 0).val (30864 + (i 1).val) := by
  funext i
  refine two_of (f := fun a b => f a (30864 + b)) (fun a b => ?_) i _ _ rfl rfl
  pointwise
  split
  · exact two_of hX _ _ _ (by simp) (by simp)
  · exact two_of hX _ _ _ (by simp) (by simp; omega)

end Cert.Reference2Ideal.Proj

end
-- ==== Proof.Claim2.lean ====
/- The input projection: the kernels' nine results are the reference's. -/
module

public import proofs.«01_k».proof.Defs
public import proofs.«01_k».proof.Proof.ProjRun
public import proofs.«01_k».proof.Proof.RefProj
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.Ssd Cert.Kernel2Ideal.Blk Cert.Reference2Ideal

theorem algebraic2 : Cert.algebraic_Kernel2Ideal_Reference2Ideal := by
  intro m g m' g' hpre hagree
  refine ⟨fun c => cols m c 8192 0, fun c => cols m c 10240 8192, fun c => cols m c 128 18432, fun c => cols m c 4096 18560, fun c => cols m c 4096 22656,
    fun c => cols m c 4096 26752, fun c => cols m c 16 30848, fun c => rows m c, fun c => cols m c 8192 30864, run m g, ?_⟩
  refine (θ_run Cert.Reference2Ideal.defs _ _).mono (fun r h c => ?_) (Value.run (F := Ideal) m' g')
  obtain ⟨h0, h1⟩ := hagree c
  have k := h c
  rw [h0, h1] at k ⊢
  have hd := Proj.dot_at (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
  obtain ⟨k0, k1, k2, k3, k4, k5, k6, k7, k8, k9⟩ := k
  exact ⟨k0.trans (Proj.z hd), k1.trans (Proj.xbc hd), k2.trans (Proj.dt hd), k3.trans (Proj.qk hd), k4.trans (Proj.v hd), k5.trans (Proj.o hd),
    k6.trans (Proj.gi hd), k7.trans (Proj.gr hd), k8.trans (Proj.g hd), k9⟩

/-- The reference's frame: its run leaves the arguments; it declares no semaphore. -/
theorem frame_reference2 : Cert.quiescent_Reference2Ideal := fun m ρ _ =>
  (θ_run Cert.Reference2Ideal.defs _ _).mono (fun r h => And.intro (fun c => (h c).2.2.2.2.2.2.2.2.2) (Idealize.ShloMosaic.sem_eq_zero_of_no_sems (by decide) r.2))
    (Value.run (F := Ideal) m ρ)

end Cert.Proof

end
-- ==== Proof.Mix.lean ====
/- What the calls of the branches' mixing leave in their result arrays. -/
module

public import proofs.«01_k».proof.Proof.Gen.Kernel3Ideal.Frame
public import proofs.«01_k».proof.Proof.Mm
public import Idealize.ShloMosaic.Lib.Pipeline.ValueKit
public import Idealize.ShloMosaic.Lib.Pointwise

@[expose] public section

set_option maxRecDepth 16384

noncomputable section

namespace Cert.Kernel3Ideal.Blk

open Cert.Kernel3Ideal Cert.Kernel3Ideal.Gen Idealize.ShloMosaic Idealize.ShloMosaic.TcCoe Idealize.SL.Sem Cert.Ssd
open Idealize.ShloMosaic.Pipeline (Dat)

variable (V : (c : Dev nD) → (b : Ref sig .tc) → Buf (Elt Ideal) ((c : Thread nD τ).loc b)) (c : Dev nD)

/-- The blocks that a point of the call for the first branch's weights stages. -/
theorem idx0 : ∀ t : Fin cfg0.N, win0_0.index t = ![0, t.val, 0] ∧ win0_1.index t = ![t.val, 0] :=
  (by decide +kernel : ∀ t : Fin grid0.N, _)

theorem out0_at (x0 : Vec Ideal S1x512x4096 .f32) (l : Fin 512) (q : Fin 4096) : out0_1 x0 (ix2 l q) = x0 (ix3 0 l q) := by
  frame_out
  pointwise [k0_pay1]

/-- The array of the first branch's weights. -/
theorem fin0 : (dat0 V c).arrAt 1 cfg0.N = fun i => lay (n := 8192) (k := 4096) (V c main_arg3) (i 0).val (i 1).val := by
  refine (dat0 V c).arrAt_eq_of_covers 1 _ (by decide +kernel) fun t _ y => ?_
  have ht : t.val < 16 := lt_of_lt_of_eq t.isLt N_0
  obtain ⟨e0, e1⟩ := idx0 t
  have b0 : ∀ (l : Fin 512) (q : Fin 4096), iblk0 V c 0 t (ix3 0 l q) = lay (n := 8192) (k := 4096) (V c main_arg3) (t.val * 512 + l.val) q.val := by
    intro l q
    blk_simp [iblk0]
    refine lay_of _ _ _ _ ?_ ?_ ?_
    all_goals
      blk_simp [e0]
      try omega
  rw [after0_1]
  have hy : ∀ y : S512x4096.Idx, out0_1 (iblk0 V c 0 t) y = lay (n := 8192) (k := 4096) (V c main_arg3) (t.val * 512 + (y 0).val) (y 1).val :=
    fun y => two_of (f := fun a b => lay (n := 8192) (k := 4096) (V c main_arg3) (t.val * 512 + a) b)
      (fun a b => by rw [out0_at, b0]) y _ _ rfl rfl
  blk_simp
  rw [hy, e1]
  refine congr (congrArg (lay _) ?_) ?_ <;> simp

/-- The blocks that a point of the call for the second branch's weights stages. -/
theorem idx1 : ∀ t : Fin cfg1.N, win1_0.index t = ![0, t.val, 0] ∧ win1_1.index t = ![t.val, 0] :=
  (by decide +kernel : ∀ t : Fin grid1.N, _)

theorem out1_at (x0 : Vec Ideal S1x512x4096 .f32) (l : Fin 512) (q : Fin 4096) : out1_1 x0 (ix2 l q) = x0 (ix3 0 l q) := by
  frame_out
  pointwise [k1_pay1]

/-- The array of the second branch's weights. -/
theorem fin1 : (dat1 V c).arrAt 1 cfg1.N = fun i => lay (n := 4096) (k := 4096) (V c main_arg4) (i 0).val (i 1).val := by
  refine (dat1 V c).arrAt_eq_of_covers 1 _ (by decide +kernel) fun t _ y => ?_
  have ht : t.val < 8 := lt_of_lt_of_eq t.isLt N_1
  obtain ⟨e0, e1⟩ := idx1 t
  have b0 : ∀ (l : Fin 512) (q : Fin 4096), iblk1 V c 0 t (ix3 0 l q) = lay (n := 4096) (k := 4096) (V c main_arg4) (t.val * 512 + l.val) q.val := by
    intro l q
    blk_simp [iblk1]
    refine lay_of _ _ _ _ ?_ ?_ ?_
    all_goals
      blk_simp [e0]
      try omega
  rw [after1_1]
  have hy : ∀ y : S512x4096.Idx, out1_1 (iblk1 V c 0 t) y = lay (n := 4096) (k := 4096) (V c main_arg4) (t.val * 512 + (y 0).val) (y 1).val :=
    fun y => two_of (f := fun a b => lay (n := 4096) (k := 4096) (V c main_arg4) (t.val * 512 + a) b)
      (fun a b => by rw [out1_at, b0]) y _ _ rfl rfl
  blk_simp
  rw [hy, e1]
  refine congr (congrArg (lay _) ?_) ?_ <;> simp

/-- The blocks that a point of the mixing stages. -/
theorem idx2 : ∀ t : Fin cfg2.N, (win2_0.index t = ![t.val / 16, 0] ∧ win2_1.index t = ![t.val / 16, 0] ∧ win2_2.index t = ![0, t.val % 16] ∧ win2_3.index t = ![0, t.val % 16])
    ∧ win2_4.index t = ![t.val / 16, t.val % 16] ∧ win2_5.index t = ![t.val / 16, t.val % 16 + 16] ∧ win2_6.index t = ![0, t.val % 16] ∧ win2_7.index t = ![0, t.val % 16 + 16]
    ∧ win2_8.index t = ![t.val / 16, t.val % 16] :=
  (by decide +kernel : ∀ t : Fin grid2.N, _)

theorem out2_at (x0 : Vec Ideal S512x8192 .bf16) (x1 : Vec Ideal S512x4096 .bf16) (x2 : Vec Ideal S8192x256 .bf16) (x3 : Vec Ideal S4096x256 .bf16)
    (x4 x5 : Vec Ideal S512x256 .bf16) (x6 x7 : Vec Ideal S1x256 .f32) (l : Fin 512) (q : Fin 256) :
    out2_8 x0 x1 x2 x3 x4 x5 x6 x7 (ix2 l q)
      = Ideal.logistic (x4 (ix2 l q) + x6 (ix2 0 q)) * (∑ k : Fin 8192, x0 (ix2 l k) * x2 (ix2 k q))
        + Ideal.logistic (x5 (ix2 l q) + x7 (ix2 0 q)) * (∑ k : Fin 4096, x1 (ix2 l k) * x3 (ix2 k q)) := by
  frame_out
  pointwise [k2_pay1]

/-- The mixed branches. -/
theorem fin2 : (dat2 V c).arrAt 8 cfg2.N
    = fun i => mixed (rd2 (n := 16384) (k := 8192) (V c main_arg0)) (rd2 (n := 8192) (k := 4096) (V c main_v0)) (rd2 (n := 16384) (k := 4096) (V c main_arg1)) (rd2 (n := 4096) (k := 4096) (V c main_v1)) (rd2 (n := 16384) (k := 8192) (V c main_arg2)) (fun q => rd2 (n := 1) (k := 8192) (V c main_v2) 0 q) (i 0).val (i 1).val := by
  refine (dat2 V c).arrAt_eq_of_covers 8 _ (by decide +kernel) fun t _ y => ?_
  have ht : t.val < 512 := lt_of_lt_of_eq t.isLt N_2
  obtain ⟨⟨e0, e1, e2, e3⟩, e4, e5, e6, e7, e8⟩ := idx2 t
  have b0 : ∀ (l : Fin 512) (q : Fin 8192), iblk2 V c 0 t (ix2 l q) = rd2 (n := 16384) (k := 8192) (V c main_arg0) (t.val / 16 * 512 + l.val) q.val := by
    intro l q
    blk_simp [iblk2]
    refine two_of (fun a b => rd2_ix _ a b) _ _ _ ?_ ?_
    all_goals
      blk_simp [e0]
      try omega
  have b1 : ∀ (l : Fin 512) (q : Fin 4096), iblk2 V c 1 t (ix2 l q) = rd2 (n := 16384) (k := 4096) (V c main_arg1) (t.val / 16 * 512 + l.val) q.val := by
    intro l q
    blk_simp [iblk2]
    refine two_of (fun a b => rd2_ix _ a b) _ _ _ ?_ ?_
    all_goals
      blk_simp [e1]
      try omega
  have b2 : ∀ (l : Fin 8192) (q : Fin 256), iblk2 V c 2 t (ix2 l q) = rd2 (n := 8192) (k := 4096) (V c main_v0) l.val (t.val % 16 * 256 + q.val) := by
    intro l q
    blk_simp [iblk2]
    refine two_of (fun a b => rd2_ix _ a b) _ _ _ ?_ ?_
    all_goals
      blk_simp [e2]
      try omega
  have b3 : ∀ (l : Fin 4096) (q : Fin 256), iblk2 V c 3 t (ix2 l q) = rd2 (n := 4096) (k := 4096) (V c main_v1) l.val (t.val % 16 * 256 + q.val) := by
    intro l q
    blk_simp [iblk2]
    refine two_of (fun a b => rd2_ix _ a b) _ _ _ ?_ ?_
    all_goals
      blk_simp [e3]
      try omega
  have b4 : ∀ (l : Fin 512) (q : Fin 256), iblk2 V c 4 t (ix2 l q) = rd2 (n := 16384) (k := 8192) (V c main_arg2) (t.val / 16 * 512 + l.val) (t.val % 16 * 256 + q.val) := by
    intro l q
    blk_simp [iblk2]
    refine two_of (fun a b => rd2_ix _ a b) _ _ _ ?_ ?_
    all_goals
      blk_simp [e4]
      try omega
  have b5 : ∀ (l : Fin 512) (q : Fin 256), iblk2 V c 5 t (ix2 l q) = rd2 (n := 16384) (k := 8192) (V c main_arg2) (t.val / 16 * 512 + l.val) (4096 + (t.val % 16 * 256 + q.val)) := by
    intro l q
    blk_simp [iblk2]
    refine two_of (fun a b => rd2_ix _ a b) _ _ _ ?_ ?_
    all_goals
      blk_simp [e5]
      try omega
  have b6 : ∀ (l : Fin 1) (q : Fin 256), iblk2 V c 6 t (ix2 l q) = rd2 (n := 1) (k := 8192) (V c main_v2) 0 (t.val % 16 * 256 + q.val) := by
    intro l q
    blk_simp [iblk2]
    refine two_of (fun a b => rd2_ix _ a b) _ _ _ ?_ ?_
    all_goals
      blk_simp [e6]
      try omega
  have b7 : ∀ (l : Fin 1) (q : Fin 256), iblk2 V c 7 t (ix2 l q) = rd2 (n := 1) (k := 8192) (V c main_v2) 0 (4096 + (t.val % 16 * 256 + q.val)) := by
    intro l q
    blk_simp [iblk2]
    refine two_of (fun a b => rd2_ix _ a b) _ _ _ ?_ ?_
    all_goals
      blk_simp [e7]
      try omega
  rw [after2_8]
  have hy : ∀ y : S512x256.Idx, out2_8 (iblk2 V c 0 t) (iblk2 V c 1 t) (iblk2 V c 2 t) (iblk2 V c 3 t) (iblk2 V c 4 t) (iblk2 V c 5 t) (iblk2 V c 6 t) (iblk2 V c 7 t) y
      = mixed (rd2 (n := 16384) (k := 8192) (V c main_arg0)) (rd2 (n := 8192) (k := 4096) (V c main_v0)) (rd2 (n := 16384) (k := 4096) (V c main_arg1)) (rd2 (n := 4096) (k := 4096) (V c main_v1)) (rd2 (n := 16384) (k := 8192) (V c main_arg2)) (fun q => rd2 (n := 1) (k := 8192) (V c main_v2) 0 q) (t.val / 16 * 512 + (y 0).val) (t.val % 16 * 256 + (y 1).val) :=
    fun y => two_of (f := fun a b => mixed (rd2 (n := 16384) (k := 8192) (V c main_arg0)) (rd2 (n := 8192) (k := 4096) (V c main_v0)) (rd2 (n := 16384) (k := 4096) (V c main_arg1)) (rd2 (n := 4096) (k := 4096) (V c main_v1)) (rd2 (n := 16384) (k := 8192) (V c main_arg2)) (fun q => rd2 (n := 1) (k := 8192) (V c main_v2) 0 q) (t.val / 16 * 512 + a) (t.val % 16 * 256 + b))
      (fun a b => by
        rw [out2_at, b4, b5, b6, b7]
        unfold mixed mm
        refine congr (congrArg _ (congrArg _ (Finset.sum_congr rfl fun k _ => ?_))) (congrArg _ (Finset.sum_congr rfl fun k _ => ?_))
        · rw [b0, b2]
        · rw [b1, b3]) y _ _ rfl rfl
  blk_simp
  rw [hy, e8]
  rfl

/-- The blocks that a point of the call for the output weights stages. -/
theorem idx3 : ∀ t : Fin cfg3.N, win3_0.index t = ![0, t.val, 0] ∧ win3_1.index t = ![t.val, 0] :=
  (by decide +kernel : ∀ t : Fin grid3.N, _)

theorem out3_at (x0 : Vec Ideal S1x512x4096 .f32) (l : Fin 512) (q : Fin 4096) : out3_1 x0 (ix2 l q) = x0 (ix3 0 l q) := by
  frame_out
  pointwise [k3_pay1]

/-- The array of the output weights. -/
theorem fin3 : (dat3 V c).arrAt 1 cfg3.N = fun i => lay (n := 4096) (k := 4096) (V c main_arg6) (i 0).val (i 1).val := by
  refine (dat3 V c).arrAt_eq_of_covers 1 _ (by decide +kernel) fun t _ y => ?_
  have ht : t.val < 8 := lt_of_lt_of_eq t.isLt N_3
  obtain ⟨e0, e1⟩ := idx3 t
  have b0 : ∀ (l : Fin 512) (q : Fin 4096), iblk3 V c 0 t (ix3 0 l q) = lay (n := 4096) (k := 4096) (V c main_arg6) (t.val * 512 + l.val) q.val := by
    intro l q
    blk_simp [iblk3]
    refine lay_of _ _ _ _ ?_ ?_ ?_
    all_goals
      blk_simp [e0]
      try omega
  rw [after3_1]
  have hy : ∀ y : S512x4096.Idx, out3_1 (iblk3 V c 0 t) y = lay (n := 4096) (k := 4096) (V c main_arg6) (t.val * 512 + (y 0).val) (y 1).val :=
    fun y => two_of (f := fun a b => lay (n := 4096) (k := 4096) (V c main_arg6) (t.val * 512 + a) b)
      (fun a b => by rw [out3_at, b0]) y _ _ rfl rfl
  blk_simp
  rw [hy, e1]
  refine congr (congrArg (lay _) ?_) ?_ <;> simp

/-- The blocks that a point of the call for the mixed branches' projection stages. -/
theorem idx4 : ∀ t : Fin cfg4.N, win4_0.index t = ![t.val / 8, 0] ∧ win4_1.index t = ![0, t.val % 8] ∧ win4_2.index t = ![t.val / 8, t.val % 8] :=
  (by decide +kernel : ∀ t : Fin grid4.N, _)

theorem out4_at (x0 : Vec Ideal S1024x4096 .bf16) (x1 : Vec Ideal S4096x512 .bf16) (l : Fin 1024) (q : Fin 512) :
    out4_2 x0 x1 (ix2 l q) = ∑ k : Fin 4096, x0 (ix2 l k) * x1 (ix2 k q) := by
  frame_out
  pointwise [k4_pay1]

/-- The array of the mixed branches' projection. -/
theorem fin4 : (dat4 V c).arrAt 2 cfg4.N
    = fun i => mm 4096 (rd2 (n := 16384) (k := 4096) (V c main_v3)) (rd2 (n := 4096) (k := 4096) (V c main_v4)) (i 0).val (i 1).val := by
  refine (dat4 V c).arrAt_eq_of_covers 2 _ (by decide +kernel) fun t _ y => ?_
  have ht : t.val < 128 := lt_of_lt_of_eq t.isLt N_4
  obtain ⟨e0, e1, e2⟩ := idx4 t
  have b0 : ∀ (l : Fin 1024) (k : Fin 4096), iblk4 V c 0 t (ix2 l k) = rd2 (n := 16384) (k := 4096) (V c main_v3) (t.val / 8 * 1024 + l.val) k.val := by
    intro l k
    blk_simp [iblk4]
    refine two_of (fun a b => rd2_ix _ a b) _ _ _ ?_ ?_
    all_goals
      blk_simp [e0]
      try omega
  have b1 : ∀ (k : Fin 4096) (q : Fin 512), iblk4 V c 1 t (ix2 k q) = rd2 (n := 4096) (k := 4096) (V c main_v4) k.val (t.val % 8 * 512 + q.val) := by
    intro k q
    blk_simp [iblk4]
    refine two_of (fun a b => rd2_ix _ a b) _ _ _ ?_ ?_
    all_goals
      blk_simp [e1]
      try omega
  rw [after4_2]
  have hy : ∀ y : S1024x512.Idx, out4_2 (iblk4 V c 0 t) (iblk4 V c 1 t) y
      = mm 4096 (rd2 (n := 16384) (k := 4096) (V c main_v3)) (rd2 (n := 4096) (k := 4096) (V c main_v4)) (t.val / 8 * 1024 + (y 0).val) (t.val % 8 * 512 + (y 1).val) :=
    fun y => two_of (f := fun a b => mm 4096 _ _ (t.val / 8 * 1024 + a) (t.val % 8 * 512 + b))
      (fun a b => by rw [out4_at]; exact Finset.sum_congr rfl fun k _ => by rw [b0, b1]) y _ _ rfl rfl
  blk_simp
  rw [hy, e2]
  rfl

end Cert.Kernel3Ideal.Blk

end
-- ==== Proof.MixRun.lean ====
/- The branches' mixing and the output projection: the run. -/
module

public import proofs.«01_k».proof.Proof.Mix
public import Idealize.ShloMosaic.Lib.StableHlo.Run

@[expose] public section

set_option maxRecDepth 16384

noncomputable section

namespace Cert.Kernel3Ideal.Blk

open Cert.Kernel3Ideal Cert.Kernel3Ideal.Gen Idealize.ShloMosaic Idealize.ShloMosaic.TcCoe Idealize.SL Idealize.SL.Sem Cert.Ssd

variable (m : (ℓ : Loc nD τ sig) → Buf (Elt Ideal) ℓ) (ρ : Dev nD → PrngReg) (c : Dev nD)

/-- The mixed branches of the arguments. -/
def mixArg : ℕ → ℕ → EReal := mixed (rd2 (n := 16384) (k := 8192) (m ((c : Thread nD τ).loc main_arg0))) (lay (n := 8192) (k := 4096) (m ((c : Thread nD τ).loc main_arg3))) (rd2 (n := 16384) (k := 4096) (m ((c : Thread nD τ).loc main_arg1)))
  (lay (n := 4096) (k := 4096) (m ((c : Thread nD τ).loc main_arg4))) (rd2 (n := 16384) (k := 8192) (m ((c : Thread nD τ).loc main_arg2))) (rd1 (n := 8192) (m ((c : Thread nD τ).loc main_arg5)))

/-- The result. -/
def result : (⟨2, ![16384, 4096]⟩ : Shape).Idx → EReal := fun i => mm 4096 (mixArg m c) (lay (n := 4096) (k := 4096) (m ((c : Thread nD τ).loc main_arg6))) (i 0).val (i 1).val

theorem w_a : rd2 (n := 8192) (k := 4096) (V3 m ρ c main_v0) = lay (n := 8192) (k := 4096) (m ((c : Thread nD τ).loc main_arg3)) := by
  refine Eq.trans (congrArg (rd2 (n := 8192) (k := 4096)) (?_ : V3 m ρ c main_v0 = fun i => lay (n := 8192) (k := 4096) (m ((c : Thread nD τ).loc main_arg3)) (i 0).val (i 1).val)) (rd2_lay (n := 8192) (k := 4096) _)
  refine Eq.trans ((W3_of m ρ c main_v0 (by decide)).trans (W2_of m ρ c main_v0 (by decide))) ((W1_arr m ρ c 1).trans ((fin0 (V0 m ρ) c).trans ?_))
  rw [show V0 m ρ c main_arg3 = m ((c : Thread nD τ).loc main_arg3) from W0_args m ρ c main_arg3 (by decide)]

theorem w_b : rd2 (n := 4096) (k := 4096) (V3 m ρ c main_v1) = lay (n := 4096) (k := 4096) (m ((c : Thread nD τ).loc main_arg4)) := by
  refine Eq.trans (congrArg (rd2 (n := 4096) (k := 4096)) (?_ : V3 m ρ c main_v1 = fun i => lay (n := 4096) (k := 4096) (m ((c : Thread nD τ).loc main_arg4)) (i 0).val (i 1).val)) (rd2_lay (n := 4096) (k := 4096) _)
  refine Eq.trans ((W3_of m ρ c main_v1 (by decide))) ((W2_arr m ρ c 1).trans ((fin1 (V1 m ρ) c).trans ?_))
  rw [show V1 m ρ c main_arg4 = m ((c : Thread nD τ).loc main_arg4) from W1_args m ρ c main_arg4 (by decide)]

theorem w_o : rd2 (n := 4096) (k := 4096) (V5 m ρ c main_v4) = lay (n := 4096) (k := 4096) (m ((c : Thread nD τ).loc main_arg6)) := by
  refine Eq.trans (congrArg (rd2 (n := 4096) (k := 4096)) (?_ : V5 m ρ c main_v4 = fun i => lay (n := 4096) (k := 4096) (m ((c : Thread nD τ).loc main_arg6)) (i 0).val (i 1).val)) (rd2_lay (n := 4096) (k := 4096) _)
  refine (W5_arr m ρ c 1).trans ((fin3 (V4 m ρ) c).trans ?_)
  rw [show V4 m ρ c main_arg6 = m ((c : Thread nD τ).loc main_arg6) from W4_args m ρ c main_arg6 (by decide)]

/-- The gates' bias as a row. -/
theorem w_g (q : Fin 8192) : V3 m ρ c main_v2 (ix2 0 q) = (m ((c : Thread nD τ).loc main_arg5)) (ix1 q) := by
  have h : V3 m ρ c main_v2 = shapeCast S1x8192 (W2 m ρ c (Proc.devRef .tc main_arg5)) shapeCasts_S8192_S1x8192 := by
    simp only [V3, W3, hostOps2]
    after_results
    rfl
  rw [h, W2_args m ρ c main_arg5 (by decide)]
  pointwise

theorem res_mix : V5 m ρ c main_v3 = fun i => mixArg m c (i 0).val (i 1).val := by
  refine Eq.trans ((W5_of m ρ c main_v3 (by decide))) ((W4_arr m ρ c 8).trans ((fin2 (V3 m ρ) c).trans ?_))
  rw [w_a, w_b, show V3 m ρ c main_arg0 = m ((c : Thread nD τ).loc main_arg0) from W3_args m ρ c main_arg0 (by decide),
    show V3 m ρ c main_arg1 = m ((c : Thread nD τ).loc main_arg1) from W3_args m ρ c main_arg1 (by decide),
    show V3 m ρ c main_arg2 = m ((c : Thread nD τ).loc main_arg2) from W3_args m ρ c main_arg2 (by decide), rd_row (w_g m ρ c)]
  rfl

theorem res_out : W6 m ρ c (Proc.devRef .tc main_v5) = result m c := by
  refine (W6_arr m ρ c 2).trans ((fin4 (V5 m ρ) c).trans ?_)
  rw [w_o, res_mix]
  funext i
  unfold result mm
  refine Finset.sum_congr rfl fun k _ => ?_
  refine congrArg (fun x : EReal => x * _) ?_
  exact rd2_fn (n := 16384) (k := 4096) (mixArg m c) (i 0) k

open Idealize.SL.RA Idealize.SL.BI Idealize.SL.BI.BIBase Idealize.SL.BI.Laws Idealize.SL.ProofMode Idealize.ShloMosaic.Rounds Idealize.ShloMosaic.Tactic
open scoped Idealize.SL.BI
open Idealize.ShloMosaic.Pipeline (Dat Cfg Window BodyObligation cellOf)

-- the launch theorem's implicit arguments are found by unifying its conclusion with this one
set_option backward.isDefEq.respectTransparency.types false in
/-- The run: the results and the arguments. -/
theorem run : θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c => ⟨(h c _ (mem_uc main_v5 (by decide))).trans (res_out m ρ c),
(h c _ (mem_uc main_arg0 (by decide))).trans (W6_main_arg0 m ρ c), (h c _ (mem_uc main_arg1 (by decide))).trans (W6_main_arg1 m ρ c), (h c _ (mem_uc main_arg2 (by decide))).trans (W6_main_arg2 m ρ c), (h c _ (mem_uc main_arg3 (by decide))).trans (W6_main_arg3 m ρ c), (h c _ (mem_uc main_arg4 (by decide))).trans (W6_main_arg4 m ρ c), (h c _ (mem_uc main_arg5 (by decide))).trans (W6_main_arg5 m ρ c), (h c _ (mem_uc main_arg6 (by decide))).trans (W6_main_arg6 m ρ c)⟩)

end Cert.Kernel3Ideal.Blk

end
-- ==== Proof.RefMix.lean ====
/- The branches' mixing and the output projection: the reference's result at an index. -/
module

public import proofs.«01_k».proof.Proof.Gen.Reference3Ideal.Run
public import proofs.«01_k».proof.Proof.Mm
public import Idealize.ShloMosaic.Lib.Pointwise

@[expose] public section

set_option maxRecDepth 16384

noncomputable section

namespace Cert.Reference3Ideal.Mix

open Cert.Reference3Ideal Cert.Reference3Ideal.Gen Idealize.ShloMosaic Idealize.ShloMosaic.TcCoe Idealize.SL.Sem Cert.Ssd

variable (ya : FVec Ideal S16384x8192 .bf16) (yb : FVec Ideal S16384x4096 .bf16) (g : FVec Ideal S16384x8192 .bf16) (wa : FVec Ideal S2x8192x4096 .f32)
  (wb : FVec Ideal S2x4096x4096 .f32) (gb : FVec Ideal S8192 .f32) (wo : FVec Ideal S2x4096x4096 .f32)

theorem mix_at (r : Fin 16384) (q : Fin 4096) :
    (addf (mulf (Host.divf (broadcastInDim S16384x4096 ![] bcast_S_S16384x4096 (constant S_ .f32 0x3F800000#32)) (addf (broadcastInDim S16384x4096 ![] bcast_S_S16384x4096 (constant S_ .f32 0x3F800000#32)) (Host.exp (Host.negf (addf (extractStridedSlice S16384x4096 ![0, 0] (extf .f32 g bitsLt_bf16_f32) slices_S16384x8192_S16384x4096_0_0) (broadcastInDim S16384x4096 ![0, 1] bcast_S1x4096_S16384x4096_0_1 (broadcastInDim S1x4096 ![1] bcast_S4096_S1x4096_1 (extractStridedSlice S4096 ![0] gb slices_S8192_S4096_0)))))))) (Host.dotGeneral dot_S16384x8192_S8192x4096_S16384x4096_1_0_0_1_n_n none (extf .f32 ya bitsLt_bf16_f32) (shapeCast S8192x4096 (extractStridedSlice S1x8192x4096 ![0, 0, 0] wa slices_S2x8192x4096_S1x8192x4096_0_0_0) shapeCasts_S1x8192x4096_S8192x4096))) (mulf (Host.divf (broadcastInDim S16384x4096 ![] bcast_S_S16384x4096 (constant S_ .f32 0x3F800000#32)) (addf (broadcastInDim S16384x4096 ![] bcast_S_S16384x4096 (constant S_ .f32 0x3F800000#32)) (Host.exp (Host.negf (addf (extractStridedSlice S16384x4096 ![0, 4096] (extf .f32 g bitsLt_bf16_f32) slices_S16384x8192_S16384x4096_0_4096) (broadcastInDim S16384x4096 ![0, 1] bcast_S1x4096_S16384x4096_0_1 (broadcastInDim S1x4096 ![1] bcast_S4096_S1x4096_1 (extractStridedSlice S4096 ![4096] gb slices_S8192_S4096_4096)))))))) (Host.dotGeneral dot_S16384x4096_S4096x4096_S16384x4096_1_0_0_1_n_n none (extf .f32 yb bitsLt_bf16_f32) (shapeCast S4096x4096 (extractStridedSlice S1x4096x4096 ![0, 0, 0] wb slices_S2x4096x4096_S1x4096x4096_0_0_0) shapeCasts_S1x4096x4096_S4096x4096)))) (ix2 r q)
      = mixed (rd2 (n := 16384) (k := 8192) ya) (lay (n := 8192) (k := 4096) wa) (rd2 (n := 16384) (k := 4096) yb) (lay (n := 4096) (k := 4096) wb)
        (rd2 (n := 16384) (k := 8192) g) (rd1 (n := 8192) gb) r.val q.val := by
  pointwise
  unfold mixed mm
  have e1 := rd2_ix (n := 16384) (k := 8192) g r ⟨q.val, by omega⟩
  have e2 := rd2_ix (n := 16384) (k := 8192) g r ⟨4096 + q.val, by omega⟩
  have e3 := rd1_ix (n := 8192) gb ⟨q.val, by omega⟩
  have e4 := rd1_ix (n := 8192) gb ⟨4096 + q.val, by omega⟩
  refine congr (congrArg _ (congr (congrArg _ ?_) (Finset.sum_congr rfl fun k _ => ?_))) (congr (congrArg _ ?_) (Finset.sum_congr rfl fun k _ => ?_))
  · exact congrArg Ideal.logistic (congr (congrArg _ e1) e3)
  · exact congr (congrArg _ (rd2_ix (n := 16384) (k := 8192) ya r k)) (lay_ix (n := 8192) (k := 4096) wa k q)
  · exact congrArg Ideal.logistic (congr (congrArg _ e2) e4)
  · exact congr (congrArg _ (rd2_ix (n := 16384) (k := 4096) yb r k)) (lay_ix (n := 4096) (k := 4096) wb k q)

/-- The projection of any array by the output weights. -/
theorem out_at (X : FVec Ideal S16384x4096 .f32) (f : ℕ → ℕ → EReal) (hX : ∀ (r : Fin 16384) (q : Fin 4096), X (ix2 r q) = f r.val q.val) :
    Host.dotGeneral dot_S16384x4096_S4096x4096_S16384x4096_1_0_0_1_n_n none X (shapeCast S4096x4096 (extractStridedSlice S1x4096x4096 ![0, 0, 0] wo slices_S2x4096x4096_S1x4096x4096_0_0_0) shapeCasts_S1x4096x4096_S4096x4096)
      = fun i => mm 4096 f (lay (n := 4096) (k := 4096) wo) (i 0).val (i 1).val := by
  funext i
  refine two_of (f := fun a b => mm 4096 f (lay (n := 4096) (k := 4096) wo) a b) (fun r q => ?_) i _ _ rfl rfl
  pointwise
  exact Finset.sum_congr rfl fun k _ => congr (congrArg _ (hX r k)) (lay_ix (n := 4096) (k := 4096) wo k q)

end Cert.Reference3Ideal.Mix

end
-- ==== Proof.Claim3.lean ====
/- The branches' mixing and the output projection: the kernels' result is the reference's. -/
module

public import proofs.«01_k».proof.Defs
public import proofs.«01_k».proof.Proof.MixRun
public import proofs.«01_k».proof.Proof.RefMix
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.Ssd Cert.Kernel3Ideal.Blk Cert.Reference3Ideal

theorem algebraic3 : Cert.algebraic_Kernel3Ideal_Reference3Ideal := by
  intro m g m' g' hpre hagree
  refine ⟨fun c => result m c, run m g, ?_⟩
  refine (θ_run Cert.Reference3Ideal.defs _ _).mono (fun r h c => ⟨(h c).1.trans ?_, (h c).2⟩) (Value.run (F := Ideal) m' g')
  obtain ⟨h0, h1, h2, h3, h4, h5, h6⟩ := hagree c
  rw [h0, h1, h2, h3, h4, h5, h6]
  exact Mix.out_at _ _ (mixArg m c) (Mix.mix_at _ _ _ _ _ _)

/-- The reference's frame: its run leaves the arguments; it declares no semaphore. -/
theorem frame_reference3 : Cert.quiescent_Reference3Ideal := fun m ρ _ =>
  (θ_run Cert.Reference3Ideal.defs _ _).mono (fun r h => And.intro (fun c => (h c).2) (Idealize.ShloMosaic.sem_eq_zero_of_no_sems (by decide) r.2))
    (Value.run (F := Ideal) m ρ)

end Cert.Proof

end
-- ==== Proof.Norm1.lean ====
/- What the calls of a layer's first norm and of the queries leave in their result arrays. -/
module

public import proofs.«01_k».proof.Proof.Gen.Kernel4Ideal.Frame
public import proofs.«01_k».proof.Proof.Mm
public import Idealize.ShloMosaic.Lib.Pipeline.ValueKit
public import Idealize.ShloMosaic.Lib.Pointwise

@[expose] public section

set_option maxRecDepth 16384

noncomputable section

namespace Cert.Kernel4Ideal.Blk

open Cert.Kernel4Ideal Cert.Kernel4Ideal.Gen Idealize.ShloMosaic Idealize.ShloMosaic.TcCoe Idealize.SL.Sem Cert.Ssd
open Idealize.ShloMosaic.Pipeline (Dat)

variable (V : (c : Dev nD) → (b : Ref sig .tc) → Buf (Elt Ideal) ((c : Thread nD τ).loc b)) (c : Dev nD)

/-- The blocks that a point of the norm stages. -/
theorem idx0 : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![0, t.val] :=
  (by decide +kernel : ∀ t : Fin grid0.N, _)

/-- The body's result at an index, from readers of its blocks. -/
theorem pay_at (x0 : Vec Ideal S256x4096 .f32) (x1 : Vec Ideal S256x4096 .f32) (x2 x3 : Vec Ideal S1x4096 .f32) {h f : ℕ → ℕ → EReal} {g b : ℕ → EReal}
    (h0 : ∀ (l : Fin 256) (k : Fin 4096), x0 (ix2 l k) = h l.val k.val) (h1 : ∀ (l : Fin 256) (k : Fin 4096), x1 (ix2 l k) = f l.val k.val)
    (h2 : ∀ q : Fin 4096, x2 (ix2 0 q) = g q.val) (h3 : ∀ q : Fin 4096, x3 (ix2 0 q) = b q.val) (l : Fin 256) (q : Fin 4096) :
    k0_pay1 x0 x1 x2 x3 (ix2 l q) = lnr h f g b l.val q.val := by
  pointwise [k0_pay1]
  simp only [h0, h1, h2, h3]
  rfl

theorem out4_at (x0 : Vec Ideal S256x4096 .f32) (x1 : Vec Ideal S256x4096 .f32) (x2 x3 : Vec Ideal S1x4096 .f32) (l : Fin 256) (q : Fin 4096) :
    out0_4 x0 x1 x2 x3 (ix2 l q) = k0_pay1 x0 x1 x2 x3 (ix2 l q) := by
  frame_out

theorem out5_at (x0 : Vec Ideal S256x4096 .f32) (x1 : Vec Ideal S256x4096 .f32) (x2 x3 : Vec Ideal S1x4096 .f32) (l : Fin 256) (q : Fin 4096) :
    out0_5 x0 x1 x2 x3 (ix2 l q) = k0_pay1 x0 x1 x2 x3 (ix2 l q) := by
  frame_out
  pointwise [k0_pay2]

theorem out6_at (x0 : Vec Ideal S256x4096 .f32) (x1 : Vec Ideal S256x4096 .f32) (x2 x3 : Vec Ideal S1x4096 .f32) (l : Fin 4096) (q : Fin 256) :
    out0_6 x0 x1 x2 x3 (ix2 l q) = k0_pay1 x0 x1 x2 x3 (ix2 q l) := by
  frame_out
  pointwise [k0_pay3]

/-- The body's result at a point. -/
theorem pay_blk (t : Fin cfg0.N) (l : Fin 256) (q : Fin 4096) : k0_pay1 (iblk0 V c 0 t) (iblk0 V c 1 t) (iblk0 V c 2 t) (iblk0 V c 3 t) (ix2 l q)
    = lnr (rd2 (n := 16384) (k := 4096) (V c main_arg0)) (rd2 (n := 16384) (k := 4096) (V c main_arg1)) (fun q => rd2 (n := 1) (k := 4096) (V c main_v0) 0 q) (fun q => rd2 (n := 1) (k := 4096) (V c main_v1) 0 q) (t.val * 256 + l.val) q.val := by
  have ht : t.val < 64 := lt_of_lt_of_eq t.isLt N_0
  obtain ⟨e0, e1, e2, e3, -⟩ := idx0 t
  have b0 : ∀ (l : Fin 256) (k : Fin 4096), iblk0 V c 0 t (ix2 l k) = rd2 (n := 16384) (k := 4096) (V c main_arg0) (t.val * 256 + l.val) k.val := by
    intro l k
    blk_simp [iblk0]
    refine two_of (fun a b => rd2_ix _ a b) _ _ _ ?_ ?_
    all_goals
      blk_simp [e0]
      try omega
  have b1 : ∀ (l : Fin 256) (k : Fin 4096), iblk0 V c 1 t (ix2 l k) = rd2 (n := 16384) (k := 4096) (V c main_arg1) (t.val * 256 + l.val) k.val := by
    intro l k
    blk_simp [iblk0]
    refine two_of (fun a b => rd2_ix _ a b) _ _ _ ?_ ?_
    all_goals
      blk_simp [e1]
      try omega
  have b2 : ∀ q : Fin 4096, iblk0 V c 2 t (ix2 0 q) = rd2 (n := 1) (k := 4096) (V c main_v0) 0 q.val := by
    intro q
    blk_simp [iblk0]
    refine two_of (fun a b => rd2_ix _ a b) _ _ _ ?_ ?_
    all_goals
      blk_simp [e2]
      try omega
  have b3 : ∀ q : Fin 4096, iblk0 V c 3 t (ix2 0 q) = rd2 (n := 1) (k := 4096) (V c main_v1) 0 q.val := by
    intro q
    blk_simp [iblk0]
    refine two_of (fun a b => rd2_ix _ a b) _ _ _ ?_ ?_
    all_goals
      blk_simp [e3]
      try omega
  exact pay_at _ _ _ _ (h := fun l k => rd2 (n := 16384) (k := 4096) (V c main_arg0) (t.val * 256 + l) k) (f := fun l k => rd2 (n := 16384) (k := 4096) (V c main_arg1) (t.val * 256 + l) k)
    (g := (fun q => rd2 (n := 1) (k := 4096) (V c main_v0) 0 q)) (b := (fun q => rd2 (n := 1) (k := 4096) (V c main_v1) 0 q)) b0 b1 b2 b3 l q

theorem norm4 : (dat0 V c).arrAt 4 cfg0.N = fun i => lnr (rd2 (n := 16384) (k := 4096) (V c main_arg0)) (rd2 (n := 16384) (k := 4096) (V c main_arg1)) (fun q => rd2 (n := 1) (k := 4096) (V c main_v0) 0 q) (fun q => rd2 (n := 1) (k := 4096) (V c main_v1) 0 q) (i 0).val (i 1).val := by
  refine (dat0 V c).arrAt_eq_of_covers 4 _ (by decide +kernel) fun t _ y => ?_
  have ht : t.val < 64 := lt_of_lt_of_eq t.isLt N_0
  have e := (idx0 t).2.2.2.2.1
  rw [after0_4]
  have hy : ∀ y : S256x4096.Idx, out0_4 (iblk0 V c 0 t) (iblk0 V c 1 t) (iblk0 V c 2 t) (iblk0 V c 3 t) y = lnr (rd2 (n := 16384) (k := 4096) (V c main_arg0)) (rd2 (n := 16384) (k := 4096) (V c main_arg1)) (fun q => rd2 (n := 1) (k := 4096) (V c main_v0) 0 q) (fun q => rd2 (n := 1) (k := 4096) (V c main_v1) 0 q) (t.val * 256 + (y 0).val) (y 1).val :=
    fun y => two_of (f := fun a b => lnr (rd2 (n := 16384) (k := 4096) (V c main_arg0)) (rd2 (n := 16384) (k := 4096) (V c main_arg1)) (fun q => rd2 (n := 1) (k := 4096) (V c main_v0) 0 q) (fun q => rd2 (n := 1) (k := 4096) (V c main_v1) 0 q) (t.val * 256 + a) b) (fun a b => by rw [out4_at, pay_blk]) y _ _ rfl rfl
  blk_simp
  rw [hy, e]
  refine congr (congrArg (lnr _ _ _ _) ?_) ?_ <;> simp

theorem norm5 : (dat0 V c).arrAt 5 cfg0.N = fun i => lnr (rd2 (n := 16384) (k := 4096) (V c main_arg0)) (rd2 (n := 16384) (k := 4096) (V c main_arg1)) (fun q => rd2 (n := 1) (k := 4096) (V c main_v0) 0 q) (fun q => rd2 (n := 1) (k := 4096) (V c main_v1) 0 q) (i 0).val (i 1).val := by
  refine (dat0 V c).arrAt_eq_of_covers 5 _ (by decide +kernel) fun t _ y => ?_
  have ht : t.val < 64 := lt_of_lt_of_eq t.isLt N_0
  have e := (idx0 t).2.2.2.2.2.1
  rw [after0_5]
  have hy : ∀ y : S256x4096.Idx, out0_5 (iblk0 V c 0 t) (iblk0 V c 1 t) (iblk0 V c 2 t) (iblk0 V c 3 t) y = lnr (rd2 (n := 16384) (k := 4096) (V c main_arg0)) (rd2 (n := 16384) (k := 4096) (V c main_arg1)) (fun q => rd2 (n := 1) (k := 4096) (V c main_v0) 0 q) (fun q => rd2 (n := 1) (k := 4096) (V c main_v1) 0 q) (t.val * 256 + (y 0).val) (y 1).val :=
    fun y => two_of (f := fun a b => lnr (rd2 (n := 16384) (k := 4096) (V c main_arg0)) (rd2 (n := 16384) (k := 4096) (V c main_arg1)) (fun q => rd2 (n := 1) (k := 4096) (V c main_v0) 0 q) (fun q => rd2 (n := 1) (k := 4096) (V c main_v1) 0 q) (t.val * 256 + a) b) (fun a b => by rw [out5_at, pay_blk]) y _ _ rfl rfl
  blk_simp
  rw [hy, e]
  refine congr (congrArg (lnr _ _ _ _) ?_) ?_ <;> simp

theorem norm6 : (dat0 V c).arrAt 6 cfg0.N = fun i => lnr (rd2 (n := 16384) (k := 4096) (V c main_arg0)) (rd2 (n := 16384) (k := 4096) (V c main_arg1)) (fun q => rd2 (n := 1) (k := 4096) (V c main_v0) 0 q) (fun q => rd2 (n := 1) (k := 4096) (V c main_v1) 0 q) (i 1).val (i 0).val := by
  refine (dat0 V c).arrAt_eq_of_covers 6 _ (by decide +kernel) fun t _ y => ?_
  have ht : t.val < 64 := lt_of_lt_of_eq t.isLt N_0
  have e := (idx0 t).2.2.2.2.2.2
  rw [after0_6]
  have hy : ∀ y : S4096x256.Idx, out0_6 (iblk0 V c 0 t) (iblk0 V c 1 t) (iblk0 V c 2 t) (iblk0 V c 3 t) y = lnr (rd2 (n := 16384) (k := 4096) (V c main_arg0)) (rd2 (n := 16384) (k := 4096) (V c main_arg1)) (fun q => rd2 (n := 1) (k := 4096) (V c main_v0) 0 q) (fun q => rd2 (n := 1) (k := 4096) (V c main_v1) 0 q) (t.val * 256 + (y 1).val) (y 0).val :=
    fun y => two_of (f := fun a b => lnr (rd2 (n := 16384) (k := 4096) (V c main_arg0)) (rd2 (n := 16384) (k := 4096) (V c main_arg1)) (fun q => rd2 (n := 1) (k := 4096) (V c main_v0) 0 q) (fun q => rd2 (n := 1) (k := 4096) (V c main_v1) 0 q) (t.val * 256 + b) a) (fun a b => by rw [out6_at, pay_blk]) y _ _ rfl rfl
  blk_simp
  rw [hy, e]
  refine congr (congrArg (lnr _ _ _ _) ?_) ?_ <;> simp

/-- The blocks that a point of the call for the queries' weights stages. -/
theorem idx1 : ∀ t : Fin cfg1.N, win1_0.index t = ![0, t.val, 0] ∧ win1_1.index t = ![t.val, 0] :=
  (by decide +kernel : ∀ t : Fin grid1.N, _)

theorem out1_at (x0 : Vec Ideal S1x1024x2048 .f32) (l : Fin 1024) (q : Fin 2048) : out1_1 x0 (ix2 l q) = x0 (ix3 0 l q) := by
  frame_out
  pointwise [k1_pay1]

/-- The array of the queries' weights. -/
theorem fin1 : (dat1 V c).arrAt 1 cfg1.N = fun i => lay (n := 4096) (k := 2048) (V c main_arg4) (i 0).val (i 1).val := by
  refine (dat1 V c).arrAt_eq_of_covers 1 _ (by decide +kernel) fun t _ y => ?_
  have ht : t.val < 4 := lt_of_lt_of_eq t.isLt N_1
  obtain ⟨e0, e1⟩ := idx1 t
  have b0 : ∀ (l : Fin 1024) (q : Fin 2048), iblk1 V c 0 t (ix3 0 l q) = lay (n := 4096) (k := 2048) (V c main_arg4) (t.val * 1024 + l.val) q.val := by
    intro l q
    blk_simp [iblk1]
    refine lay_of _ _ _ _ ?_ ?_ ?_
    all_goals
      blk_simp [e0]
      try omega
  rw [after1_1]
  have hy : ∀ y : S1024x2048.Idx, out1_1 (iblk1 V c 0 t) y = lay (n := 4096) (k := 2048) (V c main_arg4) (t.val * 1024 + (y 0).val) (y 1).val :=
    fun y => two_of (f := fun a b => lay (n := 4096) (k := 2048) (V c main_arg4) (t.val * 1024 + a) b)
      (fun a b => by rw [out1_at, b0]) y _ _ rfl rfl
  blk_simp
  rw [hy, e1]
  refine congr (congrArg (lay _) ?_) ?_ <;> simp

/-- The blocks that a point of the call for the queries stages. -/
theorem idx2 : ∀ t : Fin cfg2.N, win2_0.index t = ![t.val / 4, 0] ∧ win2_1.index t = ![0, t.val % 4] ∧ win2_2.index t = ![t.val / 4, t.val % 4] :=
  (by decide +kernel : ∀ t : Fin grid2.N, _)

theorem out2_at (x0 : Vec Ideal S1024x4096 .bf16) (x1 : Vec Ideal S4096x512 .bf16) (l : Fin 1024) (q : Fin 512) :
    out2_2 x0 x1 (ix2 l q) = ∑ k : Fin 4096, x0 (ix2 l k) * x1 (ix2 k q) := by
  frame_out
  pointwise [k2_pay1]

/-- The array of the queries. -/
theorem fin2 : (dat2 V c).arrAt 2 cfg2.N
    = fun i => mm 4096 (rd2 (n := 16384) (k := 4096) (V c main_v2_1)) (rd2 (n := 4096) (k := 2048) (V c main_v3)) (i 0).val (i 1).val := by
  refine (dat2 V c).arrAt_eq_of_covers 2 _ (by decide +kernel) fun t _ y => ?_
  have ht : t.val < 64 := lt_of_lt_of_eq t.isLt N_2
  obtain ⟨e0, e1, e2⟩ := idx2 t
  have b0 : ∀ (l : Fin 1024) (k : Fin 4096), iblk2 V c 0 t (ix2 l k) = rd2 (n := 16384) (k := 4096) (V c main_v2_1) (t.val / 4 * 1024 + l.val) k.val := by
    intro l k
    blk_simp [iblk2]
    refine two_of (fun a b => rd2_ix _ a b) _ _ _ ?_ ?_
    all_goals
      blk_simp [e0]
      try omega
  have b1 : ∀ (k : Fin 4096) (q : Fin 512), iblk2 V c 1 t (ix2 k q) = rd2 (n := 4096) (k := 2048) (V c main_v3) k.val (t.val % 4 * 512 + q.val) := by
    intro k q
    blk_simp [iblk2]
    refine two_of (fun a b => rd2_ix _ a b) _ _ _ ?_ ?_
    all_goals
      blk_simp [e1]
      try omega
  rw [after2_2]
  have hy : ∀ y : S1024x512.Idx, out2_2 (iblk2 V c 0 t) (iblk2 V c 1 t) y
      = mm 4096 (rd2 (n := 16384) (k := 4096) (V c main_v2_1)) (rd2 (n := 4096) (k := 2048) (V c main_v3)) (t.val / 4 * 1024 + (y 0).val) (t.val % 4 * 512 + (y 1).val) :=
    fun y => two_of (f := fun a b => mm 4096 _ _ (t.val / 4 * 1024 + a) (t.val % 4 * 512 + b))
      (fun a b => by rw [out2_at]; exact Finset.sum_congr rfl fun k _ => by rw [b0, b1]) y _ _ rfl rfl
  blk_simp
  rw [hy, e2]
  rfl

end Cert.Kernel4Ideal.Blk

end
-- ==== Proof.Norm1Run.lean ====
/- The first norm of a layer and the queries: the run. -/
module

public import proofs.«01_k».proof.Proof.Norm1
public import Idealize.ShloMosaic.Lib.StableHlo.Run

@[expose] public section

set_option maxRecDepth 16384

noncomputable section

namespace Cert.Kernel4Ideal.Blk

open Cert.Kernel4Ideal Cert.Kernel4Ideal.Gen Idealize.ShloMosaic Idealize.ShloMosaic.TcCoe Idealize.SL Idealize.SL.Sem Cert.Ssd

variable (m : (ℓ : Loc nD τ sig) → Buf (Elt Ideal) ℓ) (ρ : Dev nD → PrngReg) (c : Dev nD)

/-- The normed stream. -/
def stream : ℕ → ℕ → EReal := lnr (rd2 (n := 16384) (k := 4096) (m ((c : Thread nD τ).loc main_arg0))) (rd2 (n := 16384) (k := 4096) (m ((c : Thread nD τ).loc main_arg1))) (rd1 (n := 4096) (m ((c : Thread nD τ).loc main_arg2))) (rd1 (n := 4096) (m ((c : Thread nD τ).loc main_arg3)))

/-- The queries: the stream times the layer's weights. -/
def queries : S16384x2048.Idx → EReal := fun i => mm 4096 (stream m c) (lay (n := 4096) (k := 2048) (m ((c : Thread nD τ).loc main_arg4))) (i 0).val (i 1).val

theorem row_at (x : Vec Ideal S4096 .f32) (q : Fin 4096) : shapeCast S1x4096 x shapeCasts_S4096_S1x4096 (ix2 0 q) = x (ix1 q) := by
  pointwise

theorem w_s (q : Fin 4096) : V1 m ρ c main_v0 (ix2 0 q) = (m ((c : Thread nD τ).loc main_arg2)) (ix1 q) := by
  have h : V1 m ρ c main_v0 = shapeCast S1x4096 (m ((c : Thread nD τ).loc main_arg2)) shapeCasts_S4096_S1x4096 := by
    simp only [V1, W1, hostOps0]
    after_results
    rfl
  rw [h]
  exact row_at _ q

theorem w_h (q : Fin 4096) : V1 m ρ c main_v1 (ix2 0 q) = (m ((c : Thread nD τ).loc main_arg3)) (ix1 q) := by
  have h : V1 m ρ c main_v1 = shapeCast S1x4096 (m ((c : Thread nD τ).loc main_arg3)) shapeCasts_S4096_S1x4096 := by
    simp only [V1, W1, hostOps0]
    after_results
    rfl
  rw [h]
  exact row_at _ q

theorem w_q : rd2 (n := 4096) (k := 2048) (V3 m ρ c main_v3) = lay (n := 4096) (k := 2048) (m ((c : Thread nD τ).loc main_arg4)) := by
  refine Eq.trans (congrArg (rd2 (n := 4096) (k := 2048)) (?_ : V3 m ρ c main_v3 = fun i => lay (n := 4096) (k := 2048) (m ((c : Thread nD τ).loc main_arg4)) (i 0).val (i 1).val)) (rd2_lay (n := 4096) (k := 2048) _)
  refine (W3_arr m ρ c 1).trans ((fin1 (V2 m ρ) c).trans ?_)
  rw [show V2 m ρ c main_arg4 = m ((c : Thread nD τ).loc main_arg4) from W2_args m ρ c main_arg4 (by decide)]

theorem stream_eq : lnr (rd2 (n := 16384) (k := 4096) (V1 m ρ c main_arg0)) (rd2 (n := 16384) (k := 4096) (V1 m ρ c main_arg1))
    (fun q => rd2 (n := 1) (k := 4096) (V1 m ρ c main_v0) 0 q) (fun q => rd2 (n := 1) (k := 4096) (V1 m ρ c main_v1) 0 q) = stream m c := by
  rw [rd_row (w_s m ρ c), rd_row (w_h m ρ c), show V1 m ρ c main_arg0 = m ((c : Thread nD τ).loc main_arg0) from W1_args m ρ c main_arg0 (by decide),
    show V1 m ρ c main_arg1 = m ((c : Thread nD τ).loc main_arg1) from W1_args m ρ c main_arg1 (by decide)]
  rfl

theorem s_1 : V3 m ρ c main_v2_1 = fun i => stream m c (i 0).val (i 1).val :=
  ((W3_of m ρ c main_v2_1 (by decide))).trans ((W2_arr m ρ c 5).trans ((norm5 (V1 m ρ) c).trans (by rw [stream_eq])))

theorem res_0 : W4 m ρ c (Proc.devRef .tc main_v2_0) = fun i => stream m c (i 0).val (i 1).val :=
  ((W4_of m ρ c main_v2_0 (by decide)).trans (W3_of m ρ c main_v2_0 (by decide))).trans ((W2_arr m ρ c 4).trans ((norm4 (V1 m ρ) c).trans (by rw [stream_eq])))

theorem res_1 : W4 m ρ c (Proc.devRef .tc main_v2_1) = fun i => stream m c (i 0).val (i 1).val :=
  (W4_of m ρ c main_v2_1 (by decide)).trans (s_1 m ρ c)

theorem res_2 : W4 m ρ c (Proc.devRef .tc main_v2_2) = fun i => stream m c (i 1).val (i 0).val :=
  ((W4_of m ρ c main_v2_2 (by decide)).trans (W3_of m ρ c main_v2_2 (by decide))).trans ((W2_arr m ρ c 6).trans ((norm6 (V1 m ρ) c).trans (by rw [stream_eq])))

theorem res_3 : W4 m ρ c (Proc.devRef .tc main_v4) = queries m c := by
  refine (W4_arr m ρ c 2).trans ((fin2 (V3 m ρ) c).trans ?_)
  rw [w_q, s_1]
  funext i
  unfold queries mm
  refine Finset.sum_congr rfl fun k _ => ?_
  refine congrArg (fun x : EReal => x * _) ?_
  exact rd2_fn (n := 16384) (k := 4096) (stream m c) (i 0) k

open Idealize.SL.RA Idealize.SL.BI Idealize.SL.BI.BIBase Idealize.SL.BI.Laws Idealize.SL.ProofMode Idealize.ShloMosaic.Rounds Idealize.ShloMosaic.Tactic
open scoped Idealize.SL.BI
open Idealize.ShloMosaic.Pipeline (Dat Cfg Window BodyObligation cellOf)

-- the launch theorem's implicit arguments are found by unifying its conclusion with this one
set_option backward.isDefEq.respectTransparency.types false in
/-- The run: the results and the arguments. -/
theorem run : θ_run defs (onTc (τ := τ) (main (F := Ideal))) ⟨m, fun _ => 0, ρ⟩ (fun r => ∀ c : Dev nD,
      r.2.mem ((c.tc : Thread nD τ).loc main_v2_0) = (fun i => stream m c (i 0).val (i 1).val)
      ∧ r.2.mem ((c.tc : Thread nD τ).loc main_v2_1) = (fun i => stream m c (i 0).val (i 1).val)
      ∧ r.2.mem ((c.tc : Thread nD τ).loc main_v2_2) = (fun i => stream m c (i 1).val (i 0).val)
      ∧ r.2.mem ((c.tc : Thread nD τ).loc main_v4) = queries m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c => ⟨(h c _ (mem_uc main_v2_0 (by decide))).trans (res_0 m ρ c), (h c _ (mem_uc main_v2_1 (by decide))).trans (res_1 m ρ c), (h c _ (mem_uc main_v2_2 (by decide))).trans (res_2 m ρ c), (h c _ (mem_uc main_v4 (by decide))).trans (res_3 m ρ c),
(h c _ (mem_uc main_arg0 (by decide))).trans (W4_main_arg0 m ρ c), (h c _ (mem_uc main_arg1 (by decide))).trans (W4_main_arg1 m ρ c), (h c _ (mem_uc main_arg2 (by decide))).trans (W4_main_arg2 m ρ c), (h c _ (mem_uc main_arg3 (by decide))).trans (W4_main_arg3 m ρ c), (h c _ (mem_uc main_arg4 (by decide))).trans (W4_main_arg4 m ρ c)⟩)

end Cert.Kernel4Ideal.Blk

end
-- ==== Proof.RefNorm1.lean ====
/- The norm of the scaled stream plus a branch: the reference's result at an index. -/
module

public import proofs.«01_k».proof.Proof.Gen.Reference4Ideal.Run
public import proofs.«01_k».proof.Proof.Mm
public import Idealize.ShloMosaic.Lib.Pointwise

@[expose] public section

set_option maxRecDepth 16384

noncomputable section

namespace Cert.Reference4Ideal.Norm

open Cert.Reference4Ideal Cert.Reference4Ideal.Gen Idealize.ShloMosaic Idealize.ShloMosaic.TcCoe Idealize.SL.Sem Cert.Ssd

/-- The stream before its norm. -/
theorem sum_at (h : FVec Ideal S16384x4096 .f32) (f : FVec Ideal S16384x4096 .f32) (r : Fin 16384) (q : Fin 4096) :
    (addf (mulf (broadcastInDim S16384x4096 ![] bcast_S_S16384x4096 (constant S_ .f32 0x3FB504F3#32)) h) f) (ix2 r q)
      = Ideal.ofBits .f32 0x3FB504F3#32 * rd2 (n := 16384) (k := 4096) h r.val q.val + (rd2 (n := 16384) (k := 4096) f) r.val q.val := by
  pointwise
  exact congr (congrArg _ (congrArg _ (rd2_ix (n := 16384) (k := 4096) h r q))) (rd2_ix (n := 16384) (k := 4096) f r q)

/-- A row's norm. -/
theorem row_at (s : FVec Ideal S16384x4096 .f32) (g b : FVec Ideal S4096 .f32) {a : ℕ → ℕ → EReal} (hs : ∀ (r : Fin 16384) (q : Fin 4096), s (ix2 r q) = a r.val q.val) (r : Fin 16384) (q : Fin 4096) :
    (addf (mulf (mulf (subf s (broadcastInDim S16384x4096 ![0, 1] bcast_S16384x1_S16384x4096_0_1 (Host.divf (broadcastInDim S16384x1 ![0] bcast_S16384_S16384x1_0 (Host.reduceAdd s (constant S_ .f32 0x00000000#32) reducesTo_S16384x4096_S16384_d1 h_S_)) (broadcastInDim S16384x1 ![] bcast_S_S16384x1 (constant S_ .f32 0x45800000#32))))) (broadcastInDim S16384x4096 ![0, 1] bcast_S16384x1_S16384x4096_0_1 (Host.rsqrt (addf (Host.divf (broadcastInDim S16384x1 ![0] bcast_S16384_S16384x1_0 (Host.reduceAdd (mulf (subf s (broadcastInDim S16384x4096 ![0, 1] bcast_S16384x1_S16384x4096_0_1 (Host.divf (broadcastInDim S16384x1 ![0] bcast_S16384_S16384x1_0 (Host.reduceAdd s (constant S_ .f32 0x00000000#32) reducesTo_S16384x4096_S16384_d1 h_S_)) (broadcastInDim S16384x1 ![] bcast_S_S16384x1 (constant S_ .f32 0x45800000#32))))) (subf s (broadcastInDim S16384x4096 ![0, 1] bcast_S16384x1_S16384x4096_0_1 (Host.divf (broadcastInDim S16384x1 ![0] bcast_S16384_S16384x1_0 (Host.reduceAdd s (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 g))) (broadcastInDim S16384x4096 ![0, 1] bcast_S1x4096_S16384x4096_0_1 (broadcastInDim S1x4096 ![1] bcast_S4096_S1x4096_1 b))) (ix2 r q)
      = ln (a r.val) (rd1 (n := 4096) g) (rd1 (n := 4096) b) q.val := by
  pointwise
  simp only [hs]
  exact congr (congrArg _ (congrArg _ (rd1_ix (n := 4096) g q))) (rd1_ix (n := 4096) b q)

theorem norm_at (h : FVec Ideal S16384x4096 .f32) (f : FVec Ideal S16384x4096 .f32) (g b : FVec Ideal S4096 .f32) (r : Fin 16384) (q : Fin 4096) :
    (addf (mulf (mulf (subf (addf (mulf (broadcastInDim S16384x4096 ![] bcast_S_S16384x4096 (constant S_ .f32 0x3FB504F3#32)) h) f) (broadcastInDim S16384x4096 ![0, 1] bcast_S16384x1_S16384x4096_0_1 (Host.divf (broadcastInDim S16384x1 ![0] bcast_S16384_S16384x1_0 (Host.reduceAdd (addf (mulf (broadcastInDim S16384x4096 ![] bcast_S_S16384x4096 (constant S_ .f32 0x3FB504F3#32)) h) f) (constant S_ .f32 0x00000000#32) reducesTo_S16384x4096_S16384_d1 h_S_)) (broadcastInDim S16384x1 ![] bcast_S_S16384x1 (constant S_ .f32 0x45800000#32))))) (broadcastInDim S16384x4096 ![0, 1] bcast_S16384x1_S16384x4096_0_1 (Host.rsqrt (addf (Host.divf (broadcastInDim S16384x1 ![0] bcast_S16384_S16384x1_0 (Host.reduceAdd (mulf (subf (addf (mulf (broadcastInDim S16384x4096 ![] bcast_S_S16384x4096 (constant S_ .f32 0x3FB504F3#32)) h) f) (broadcastInDim S16384x4096 ![0, 1] bcast_S16384x1_S16384x4096_0_1 (Host.divf (broadcastInDim S16384x1 ![0] bcast_S16384_S16384x1_0 (Host.reduceAdd (addf (mulf (broadcastInDim S16384x4096 ![] bcast_S_S16384x4096 (constant S_ .f32 0x3FB504F3#32)) h) f) (constant S_ .f32 0x00000000#32) reducesTo_S16384x4096_S16384_d1 h_S_)) (broadcastInDim S16384x1 ![] bcast_S_S16384x1 (constant S_ .f32 0x45800000#32))))) (subf (addf (mulf (broadcastInDim S16384x4096 ![] bcast_S_S16384x4096 (constant S_ .f32 0x3FB504F3#32)) h) f) (broadcastInDim S16384x4096 ![0, 1] bcast_S16384x1_S16384x4096_0_1 (Host.divf (broadcastInDim S16384x1 ![0] bcast_S16384_S16384x1_0 (Host.reduceAdd (addf (mulf (broadcastInDim S16384x4096 ![] bcast_S_S16384x4096 (constant S_ .f32 0x3FB504F3#32)) h) f) (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 g))) (broadcastInDim S16384x4096 ![0, 1] bcast_S1x4096_S16384x4096_0_1 (broadcastInDim S1x4096 ![1] bcast_S4096_S1x4096_1 b))) (ix2 r q)
      = lnr (rd2 (n := 16384) (k := 4096) h) (rd2 (n := 16384) (k := 4096) f) (rd1 (n := 4096) g) (rd1 (n := 4096) b) r.val q.val :=
  row_at _ g b (a := fun r q => Ideal.ofBits .f32 0x3FB504F3#32 * rd2 (n := 16384) (k := 4096) h r q + (rd2 (n := 16384) (k := 4096) f) r q) (sum_at h f) r q

theorem as_fn {X : FVec Ideal S16384x4096 .f32} {a : ℕ → ℕ → EReal} (hX : ∀ (r : Fin 16384) (q : Fin 4096), X (ix2 r q) = a r.val q.val) :
    X = fun i => a (i 0).val (i 1).val := by
  funext i
  exact two_of hX i _ _ rfl rfl

theorem as_bf {X : FVec Ideal S16384x4096 .f32} {a : ℕ → ℕ → EReal} (hX : ∀ (r : Fin 16384) (q : Fin 4096), X (ix2 r q) = a r.val q.val) :
    truncf .bf16 X bitsLt_bf16_f32 = fun i => a (i 0).val (i 1).val :=
  as_fn hX

theorem as_tr {X : FVec Ideal S16384x4096 .f32} {a : ℕ → ℕ → EReal} (hX : ∀ (r : Fin 16384) (q : Fin 4096), X (ix2 r q) = a r.val q.val) :
    truncf .bf16 (transpose S4096x16384 [1, 0] X transposes_S16384x4096_S4096x16384_1_0) bitsLt_bf16_f32 = fun i => a (i 1).val (i 0).val := by
  funext i
  refine two_of (f := fun u v => a v u) (fun u v => ?_) i _ _ rfl rfl
  pointwise
  exact hX v u

theorem as_q {X : FVec Ideal S16384x4096 .f32} {a : ℕ → ℕ → EReal} (hX : ∀ (r : Fin 16384) (q : Fin 4096), X (ix2 r q) = a r.val q.val) (w : FVec Ideal S2x4096x2048 .f32) :
    truncf .bf16 (Host.dotGeneral dot_S16384x4096_S4096x2048_S16384x2048_1_0_0_1_n_n none X (shapeCast S4096x2048 (extractStridedSlice S1x4096x2048 ![0, 0, 0] w slices_S2x4096x2048_S1x4096x2048_0_0_0) shapeCasts_S1x4096x2048_S4096x2048)) bitsLt_bf16_f32
      = fun i => mm 4096 a (lay (n := 4096) (k := 2048) w) (i 0).val (i 1).val := by
  funext i
  refine two_of (f := fun u v => mm 4096 a (lay (n := 4096) (k := 2048) w) u v) (fun r q => ?_) i _ _ rfl rfl
  pointwise
  exact Finset.sum_congr rfl fun k _ => congr (congrArg _ (hX r k)) (lay_ix (n := 4096) (k := 2048) w k q)

end Cert.Reference4Ideal.Norm

end
-- ==== Proof.Claim4.lean ====
/- A layer's first norm and the queries: the kernels' results are the reference's. -/
module

public import proofs.«01_k».proof.Defs
public import proofs.«01_k».proof.Proof.Norm1Run
public import proofs.«01_k».proof.Proof.RefNorm1
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.Ssd Cert.Kernel4Ideal.Blk Cert.Reference4Ideal

theorem algebraic4 : Cert.algebraic_Kernel4Ideal_Reference4Ideal := by
  intro m g m' g' hpre hagree
  refine ⟨fun c => (fun i => stream m c (i 0).val (i 1).val), fun c => (fun i => stream m c (i 0).val (i 1).val), fun c => (fun i => stream m c (i 1).val (i 0).val),
    fun c => queries m c, run m g, ?_⟩
  refine (θ_run Cert.Reference4Ideal.defs _ _).mono (fun r h c => ⟨(h c).1.trans ?_, (h c).2.1.trans ?_, (h c).2.2.1.trans ?_, (h c).2.2.2.1.trans ?_, (h c).2.2.2.2⟩) (Value.run (F := Ideal) m' g')
  all_goals
    obtain ⟨h0, h1, h2, h3, h4⟩ := hagree c
    rw [h0, h1, h2, h3]
  · exact Norm.as_fn (a := stream m c) (Norm.norm_at _ _ _ _)
  · exact Norm.as_bf (a := stream m c) (Norm.norm_at _ _ _ _)
  · exact Norm.as_tr (a := stream m c) (Norm.norm_at _ _ _ _)
  · rw [h4]
    exact Norm.as_q (a := stream m c) (Norm.norm_at _ _ _ _) _

/-- The reference's frame: its run leaves the arguments; it declares no semaphore. -/
theorem frame_reference4 : Cert.quiescent_Reference4Ideal := fun m ρ _ =>
  (θ_run Cert.Reference4Ideal.defs _ _).mono (fun r h => And.intro (fun c => (h c).2.2.2.2) (Idealize.ShloMosaic.sem_eq_zero_of_no_sems (by decide) r.2))
    (Value.run (F := Ideal) m ρ)

end Cert.Proof

end
-- ==== Proof.Norm2.lean ====
/- What the call of a layer's second norm leaves in its result arrays, and the run. -/
module

public import proofs.«01_k».proof.Proof.Gen.Kernel5Ideal.Value
public import proofs.«01_k».proof.Proof.Mm
public import Idealize.ShloMosaic.Lib.Pipeline.ValueKit
public import Idealize.ShloMosaic.Lib.Pointwise

@[expose] public section

set_option maxRecDepth 16384

noncomputable section

namespace Cert.Kernel5Ideal.Blk

open Cert.Kernel5Ideal Cert.Kernel5Ideal.Gen Idealize.ShloMosaic Idealize.ShloMosaic.TcCoe Idealize.SL.Sem Cert.Ssd
open Idealize.ShloMosaic.Pipeline (Dat)

variable (m : (ℓ : Loc nD τ sig) → Buf (Elt Ideal) ℓ) (ρ : Dev nD → PrngReg) (c : Dev nD)

/-- The blocks that a point of the norm stages. -/
theorem idx0 : ∀ t : Fin cfg0.N, win0_0.index t = ![t.val, 0] ∧ win0_1.index t = ![0, t.val] ∧ win0_2.index t = ![0, 0] ∧ win0_3.index t = ![0, 0]
    ∧ win0_4.index t = ![t.val, 0] ∧ win0_5.index t = ![t.val, 0] :=
  (by decide +kernel : ∀ t : Fin grid0.N, _)

/-- The body's result at an index, from readers of its blocks. -/
theorem pay_at (x0 : Vec Ideal S256x4096 .f32) (x1 : Vec Ideal S4096x256 .f32) (x2 x3 : Vec Ideal S1x4096 .f32) {h f : ℕ → ℕ → EReal} {g b : ℕ → EReal}
    (h0 : ∀ (l : Fin 256) (k : Fin 4096), x0 (ix2 l k) = h l.val k.val) (h1 : ∀ (l : Fin 256) (k : Fin 4096), x1 (ix2 k l) = f l.val k.val)
    (h2 : ∀ q : Fin 4096, x2 (ix2 0 q) = g q.val) (h3 : ∀ q : Fin 4096, x3 (ix2 0 q) = b q.val) (l : Fin 256) (q : Fin 4096) :
    k0_pay1 x0 x1 x2 x3 (ix2 l q) = lnr h f g b l.val q.val := by
  pointwise [k0_pay1]
  simp only [h0, h1, h2, h3]
  rfl

theorem out4_at (x0 : Vec Ideal S256x4096 .f32) (x1 : Vec Ideal S4096x256 .f32) (x2 x3 : Vec Ideal S1x4096 .f32) (l : Fin 256) (q : Fin 4096) :
    out0_4 x0 x1 x2 x3 (ix2 l q) = k0_pay1 x0 x1 x2 x3 (ix2 l q) := by
  frame_out

theorem out5_at (x0 : Vec Ideal S256x4096 .f32) (x1 : Vec Ideal S4096x256 .f32) (x2 x3 : Vec Ideal S1x4096 .f32) (l : Fin 256) (q : Fin 4096) :
    out0_5 x0 x1 x2 x3 (ix2 l q) = k0_pay1 x0 x1 x2 x3 (ix2 l q) := by
  frame_out
  pointwise [k0_pay2]

/-- The body's result at a point. -/
theorem pay_blk (t : Fin cfg0.N) (l : Fin 256) (q : Fin 4096) : k0_pay1 (iblk m c 0 t) (iblk m c 1 t) (iblk m c 2 t) (iblk m c 3 t) (ix2 l q)
    = lnr (rd2 (n := 16384) (k := 4096) (m ((c : Thread nD τ).loc main_arg0))) (fun r k => rd2 (n := 4096) (k := 16384) (m ((c : Thread nD τ).loc main_arg1)) k r) (fun q => rd2 (n := 1) (k := 4096) (V m c main_v0) 0 q) (fun q => rd2 (n := 1) (k := 4096) (V m c main_v1) 0 q) (t.val * 256 + l.val) q.val := by
  have ht : t.val < 64 := lt_of_lt_of_eq t.isLt N_0
  obtain ⟨e0, e1, e2, e3, -⟩ := idx0 t
  have b0 : ∀ (l : Fin 256) (k : Fin 4096), iblk m c 0 t (ix2 l k) = rd2 (n := 16384) (k := 4096) (m ((c : Thread nD τ).loc main_arg0)) (t.val * 256 + l.val) k.val := by
    intro l k
    blk_simp [iblk, V_main_arg0]
    refine two_of (fun a b => rd2_ix _ a b) _ _ _ ?_ ?_
    all_goals
      blk_simp [e0]
      try omega
  have b1 : ∀ (l : Fin 256) (k : Fin 4096), iblk m c 1 t (ix2 k l) = rd2 (n := 4096) (k := 16384) (m ((c : Thread nD τ).loc main_arg1)) k.val (t.val * 256 + l.val) := by
    intro l k
    blk_simp [iblk, V_main_arg1]
    refine two_of (fun a b => rd2_ix _ a b) _ _ _ ?_ ?_
    all_goals
      blk_simp [e1]
      try omega
  have b2 : ∀ q : Fin 4096, iblk m c 2 t (ix2 0 q) = rd2 (n := 1) (k := 4096) (V m c main_v0) 0 q.val := by
    intro q
    blk_simp [iblk]
    refine two_of (fun a b => rd2_ix _ a b) _ _ _ ?_ ?_
    all_goals
      blk_simp [e2]
      try omega
  have b3 : ∀ q : Fin 4096, iblk m c 3 t (ix2 0 q) = rd2 (n := 1) (k := 4096) (V m c main_v1) 0 q.val := by
    intro q
    blk_simp [iblk]
    refine two_of (fun a b => rd2_ix _ a b) _ _ _ ?_ ?_
    all_goals
      blk_simp [e3]
      try omega
  exact pay_at _ _ _ _ (h := fun l k => rd2 (n := 16384) (k := 4096) (m ((c : Thread nD τ).loc main_arg0)) (t.val * 256 + l) k) (f := fun l k => rd2 (n := 4096) (k := 16384) (m ((c : Thread nD τ).loc main_arg1)) k (t.val * 256 + l))
    (g := (fun q => rd2 (n := 1) (k := 4096) (V m c main_v0) 0 q)) (b := (fun q => rd2 (n := 1) (k := 4096) (V m c main_v1) 0 q)) b0 b1 b2 b3 l q

theorem norm4 : (dats m 0 c).arrAt 4 cfg0.N = fun i => lnr (rd2 (n := 16384) (k := 4096) (m ((c : Thread nD τ).loc main_arg0))) (fun r k => rd2 (n := 4096) (k := 16384) (m ((c : Thread nD τ).loc main_arg1)) k r) (fun q => rd2 (n := 1) (k := 4096) (V m c main_v0) 0 q) (fun q => rd2 (n := 1) (k := 4096) (V m c main_v1) 0 q) (i 0).val (i 1).val := by
  refine (dats m 0 c).arrAt_eq_of_covers 4 _ (by decide +kernel) fun t _ y => ?_
  have ht : t.val < 64 := lt_of_lt_of_eq t.isLt N_0
  have e := (idx0 t).2.2.2.2.1
  rw [after0_4]
  have hy : ∀ y : S256x4096.Idx, out0_4 (iblk m c 0 t) (iblk m c 1 t) (iblk m c 2 t) (iblk m c 3 t) y = lnr (rd2 (n := 16384) (k := 4096) (m ((c : Thread nD τ).loc main_arg0))) (fun r k => rd2 (n := 4096) (k := 16384) (m ((c : Thread nD τ).loc main_arg1)) k r) (fun q => rd2 (n := 1) (k := 4096) (V m c main_v0) 0 q) (fun q => rd2 (n := 1) (k := 4096) (V m c main_v1) 0 q) (t.val * 256 + (y 0).val) (y 1).val :=
    fun y => two_of (f := fun a b => lnr (rd2 (n := 16384) (k := 4096) (m ((c : Thread nD τ).loc main_arg0))) (fun r k => rd2 (n := 4096) (k := 16384) (m ((c : Thread nD τ).loc main_arg1)) k r) (fun q => rd2 (n := 1) (k := 4096) (V m c main_v0) 0 q) (fun q => rd2 (n := 1) (k := 4096) (V m c main_v1) 0 q) (t.val * 256 + a) b) (fun a b => by rw [out4_at, pay_blk]) y _ _ rfl rfl
  blk_simp
  rw [hy, e]
  refine congr (congrArg (lnr _ _ _ _) ?_) ?_ <;> simp

theorem norm5 : (dats m 0 c).arrAt 5 cfg0.N = fun i => lnr (rd2 (n := 16384) (k := 4096) (m ((c : Thread nD τ).loc main_arg0))) (fun r k => rd2 (n := 4096) (k := 16384) (m ((c : Thread nD τ).loc main_arg1)) k r) (fun q => rd2 (n := 1) (k := 4096) (V m c main_v0) 0 q) (fun q => rd2 (n := 1) (k := 4096) (V m c main_v1) 0 q) (i 0).val (i 1).val := by
  refine (dats m 0 c).arrAt_eq_of_covers 5 _ (by decide +kernel) fun t _ y => ?_
  have ht : t.val < 64 := lt_of_lt_of_eq t.isLt N_0
  have e := (idx0 t).2.2.2.2.2
  rw [after0_5]
  have hy : ∀ y : S256x4096.Idx, out0_5 (iblk m c 0 t) (iblk m c 1 t) (iblk m c 2 t) (iblk m c 3 t) y = lnr (rd2 (n := 16384) (k := 4096) (m ((c : Thread nD τ).loc main_arg0))) (fun r k => rd2 (n := 4096) (k := 16384) (m ((c : Thread nD τ).loc main_arg1)) k r) (fun q => rd2 (n := 1) (k := 4096) (V m c main_v0) 0 q) (fun q => rd2 (n := 1) (k := 4096) (V m c main_v1) 0 q) (t.val * 256 + (y 0).val) (y 1).val :=
    fun y => two_of (f := fun a b => lnr (rd2 (n := 16384) (k := 4096) (m ((c : Thread nD τ).loc main_arg0))) (fun r k => rd2 (n := 4096) (k := 16384) (m ((c : Thread nD τ).loc main_arg1)) k r) (fun q => rd2 (n := 1) (k := 4096) (V m c main_v0) 0 q) (fun q => rd2 (n := 1) (k := 4096) (V m c main_v1) 0 q) (t.val * 256 + a) b) (fun a b => by rw [out5_at, pay_blk]) y _ _ rfl rfl
  blk_simp
  rw [hy, e]
  refine congr (congrArg (lnr _ _ _ _) ?_) ?_ <;> simp

theorem row_at (x : Vec Ideal S4096 .f32) (q : Fin 4096) : shapeCast S1x4096 x shapeCasts_S4096_S1x4096 (ix2 0 q) = x (ix1 q) := by
  pointwise

theorem w_s (q : Fin 4096) : V m c main_v0 (ix2 0 q) = (m ((c : Thread nD τ).loc main_arg2)) (ix1 q) := by
  have h : V m c main_v0 = shapeCast S1x4096 (m ((c : Thread nD τ).loc main_arg2)) shapeCasts_S4096_S1x4096 := by
    change StableHlo.after hostOps0 (fun b => m (c, b)) _ = _
    simp only [hostOps0]
    after_results
    rfl
  rw [h]
  exact row_at _ q

theorem w_h (q : Fin 4096) : V m c main_v1 (ix2 0 q) = (m ((c : Thread nD τ).loc main_arg3)) (ix1 q) := by
  have h : V m c main_v1 = shapeCast S1x4096 (m ((c : Thread nD τ).loc main_arg3)) shapeCasts_S4096_S1x4096 := by
    change StableHlo.after hostOps0 (fun b => m (c, b)) _ = _
    simp only [hostOps0]
    after_results
    rfl
  rw [h]
  exact row_at _ q

/-- The normed stream. -/
def stream : ℕ → ℕ → EReal := lnr (rd2 (n := 16384) (k := 4096) (m ((c : Thread nD τ).loc main_arg0))) (fun r k => rd2 (n := 4096) (k := 16384) (m ((c : Thread nD τ).loc main_arg1)) k r) (rd1 (n := 4096) (m ((c : Thread nD τ).loc main_arg2))) (rd1 (n := 4096) (m ((c : Thread nD τ).loc main_arg3)))

/-- The run: the results and the arguments. -/
theorem run : θ_run defs (onTc (τ := τ) (main (F := Ideal))) ⟨m, fun _ => 0, ρ⟩ fun r => ∀ c : Dev nD,
      r.2.mem ((c.tc : Thread nD τ).loc main_v2_0) = (fun i => stream m c (i 0).val (i 1).val)
      ∧ r.2.mem ((c.tc : Thread nD τ).loc main_v2_1) = (fun i => stream m c (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans ((norm4 m c).trans (by rw [rd_row (w_s m c), rd_row (w_h m c)]; rfl)),
    (h c).2.1.trans ((norm5 m c).trans (by rw [rd_row (w_s m c), rd_row (w_h m c)]; rfl)), (h c).2.2⟩) (Value.run_blocks m ρ)

end Cert.Kernel5Ideal.Blk

end
-- ==== Proof.RefNorm2.lean ====
/- The norm of the scaled stream plus a branch: the reference's result at an index. -/
module

public import proofs.«01_k».proof.Proof.Gen.Reference5Ideal.Run
public import proofs.«01_k».proof.Proof.Mm
public import Idealize.ShloMosaic.Lib.Pointwise

@[expose] public section

set_option maxRecDepth 16384

noncomputable section

namespace Cert.Reference5Ideal.Norm

open Cert.Reference5Ideal Cert.Reference5Ideal.Gen Idealize.ShloMosaic Idealize.ShloMosaic.TcCoe Idealize.SL.Sem Cert.Ssd

/-- The stream before its norm. -/
theorem sum_at (h : FVec Ideal S16384x4096 .f32) (f : FVec Ideal S4096x16384 .f32) (r : Fin 16384) (q : Fin 4096) :
    (addf (mulf (broadcastInDim S16384x4096 ![] bcast_S_S16384x4096 (constant S_ .f32 0x3FB504F3#32)) h) (transpose S16384x4096 [1, 0] f transposes_S4096x16384_S16384x4096_1_0)) (ix2 r q)
      = Ideal.ofBits .f32 0x3FB504F3#32 * rd2 (n := 16384) (k := 4096) h r.val q.val + (fun r k => rd2 (n := 4096) (k := 16384) f k r) r.val q.val := by
  pointwise
  exact congr (congrArg _ (congrArg _ (rd2_ix (n := 16384) (k := 4096) h r q))) (rd2_ix (n := 4096) (k := 16384) f q r)

/-- A row's norm. -/
theorem row_at (s : FVec Ideal S16384x4096 .f32) (g b : FVec Ideal S4096 .f32) {a : ℕ → ℕ → EReal} (hs : ∀ (r : Fin 16384) (q : Fin 4096), s (ix2 r q) = a r.val q.val) (r : Fin 16384) (q : Fin 4096) :
    (addf (mulf (mulf (subf s (broadcastInDim S16384x4096 ![0, 1] bcast_S16384x1_S16384x4096_0_1 (Host.divf (broadcastInDim S16384x1 ![0] bcast_S16384_S16384x1_0 (Host.reduceAdd s (constant S_ .f32 0x00000000#32) reducesTo_S16384x4096_S16384_d1 h_S_)) (broadcastInDim S16384x1 ![] bcast_S_S16384x1 (constant S_ .f32 0x45800000#32))))) (broadcastInDim S16384x4096 ![0, 1] bcast_S16384x1_S16384x4096_0_1 (Host.rsqrt (addf (Host.divf (broadcastInDim S16384x1 ![0] bcast_S16384_S16384x1_0 (Host.reduceAdd (mulf (subf s (broadcastInDim S16384x4096 ![0, 1] bcast_S16384x1_S16384x4096_0_1 (Host.divf (broadcastInDim S16384x1 ![0] bcast_S16384_S16384x1_0 (Host.reduceAdd s (constant S_ .f32 0x00000000#32) reducesTo_S16384x4096_S16384_d1 h_S_)) (broadcastInDim S16384x1 ![] bcast_S_S16384x1 (constant S_ .f32 0x45800000#32))))) (subf s (broadcastInDim S16384x4096 ![0, 1] bcast_S16384x1_S16384x4096_0_1 (Host.divf (broadcastInDim S16384x1 ![0] bcast_S16384_S16384x1_0 (Host.reduceAdd s (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 g))) (broadcastInDim S16384x4096 ![0, 1] bcast_S1x4096_S16384x4096_0_1 (broadcastInDim S1x4096 ![1] bcast_S4096_S1x4096_1 b))) (ix2 r q)
      = ln (a r.val) (rd1 (n := 4096) g) (rd1 (n := 4096) b) q.val := by
  pointwise
  simp only [hs]
  exact congr (congrArg _ (congrArg _ (rd1_ix (n := 4096) g q))) (rd1_ix (n := 4096) b q)

theorem norm_at (h : FVec Ideal S16384x4096 .f32) (f : FVec Ideal S4096x16384 .f32) (g b : FVec Ideal S4096 .f32) (r : Fin 16384) (q : Fin 4096) :
    (addf (mulf (mulf (subf (addf (mulf (broadcastInDim S16384x4096 ![] bcast_S_S16384x4096 (constant S_ .f32 0x3FB504F3#32)) h) (transpose S16384x4096 [1, 0] f transposes_S4096x16384_S16384x4096_1_0)) (broadcastInDim S16384x4096 ![0, 1] bcast_S16384x1_S16384x4096_0_1 (Host.divf (broadcastInDim S16384x1 ![0] bcast_S16384_S16384x1_0 (Host.reduceAdd (addf (mulf (broadcastInDim S16384x4096 ![] bcast_S_S16384x4096 (constant S_ .f32 0x3FB504F3#32)) h) (transpose S16384x4096 [1, 0] f transposes_S4096x16384_S16384x4096_1_0)) (constant S_ .f32 0x00000000#32) reducesTo_S16384x4096_S16384_d1 h_S_)) (broadcastInDim S16384x1 ![] bcast_S_S16384x1 (constant S_ .f32 0x45800000#32))))) (broadcastInDim S16384x4096 ![0, 1] bcast_S16384x1_S16384x4096_0_1 (Host.rsqrt (addf (Host.divf (broadcastInDim S16384x1 ![0] bcast_S16384_S16384x1_0 (Host.reduceAdd (mulf (subf (addf (mulf (broadcastInDim S16384x4096 ![] bcast_S_S16384x4096 (constant S_ .f32 0x3FB504F3#32)) h) (transpose S16384x4096 [1, 0] f transposes_S4096x16384_S16384x4096_1_0)) (broadcastInDim S16384x4096 ![0, 1] bcast_S16384x1_S16384x4096_0_1 (Host.divf (broadcastInDim S16384x1 ![0] bcast_S16384_S16384x1_0 (Host.reduceAdd (addf (mulf (broadcastInDim S16384x4096 ![] bcast_S_S16384x4096 (constant S_ .f32 0x3FB504F3#32)) h) (transpose S16384x4096 [1, 0] f transposes_S4096x16384_S16384x4096_1_0)) (constant S_ .f32 0x00000000#32) reducesTo_S16384x4096_S16384_d1 h_S_)) (broadcastInDim S16384x1 ![] bcast_S_S16384x1 (constant S_ .f32 0x45800000#32))))) (subf (addf (mulf (broadcastInDim S16384x4096 ![] bcast_S_S16384x4096 (constant S_ .f32 0x3FB504F3#32)) h) (transpose S16384x4096 [1, 0] f transposes_S4096x16384_S16384x4096_1_0)) (broadcastInDim S16384x4096 ![0, 1] bcast_S16384x1_S16384x4096_0_1 (Host.divf (broadcastInDim S16384x1 ![0] bcast_S16384_S16384x1_0 (Host.reduceAdd (addf (mulf (broadcastInDim S16384x4096 ![] bcast_S_S16384x4096 (constant S_ .f32 0x3FB504F3#32)) h) (transpose S16384x4096 [1, 0] f transposes_S4096x16384_S16384x4096_1_0)) (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 g))) (broadcastInDim S16384x4096 ![0, 1] bcast_S1x4096_S16384x4096_0_1 (broadcastInDim S1x4096 ![1] bcast_S4096_S1x4096_1 b))) (ix2 r q)
      = lnr (rd2 (n := 16384) (k := 4096) h) (fun r k => rd2 (n := 4096) (k := 16384) f k r) (rd1 (n := 4096) g) (rd1 (n := 4096) b) r.val q.val :=
  row_at _ g b (a := fun r q => Ideal.ofBits .f32 0x3FB504F3#32 * rd2 (n := 16384) (k := 4096) h r q + (fun r k => rd2 (n := 4096) (k := 16384) f k r) r q) (sum_at h f) r q

theorem as_fn {X : FVec Ideal S16384x4096 .f32} {a : ℕ → ℕ → EReal} (hX : ∀ (r : Fin 16384) (q : Fin 4096), X (ix2 r q) = a r.val q.val) :
    X = fun i => a (i 0).val (i 1).val := by
  funext i
  exact two_of hX i _ _ rfl rfl

theorem as_bf {X : FVec Ideal S16384x4096 .f32} {a : ℕ → ℕ → EReal} (hX : ∀ (r : Fin 16384) (q : Fin 4096), X (ix2 r q) = a r.val q.val) :
    truncf .bf16 X bitsLt_bf16_f32 = fun i => a (i 0).val (i 1).val :=
  as_fn hX

end Cert.Reference5Ideal.Norm

end
-- ==== Proof.Claim5.lean ====
/- A layer's second norm: the kernels' results are the reference's. -/
module

public import proofs.«01_k».proof.Defs
public import proofs.«01_k».proof.Proof.Norm2
public import proofs.«01_k».proof.Proof.RefNorm2
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.Ssd Cert.Kernel5Ideal.Blk Cert.Reference5Ideal

theorem algebraic5 : Cert.algebraic_Kernel5Ideal_Reference5Ideal := by
  intro m g m' g' hpre hagree
  refine ⟨fun c => (fun i => stream m c (i 0).val (i 1).val), fun c => (fun i => stream m c (i 0).val (i 1).val), run m g, ?_⟩
  refine (θ_run Cert.Reference5Ideal.defs _ _).mono (fun r h c => ⟨(h c).1.trans ?_, (h c).2.1.trans ?_, (h c).2.2⟩) (Value.run (F := Ideal) m' g')
  all_goals
    obtain ⟨h0, h1, h2, h3⟩ := hagree c
    rw [h0, h1, h2, h3]
  · exact Norm.as_fn (a := stream m c) (Norm.norm_at _ _ _ _)
  · exact Norm.as_bf (a := stream m c) (Norm.norm_at _ _ _ _)

/-- The reference's frame: its run leaves the arguments; it declares no semaphore. -/
theorem frame_reference5 : Cert.quiescent_Reference5Ideal := fun m ρ _ =>
  (θ_run Cert.Reference5Ideal.defs _ _).mono (fun r h => And.intro (fun c => (h c).2.2) (Idealize.ShloMosaic.sem_eq_zero_of_no_sems (by decide) r.2))
    (Value.run (F := Ideal) m ρ)

end Cert.Proof

end
-- ==== Proof.Norm0.lean ====
/- What the call of the embeddings' norm leaves in its result arrays, and the run. -/
module

public import proofs.«01_k».proof.Proof.Gen.Kernel6Ideal.Value
public import proofs.«01_k».proof.Proof.Mm
public import Idealize.ShloMosaic.Lib.Pipeline.ValueKit
public import Idealize.ShloMosaic.Lib.Pointwise

@[expose] public section

set_option maxRecDepth 16384

noncomputable section

namespace Cert.Kernel6Ideal.Blk

open Cert.Kernel6Ideal Cert.Kernel6Ideal.Gen Idealize.ShloMosaic Idealize.ShloMosaic.TcCoe Idealize.SL.Sem Cert.Ssd
open Idealize.ShloMosaic.Pipeline (Dat)

variable (m : (ℓ : Loc nD τ sig) → Buf (Elt Ideal) ℓ) (ρ : Dev nD → PrngReg) (c : Dev nD)

/-- The blocks that a point of the norm stages. -/
theorem idx0 : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The body's result at an index, from readers of its blocks. -/
theorem pay_at (x0 : Vec Ideal S256x4096 .f32) (x1 x2 : Vec Ideal S1x4096 .f32) {h : ℕ → ℕ → EReal} {g b : ℕ → EReal}
    (h0 : ∀ (l : Fin 256) (k : Fin 4096), x0 (ix2 l k) = h l.val k.val)
    (h1 : ∀ q : Fin 4096, x1 (ix2 0 q) = g q.val) (h2 : ∀ q : Fin 4096, x2 (ix2 0 q) = b q.val) (l : Fin 256) (q : Fin 4096) :
    k0_pay1 x0 x1 x2 (ix2 l q) = ln (h l.val) g b q.val := by
  pointwise [k0_pay1]
  simp only [h0, h1, h2]
  rfl

theorem out3_at (x0 : Vec Ideal S256x4096 .f32) (x1 x2 : Vec Ideal S1x4096 .f32) (l : Fin 256) (q : Fin 4096) :
    out0_3 x0 x1 x2 (ix2 l q) = k0_pay1 x0 x1 x2 (ix2 l q) := by
  frame_out

theorem out4_at (x0 : Vec Ideal S256x4096 .f32) (x1 x2 : Vec Ideal S1x4096 .f32) (l : Fin 256) (q : Fin 4096) :
    out0_4 x0 x1 x2 (ix2 l q) = k0_pay1 x0 x1 x2 (ix2 l q) := by
  frame_out
  pointwise [k0_pay2]

/-- The body's result at a point. -/
theorem pay_blk (t : Fin cfg0.N) (l : Fin 256) (q : Fin 4096) : k0_pay1 (iblk m c 0 t) (iblk m c 1 t) (iblk m c 2 t) (ix2 l q)
    = ln ((rd2 (n := 16384) (k := 4096) (V m c main_v0)) (t.val * 256 + l.val)) (fun q => rd2 (n := 1) (k := 4096) (V m c main_v1) 0 q) (fun q => rd2 (n := 1) (k := 4096) (V m c main_v2) 0 q) q.val := by
  have ht : t.val < 64 := lt_of_lt_of_eq t.isLt N_0
  obtain ⟨e0, e1, e2, -⟩ := idx0 t
  have b0 : ∀ (l : Fin 256) (k : Fin 4096), iblk m c 0 t (ix2 l k) = rd2 (n := 16384) (k := 4096) (V m c main_v0) (t.val * 256 + l.val) k.val := by
    intro l k
    blk_simp [iblk]
    refine two_of (fun a b => rd2_ix _ a b) _ _ _ ?_ ?_
    all_goals
      blk_simp [e0]
      try omega
  have b1 : ∀ q : Fin 4096, iblk m c 1 t (ix2 0 q) = rd2 (n := 1) (k := 4096) (V m c main_v1) 0 q.val := by
    intro q
    blk_simp [iblk]
    refine two_of (fun a b => rd2_ix _ a b) _ _ _ ?_ ?_
    all_goals
      blk_simp [e1]
      try omega
  have b2 : ∀ q : Fin 4096, iblk m c 2 t (ix2 0 q) = rd2 (n := 1) (k := 4096) (V m c main_v2) 0 q.val := by
    intro q
    blk_simp [iblk]
    refine two_of (fun a b => rd2_ix _ a b) _ _ _ ?_ ?_
    all_goals
      blk_simp [e2]
      try omega
  exact pay_at _ _ _ (h := fun l k => (rd2 (n := 16384) (k := 4096) (V m c main_v0)) (t.val * 256 + l) k) (g := (fun q => rd2 (n := 1) (k := 4096) (V m c main_v1) 0 q)) (b := (fun q => rd2 (n := 1) (k := 4096) (V m c main_v2) 0 q)) b0 b1 b2 l q

theorem norm3 : (dats m 0 c).arrAt 3 cfg0.N = fun i => ln ((rd2 (n := 16384) (k := 4096) (V m c main_v0)) (i 0).val) (fun q => rd2 (n := 1) (k := 4096) (V m c main_v1) 0 q) (fun q => rd2 (n := 1) (k := 4096) (V m c main_v2) 0 q) (i 1).val := by
  refine (dats m 0 c).arrAt_eq_of_covers 3 _ (by decide +kernel) fun t _ y => ?_
  have ht : t.val < 64 := lt_of_lt_of_eq t.isLt N_0
  have e := (idx0 t).2.2.2.1
  rw [after0_3]
  have hy : ∀ y : S256x4096.Idx, out0_3 (iblk m c 0 t) (iblk m c 1 t) (iblk m c 2 t) y = ln ((rd2 (n := 16384) (k := 4096) (V m c main_v0)) (t.val * 256 + (y 0).val)) (fun q => rd2 (n := 1) (k := 4096) (V m c main_v1) 0 q) (fun q => rd2 (n := 1) (k := 4096) (V m c main_v2) 0 q) (y 1).val :=
    fun y => two_of (f := fun a b => ln ((rd2 (n := 16384) (k := 4096) (V m c main_v0)) (t.val * 256 + a)) (fun q => rd2 (n := 1) (k := 4096) (V m c main_v1) 0 q) (fun q => rd2 (n := 1) (k := 4096) (V m c main_v2) 0 q) b) (fun a b => by rw [out3_at, pay_blk]) y _ _ rfl rfl
  blk_simp
  rw [hy, e]
  refine congr (congrArg (fun s => ln s _ _) (congrArg _ ?_)) ?_ <;> simp

theorem norm4 : (dats m 0 c).arrAt 4 cfg0.N = fun i => ln ((rd2 (n := 16384) (k := 4096) (V m c main_v0)) (i 0).val) (fun q => rd2 (n := 1) (k := 4096) (V m c main_v1) 0 q) (fun q => rd2 (n := 1) (k := 4096) (V m c main_v2) 0 q) (i 1).val := by
  refine (dats m 0 c).arrAt_eq_of_covers 4 _ (by decide +kernel) fun t _ y => ?_
  have ht : t.val < 64 := lt_of_lt_of_eq t.isLt N_0
  have e := (idx0 t).2.2.2.2
  rw [after0_4]
  have hy : ∀ y : S256x4096.Idx, out0_4 (iblk m c 0 t) (iblk m c 1 t) (iblk m c 2 t) y = ln ((rd2 (n := 16384) (k := 4096) (V m c main_v0)) (t.val * 256 + (y 0).val)) (fun q => rd2 (n := 1) (k := 4096) (V m c main_v1) 0 q) (fun q => rd2 (n := 1) (k := 4096) (V m c main_v2) 0 q) (y 1).val :=
    fun y => two_of (f := fun a b => ln ((rd2 (n := 16384) (k := 4096) (V m c main_v0)) (t.val * 256 + a)) (fun q => rd2 (n := 1) (k := 4096) (V m c main_v1) 0 q) (fun q => rd2 (n := 1) (k := 4096) (V m c main_v2) 0 q) b) (fun a b => by rw [out4_at, pay_blk]) y _ _ rfl rfl
  blk_simp
  rw [hy, e]
  refine congr (congrArg (fun s => ln s _ _) (congrArg _ ?_)) ?_ <;> simp

theorem row_at (x : Vec Ideal S4096 .f32) (q : Fin 4096) : shapeCast S1x4096 x shapeCasts_S4096_S1x4096 (ix2 0 q) = x (ix1 q) := by
  pointwise

theorem w_s (q : Fin 4096) : V m c main_v1 (ix2 0 q) = (m ((c : Thread nD τ).loc main_arg1)) (ix1 q) := by
  have h : V m c main_v1 = shapeCast S1x4096 (m ((c : Thread nD τ).loc main_arg1)) shapeCasts_S4096_S1x4096 := by
    change StableHlo.after hostOps0 (fun b => m (c, b)) _ = _
    simp only [hostOps0]
    after_results
    rfl
  rw [h]
  exact row_at _ q

theorem w_h (q : Fin 4096) : V m c main_v2 (ix2 0 q) = (m ((c : Thread nD τ).loc main_arg2)) (ix1 q) := by
  have h : V m c main_v2 = shapeCast S1x4096 (m ((c : Thread nD τ).loc main_arg2)) shapeCasts_S4096_S1x4096 := by
    change StableHlo.after hostOps0 (fun b => m (c, b)) _ = _
    simp only [hostOps0]
    after_results
    rfl
  rw [h]
  exact row_at _ q

/-- The embeddings, row by row. -/
theorem w_x : V m c main_v0 = shapeCast S16384x4096 (m ((c : Thread nD τ).loc main_arg0)) shapeCasts_S2x8192x4096_S16384x4096 := by
  change StableHlo.after hostOps0 (fun b => m (c, b)) _ = _
  simp only [hostOps0]
  after_results
  rfl

/-- The normed stream. -/
def stream (r q : ℕ) : EReal := ln (rd2 (n := 16384) (k := 4096) (shapeCast S16384x4096 (m ((c : Thread nD τ).loc main_arg0)) shapeCasts_S2x8192x4096_S16384x4096) r) (rd1 (n := 4096) (m ((c : Thread nD τ).loc main_arg1))) (rd1 (n := 4096) (m ((c : Thread nD τ).loc main_arg2))) q

/-- The run: the results and the arguments. -/
theorem run : θ_run defs (onTc (τ := τ) (main (F := Ideal))) ⟨m, fun _ => 0, ρ⟩ fun r => ∀ c : Dev nD,
      r.2.mem ((c.tc : Thread nD τ).loc main_v3_0) = (fun i => stream m c (i 0).val (i 1).val)
      ∧ r.2.mem ((c.tc : Thread nD τ).loc main_v3_1) = (fun i => stream m c (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans ((norm3 m c).trans (by rw [rd_row (w_s m c), rd_row (w_h m c), w_x]; rfl)),
    (h c).2.1.trans ((norm4 m c).trans (by rw [rd_row (w_s m c), rd_row (w_h m c), w_x]; rfl)), (h c).2.2⟩) (Value.run_blocks m ρ)

end Cert.Kernel6Ideal.Blk

end
-- ==== Proof.RefNorm0.lean ====
/- The norm of the embeddings: the reference's result at an index. -/
module

public import proofs.«01_k».proof.Proof.Gen.Reference6Ideal.Run
public import proofs.«01_k».proof.Proof.Mm
public import Idealize.ShloMosaic.Lib.Pointwise

@[expose] public section

set_option maxRecDepth 16384

noncomputable section

namespace Cert.Reference6Ideal.Norm

open Cert.Reference6Ideal Cert.Reference6Ideal.Gen Idealize.ShloMosaic Idealize.ShloMosaic.TcCoe Idealize.SL.Sem Cert.Ssd

/-- A row's norm. -/
theorem row_at (s : FVec Ideal S16384x4096 .f32) (g b : FVec Ideal S4096 .f32) {a : ℕ → ℕ → EReal} (hs : ∀ (r : Fin 16384) (q : Fin 4096), s (ix2 r q) = a r.val q.val) (r : Fin 16384) (q : Fin 4096) :
    (addf (mulf (mulf (subf s (broadcastInDim S16384x4096 ![0, 1] bcast_S16384x1_S16384x4096_0_1 (Host.divf (broadcastInDim S16384x1 ![0] bcast_S16384_S16384x1_0 (Host.reduceAdd s (constant S_ .f32 0x00000000#32) reducesTo_S16384x4096_S16384_d1 h_S_)) (broadcastInDim S16384x1 ![] bcast_S_S16384x1 (constant S_ .f32 0x45800000#32))))) (broadcastInDim S16384x4096 ![0, 1] bcast_S16384x1_S16384x4096_0_1 (Host.rsqrt (addf (Host.divf (broadcastInDim S16384x1 ![0] bcast_S16384_S16384x1_0 (Host.reduceAdd (mulf (subf s (broadcastInDim S16384x4096 ![0, 1] bcast_S16384x1_S16384x4096_0_1 (Host.divf (broadcastInDim S16384x1 ![0] bcast_S16384_S16384x1_0 (Host.reduceAdd s (constant S_ .f32 0x00000000#32) reducesTo_S16384x4096_S16384_d1 h_S_)) (broadcastInDim S16384x1 ![] bcast_S_S16384x1 (constant S_ .f32 0x45800000#32))))) (subf s (broadcastInDim S16384x4096 ![0, 1] bcast_S16384x1_S16384x4096_0_1 (Host.divf (broadcastInDim S16384x1 ![0] bcast_S16384_S16384x1_0 (Host.reduceAdd s (constant S_ .f32 0x00000000#32) reducesTo_S16384x4096_S16384_d1 h_S_)) (broadcastInDim S16384x1 ![] bcast_S_S16384x1 (constant S_ .f32 0x45800000#32)))))) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x3727C5AC#32)))))) (broadcastInDim S16384x4096 ![0, 1] bcast_S1x4096_S16384x4096_0_1 (broadcastInDim S1x4096 ![1] bcast_S4096_S1x4096_1 g))) (broadcastInDim S16384x4096 ![0, 1] bcast_S1x4096_S16384x4096_0_1 (broadcastInDim S1x4096 ![1] bcast_S4096_S1x4096_1 b))) (ix2 r q)
      = ln (a r.val) (rd1 (n := 4096) g) (rd1 (n := 4096) b) q.val := by
  pointwise
  simp only [hs]
  exact congr (congrArg _ (congrArg _ (rd1_ix (n := 4096) g q))) (rd1_ix (n := 4096) b q)

theorem as_fn {X : FVec Ideal S16384x4096 .f32} {a : ℕ → ℕ → EReal} (hX : ∀ (r : Fin 16384) (q : Fin 4096), X (ix2 r q) = a r.val q.val) :
    X = fun i => a (i 0).val (i 1).val := by
  funext i
  exact two_of hX i _ _ rfl rfl

theorem as_bf {X : FVec Ideal S16384x4096 .f32} {a : ℕ → ℕ → EReal} (hX : ∀ (r : Fin 16384) (q : Fin 4096), X (ix2 r q) = a r.val q.val) :
    truncf .bf16 X bitsLt_bf16_f32 = fun i => a (i 0).val (i 1).val :=
  as_fn hX

end Cert.Reference6Ideal.Norm

end
-- ==== Proof.Claim6.lean ====
/- The embeddings' norm: the kernels' results are the reference's. -/
module

public import proofs.«01_k».proof.Defs
public import proofs.«01_k».proof.Proof.Norm0
public import proofs.«01_k».proof.Proof.RefNorm0
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.Ssd Cert.Kernel6Ideal.Blk Cert.Reference6Ideal

theorem algebraic6 : Cert.algebraic_Kernel6Ideal_Reference6Ideal := by
  intro m g m' g' hpre hagree
  refine ⟨fun c => (fun i => stream m c (i 0).val (i 1).val), fun c => (fun i => stream m c (i 0).val (i 1).val), run m g, ?_⟩
  refine (θ_run Cert.Reference6Ideal.defs _ _).mono (fun r h c => ⟨(h c).1.trans ?_, (h c).2.1.trans ?_, (h c).2.2⟩) (Value.run (F := Ideal) m' g')
  all_goals
    obtain ⟨h0, h1, h2⟩ := hagree c
    rw [h0, h1, h2]
  · exact Norm.as_fn (a := stream m c) (Norm.row_at _ _ _ fun r q => rd2_ix _ r q)
  · exact Norm.as_bf (a := stream m c) (Norm.row_at _ _ _ fun r q => rd2_ix _ r q)

/-- The reference's frame: its run leaves the arguments; it declares no semaphore. -/
theorem frame_reference6 : Cert.quiescent_Reference6Ideal := fun m ρ _ =>
  (θ_run Cert.Reference6Ideal.defs _ _).mono (fun r h => And.intro (fun c => (h c).2.2) (Idealize.ShloMosaic.sem_eq_zero_of_no_sems (by decide) r.2))
    (Value.run (F := Ideal) m ρ)

end Cert.Proof

end
-- ==== Proof.Keys.lean ====
/- Queries against keys, read at natural coordinates. -/
module

public import proofs.«01_k».proof.Proof.Mm

@[expose] public section

noncomputable section

open Idealize.ShloMosaic

namespace Cert.Ssd

/-- An array of three axes, read at natural coordinates (zero outside). -/
def rd3 {n k l : ℕ} (X : (⟨3, ![n, k, l]⟩ : Shape).Idx → EReal) (a b c : ℕ) : EReal :=
  if h : a < n ∧ b < k ∧ c < l then X (ix3 ⟨a, h.1⟩ ⟨b, h.2.1⟩ ⟨c, h.2.2⟩) else 0

theorem rd3_of {n k l : ℕ} (X : (⟨3, ![n, k, l]⟩ : Shape).Idx → EReal) (i : (⟨3, ![n, k, l]⟩ : Shape).Idx) (a b c : ℕ)
    (ha : (i 0).val = a) (hb : (i 1).val = b) (hc : (i 2).val = c) : X i = rd3 X a b c := by
  subst ha hb hc
  unfold rd3
  rw [dif_pos ⟨(i 0).isLt, (i 1).isLt, (i 2).isLt⟩]
  refine congrArg X (funext fun a => ?_)
  match a with
  | ⟨0, _⟩ => rfl
  | ⟨1, _⟩ => rfl
  | ⟨2, _⟩ => rfl

/-- Head `h`'s key `n` of the first (`s = 0`) or second set, against the half `s` of that head's query of row `t`. -/
def score (q : ℕ → ℕ → EReal) (k1 k2 : ℕ → ℕ → ℕ → EReal) (h s n t : ℕ) : EReal :=
  ∑ d : Fin 128, (if s = 0 then k1 h n d.val else k2 h n d.val) * q t (h * 256 + s * 128 + d.val)

end Cert.Ssd

end
-- ==== Proof.Scores.lean ====
/- What the call of the channel mixer's scores leaves in its result array, and the run. -/
module

public import proofs.«01_k».proof.Proof.Gen.Kernel7Ideal.Value
public import proofs.«01_k».proof.Proof.Keys
public import Idealize.ShloMosaic.Lib.Pipeline.ValueKit
public import Idealize.ShloMosaic.Lib.Pointwise

@[expose] public section

set_option maxRecDepth 16384

noncomputable section

namespace Cert.Kernel7Ideal.Blk

open Cert.Kernel7Ideal Cert.Kernel7Ideal.Gen Idealize.ShloMosaic Idealize.ShloMosaic.TcCoe Idealize.SL.Sem Cert.Ssd
open Idealize.ShloMosaic.Pipeline (Dat)

variable (m : (ℓ : Loc nD τ sig) → Buf (Elt Ideal) ℓ) (ρ : Dev nD → PrngReg) (c : Dev nD)

/-- The blocks that a point of the call stages. -/
theorem idx0 : ∀ t : Fin cfg0.N, win0_0.index t = ![t.val / 8, t.val % 8] ∧ win0_1.index t = ![t.val % 8, 0, 0] ∧ win0_2.index t = ![t.val % 8, 0, 0]
    ∧ win0_3.index t = ![t.val % 8, 0, 0, t.val / 8] :=
  (by decide +kernel : ∀ t : Fin grid0.N, _)

theorem ix_one (x : S1x1x128x1024.Idx) (n : Fin 128) (l : Fin 1024) (hn : (x 2).val = n.val) (hl : (x 3).val = l.val) : x = ix4 0 0 n l := by
  have b0 : (x 0).val < 1 := (x 0).isLt
  have b1 : (x 1).val < 1 := (x 1).isLt
  funext a
  match a with
  | ⟨0, _⟩ => exact Fin.ext (Nat.lt_one_iff.mp b0)
  | ⟨1, _⟩ => exact Fin.ext (Nat.lt_one_iff.mp b1)
  | ⟨2, _⟩ => exact Fin.ext hn
  | ⟨3, _⟩ => exact Fin.ext hl

theorem pay1_at (x0 : Vec Ideal S1024x256 .bf16) (x1 : Vec Ideal S1x128x128 .bf16) (x : S1x1x128x1024.Idx) (n : Fin 128) (l : Fin 1024) (hn : (x 2).val = n.val) (hl : (x 3).val = l.val) :
    k0_pay1 x0 x1 x = ∑ k : Fin 128, x1 (ix3 0 n k) * x0 (ix2 l ⟨k.val, by omega⟩) := by
  rw [ix_one x n l hn hl]
  pointwise [k0_pay1]

theorem pay2_at (x0 : Vec Ideal S1024x256 .bf16) (x1 : Vec Ideal S1x128x128 .bf16) (x : S1x1x128x1024.Idx) (n : Fin 128) (l : Fin 1024) (hn : (x 2).val = n.val) (hl : (x 3).val = l.val) :
    k0_pay2 x0 x1 x = ∑ k : Fin 128, x1 (ix3 0 n k) * x0 (ix2 l ⟨128 + k.val, by omega⟩) := by
  rw [ix_one x n l hn hl]
  pointwise [k0_pay2]

/-- The two halves of the block that the body writes, from readers of what it loads. -/
theorem out_at (x0 : Vec Ideal S1024x256 .bf16) (x1 x2 : Vec Ideal S1x128x128 .bf16) {q : ℕ → ℕ → EReal} {k1 k2 : ℕ → ℕ → ℕ → EReal} {h r : ℕ}
    (h0 : ∀ (l : Fin 1024) (k : Fin 256), x0 (ix2 l k) = q (r + l.val) (h * 256 + k.val))
    (h1 : ∀ n k : Fin 128, x1 (ix3 0 n k) = k1 h n.val k.val) (h2 : ∀ n k : Fin 128, x2 (ix3 0 n k) = k2 h n.val k.val) (y : S1x2x128x1024.Idx) :
    out0_3 x0 x1 x2 y = score q k1 k2 h (y 1).val (y 2).val (r + (y 3).val) := by
  frame_out
  refine View.canon_eq_of_allAt _ y _ (cover0_3 _ _ y) (View.allAt_cons_unit _ _ _ _ _ (fun x hx => ?_) (View.allAt_cons_unit _ _ _ _ _ (fun x hx => ?_) ?_))
  · have a1 : (y 1).val = 1 + (x 1).val := hx 1
    have a2 : (y 2).val = 0 + (x 2).val := hx 2
    have a3 : (y 3).val = 0 + (x 3).val := hx 3
    have b1 : (x 1).val < 1 := (x 1).isLt
    refine (pay2_at _ _ x ⟨(x 2).val, (x 2).isLt⟩ ⟨(x 3).val, (x 3).isLt⟩ rfl rfl).trans ?_
    rw [show (y 1).val = 1 by omega, show (y 2).val = (x 2).val by omega, show (y 3).val = (x 3).val by omega]
    refine Finset.sum_congr rfl fun k _ => ?_
    rw [h2, h0, if_neg Nat.one_ne_zero]
    refine congrArg (fun z : ℕ => k2 h (x 2).val k.val * q (r + (x 3).val) z) ?_
    show h * 256 + (128 + k.val) = h * 256 + 1 * 128 + k.val
    omega
  · have a1 : (y 1).val = 0 + (x 1).val := hx 1
    have a2 : (y 2).val = 0 + (x 2).val := hx 2
    have a3 : (y 3).val = 0 + (x 3).val := hx 3
    have b1 : (x 1).val < 1 := (x 1).isLt
    refine (pay1_at _ _ x ⟨(x 2).val, (x 2).isLt⟩ ⟨(x 3).val, (x 3).isLt⟩ rfl rfl).trans ?_
    rw [show (y 1).val = 0 by omega, show (y 2).val = (x 2).val by omega, show (y 3).val = (x 3).val by omega]
    refine Finset.sum_congr rfl fun k _ => ?_
    rw [h1, h0, if_pos rfl]
    refine congrArg (fun z : ℕ => k1 h (x 2).val k.val * q (r + (x 3).val) z) ?_
    show h * 256 + k.val = h * 256 + 0 * 128 + k.val
    omega
  · intro p hp
    exact absurd hp List.not_mem_nil

/-- The array of scores. -/
theorem fin0 : (dats m 0 c).arrAt 3 cfg0.N = fun i => score (rd2 (n := 16384) (k := 2048) (m ((c : Thread nD τ).loc main_arg0))) (rd3 (n := 8) (k := 128) (l := 128) (V m c main_v0)) (rd3 (n := 8) (k := 128) (l := 128) (V m c main_v1)) (i 0).val (i 1).val (i 2).val (i 3).val := by
  refine (dats m 0 c).arrAt_eq_of_covers 3 _ (by decide +kernel) fun t _ y => ?_
  have ht : t.val < 128 := lt_of_lt_of_eq t.isLt N_0
  obtain ⟨e0, e1, e2, e3⟩ := idx0 t
  have b0 : ∀ (l : Fin 1024) (k : Fin 256), iblk m c 0 t (ix2 l k) = (rd2 (n := 16384) (k := 2048) (m ((c : Thread nD τ).loc main_arg0))) (t.val / 8 * 1024 + l.val) (t.val % 8 * 256 + k.val) := by
    intro l k
    blk_simp [iblk, V_main_arg0]
    refine two_of (fun a b => rd2_ix _ a b) _ _ _ ?_ ?_
    all_goals
      blk_simp [e0]
      try omega
  have b1 : ∀ n k : Fin 128, iblk m c 1 t (ix3 0 n k) = (rd3 (n := 8) (k := 128) (l := 128) (V m c main_v0)) (t.val % 8) n.val k.val := by
    intro n k
    blk_simp [iblk]
    refine rd3_of _ _ _ _ _ ?_ ?_ ?_
    all_goals
      blk_simp [e1]
      try omega
  have b2 : ∀ n k : Fin 128, iblk m c 2 t (ix3 0 n k) = (rd3 (n := 8) (k := 128) (l := 128) (V m c main_v1)) (t.val % 8) n.val k.val := by
    intro n k
    blk_simp [iblk]
    refine rd3_of _ _ _ _ _ ?_ ?_ ?_
    all_goals
      blk_simp [e2]
      try omega
  rw [after0_3]
  blk_simp
  rw [out_at (q := (rd2 (n := 16384) (k := 2048) (m ((c : Thread nD τ).loc main_arg0)))) (k1 := (rd3 (n := 8) (k := 128) (l := 128) (V m c main_v0))) (k2 := (rd3 (n := 8) (k := 128) (l := 128) (V m c main_v1))) (h := t.val % 8) (r := t.val / 8 * 1024) _ _ _ b0 b1 b2, e3]
  have hy : (y 0).val = 0 := Nat.lt_one_iff.mp (y 0).isLt
  refine congr (congr (congr (congrArg (score _ _ _) ?_) ?_) ?_) ?_ <;> simp

theorem w_0 : V m c main_v0 = (m ((c : Thread nD τ).loc main_arg1)) := by
  change StableHlo.after hostOps0 (fun b => m (c, b)) _ = _
  simp only [hostOps0]
  after_results
  rfl

theorem w_1 : V m c main_v1 = (m ((c : Thread nD τ).loc main_arg2)) := by
  change StableHlo.after hostOps0 (fun b => m (c, b)) _ = _
  simp only [hostOps0]
  after_results
  rfl

/-- The scores, of the arguments. -/
def result : S8x2x128x16384.Idx → EReal := fun i => score (rd2 (n := 16384) (k := 2048) (m ((c : Thread nD τ).loc main_arg0))) (rd3 (n := 8) (k := 128) (l := 128) (m ((c : Thread nD τ).loc main_arg1))) (rd3 (n := 8) (k := 128) (l := 128) (m ((c : Thread nD τ).loc main_arg2))) (i 0).val (i 1).val (i 2).val (i 3).val

/-- The run: the result and the arguments. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans ((fin0 m c).trans (by rw [w_0, w_1]; rfl)), (h c).2⟩) (Value.run_blocks m ρ)

end Cert.Kernel7Ideal.Blk

end
-- ==== Proof.RefScores.lean ====
/- The channel mixer's scores: the reference's result. -/
module

public import proofs.«01_k».proof.Proof.Gen.Reference7Ideal.Run
public import proofs.«01_k».proof.Proof.Keys
public import Idealize.ShloMosaic.Lib.Pointwise

@[expose] public section

set_option maxRecDepth 16384

noncomputable section

namespace Cert.Reference7Ideal.Keys

open Cert.Reference7Ideal Cert.Reference7Ideal.Gen Idealize.ShloMosaic Idealize.ShloMosaic.TcCoe Idealize.SL.Sem Cert.Ssd

/-- Each score is the sum of its products. -/
theorem scores (q : FVec Ideal S16384x2048 .bf16) (k1 k2 : FVec Ideal S8x128x128 .f32) :
    concatenate S8x2x128x16384 1 [⟨S8x1x128x16384, (broadcastInDim S8x1x128x16384 ![0, 2, 3] bcast_S8x128x16384_S8x1x128x16384_0_2_3 (transpose S8x128x16384 [1, 2, 0] (transpose S16384x8x128 [2, 0, 1] (Host.dotGeneral dot_S8x128x128_S16384x8x128_S8x128x16384_2_2_1_0_0_1 none k1 (shapeCast S16384x8x128 (extractStridedSlice S16384x8x1x128 ![0, 0, 0, 0] (shapeCast S16384x8x2x128 (extf .f32 q bitsLt_bf16_f32) shapeCasts_S16384x2048_S16384x8x2x128) slices_S16384x8x2x128_S16384x8x1x128_0_0_0_0) shapeCasts_S16384x8x1x128_S16384x8x128)) transposes_S8x128x16384_S16384x8x128_2_0_1) transposes_S16384x8x128_S8x128x16384_1_2_0))⟩, ⟨S8x1x128x16384, (broadcastInDim S8x1x128x16384 ![0, 2, 3] bcast_S8x128x16384_S8x1x128x16384_0_2_3 (transpose S8x128x16384 [1, 2, 0] (transpose S16384x8x128 [2, 0, 1] (Host.dotGeneral dot_S8x128x128_S16384x8x128_S8x128x16384_2_2_1_0_0_1 none k2 (shapeCast S16384x8x128 (extractStridedSlice S16384x8x1x128 ![0, 0, 1, 0] (shapeCast S16384x8x2x128 (extf .f32 q bitsLt_bf16_f32) shapeCasts_S16384x2048_S16384x8x2x128) slices_S16384x8x2x128_S16384x8x1x128_0_0_1_0) shapeCasts_S16384x8x1x128_S16384x8x128)) transposes_S8x128x16384_S16384x8x128_2_0_1) transposes_S16384x8x128_S8x128x16384_1_2_0))⟩] concatenates_S8x1x128x16384_S8x1x128x16384_S8x2x128x16384_d1
      = fun i => score (rd2 (n := 16384) (k := 2048) q) (rd3 (n := 8) (k := 128) (l := 128) k1) (rd3 (n := 8) (k := 128) (l := 128) k2) (i 0).val (i 1).val (i 2).val (i 3).val := by
  funext i
  obtain ⟨h, s, n, t, rfl⟩ : ∃ (h : Fin 8) (s : Fin 2) (n : Fin 128) (t : Fin 16384), i = ix4 h s n t := ⟨i 0, i 1, i 2, i 3, eq_ix4 i⟩
  pointwise
  unfold score
  have hd : ∀ (k : FVec Ideal S8x128x128 .f32) (d : Fin 128), k (ix3 h n d) = rd3 (n := 8) (k := 128) (l := 128) k h.val n.val d.val :=
    fun k d => rd3_of k _ _ _ _ rfl rfl rfl
  split
  all_goals
    rename_i hs
    refine Finset.sum_congr rfl fun d _ => ?_
  · rw [if_pos (by omega)]
    exact congr (congrArg _ (hd k1 d)) (two_of (rd2_ix q) _ _ _ rfl (by simp; omega))
  · rw [if_neg (by omega)]
    exact congr (congrArg _ (hd k2 d)) (two_of (rd2_ix q) _ _ _ rfl (by simp; omega))

end Cert.Reference7Ideal.Keys

end
-- ==== Proof.Claim7.lean ====
/- The channel mixer's scores: the kernel's result is the reference's. -/
module

public import proofs.«01_k».proof.Defs
public import proofs.«01_k».proof.Proof.Scores
public import proofs.«01_k».proof.Proof.RefScores
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.Ssd Cert.Kernel7Ideal.Blk Cert.Reference7Ideal

theorem algebraic7 : Cert.algebraic_Kernel7Ideal_Reference7Ideal := by
  intro m g m' g' hpre hagree
  refine ⟨fun c => result m c, run m g, ?_⟩
  refine (θ_run Cert.Reference7Ideal.defs _ _).mono (fun r h c => ⟨(h c).1.trans ?_, (h c).2⟩) (Value.run (F := Ideal) m' g')
  obtain ⟨h0, h1, h2⟩ := hagree c
  rw [h0, h1, h2]
  exact Keys.scores _ _ _

/-- The reference's frame: its run leaves the arguments; it declares no semaphore. -/
theorem frame_reference7 : Cert.quiescent_Reference7Ideal := fun m ρ _ =>
  (θ_run Cert.Reference7Ideal.defs _ _).mono (fun r h => And.intro (fun c => (h c).2) (Idealize.ShloMosaic.sem_eq_zero_of_no_sems (by decide) r.2))
    (Value.run (F := Ideal) m ρ)

end Cert.Proof

end
-- ==== Proof.lean ====
module

public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Bounds
public import proofs.«01_k».proof.Proof.KernelValue
public import proofs.«01_k».proof.Proof.RefLoop
public import proofs.«01_k».proof.Proof.Claim2
public import proofs.«01_k».proof.Proof.Claim3
public import proofs.«01_k».proof.Proof.Claim4
public import proofs.«01_k».proof.Proof.Claim5
public import proofs.«01_k».proof.Proof.Claim6
public import proofs.«01_k».proof.Proof.Claim7
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.Ssd

/-- Every index of the result is a row and a channel. -/
theorem index (i : (⟨2, ![16384, 8192]⟩ : Shape).Idx) : ∃ (r : Fin 16384) (q : Fin 8192), i = ix2 r q := ⟨i 0, i 1, (ix2_eta i).symm⟩

/-- The scan's output is the reference's. -/
theorem algebraic : Cert.algebraic_KernelIdeal_ReferenceIdeal_pre_no_infinite_step (hPre_no_infinite_step := Bounds.facts) := by
  intro m g m' g' hpre hagree
  refine ⟨fun c => Cert.KernelIdeal.Blk.result (Cert.KernelIdeal.Blk.arrs m c), ?_, ?_⟩
  · exact Cert.KernelIdeal.Blk.run m g (Bounds.fine m hpre)
  · refine (θ_run Cert.ReferenceIdeal.defs _ _).mono (fun r h c => ⟨(h c).1.trans ?_, (h c).2⟩) (Cert.ReferenceIdeal.Trips.run m' g')
    obtain ⟨h0, h1, h2, h3, h4, h5, h6, h7, h8⟩ := hagree c
    funext i
    obtain ⟨r, q, rfl⟩ := index i
    refine (Cert.ReferenceIdeal.Trips.result_at (A := Cert.KernelIdeal.Blk.arrs m c) m' c ?_ ?_ ?_ r q).trans rfl
    · refine ⟨fun r q => ?_, fun r q => ?_, fun r q => ?_, fun q => ?_, fun q => ?_, fun q => ?_, fun q => ?_⟩
      · rw [h1]; exact rd2_ix _ r q
      · rw [h2]; exact rd2_ix _ r q
      · rw [h3]; exact rd2_ix _ r q
      · rw [h4]; exact rd1_ix _ q
      · rw [h5]; exact rd1_ix _ q
      · rw [h6]; exact rd1_ix _ q
      · rw [h7]; exact rd1_ix _ q
    · intro r q
      rw [h0]
      exact rd2_ix _ r q
    · intro q
      rw [h8]
      exact rd1_ix _ q

/-- The reference's frame: its run leaves the arguments; it declares no semaphore. -/
theorem frame_reference : Cert.quiescent_ReferenceIdeal := fun m ρ _ =>
  (θ_run Cert.ReferenceIdeal.defs _ _).mono (fun r h => And.intro (fun c => (h c).2) (Idealize.ShloMosaic.sem_eq_zero_of_no_sems (by decide) r.2))
    (Cert.ReferenceIdeal.Trips.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Bounds.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    trivial, algebraic, trivial, algebraic2, trivial, algebraic3, trivial, algebraic4, trivial, algebraic5, trivial, algebraic6, trivial, algebraic7⟩

end Cert.Proof

end
